-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_q_rank" .f32 0x3A2AAAAB#32 ((1 / 1536 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S5x3072x6144 : Shape := ⟨3, ![5, 3072, 6144]⟩
abbrev S2112x6144 : Shape := ⟨2, ![2112, 6144]⟩
abbrev S2112x192 : Shape := ⟨2, ![2112, 192]⟩
abbrev S1536 : Shape := ⟨1, ![1536]⟩
abbrev S512 : Shape := ⟨1, ![512]⟩
abbrev S_ : Shape := ⟨0, ![]⟩

class Facts : Prop where
  bcast_S_S5x3072x6144 : S_.BroadcastsInDim S5x3072x6144 (![] : Fin 0 → Fin S5x3072x6144.rank)
  reducesTo_S5x3072x6144_S_d0_1_2 : S5x3072x6144.ReducesTo [0, 1, 2] S_
  h_S_ : 0 < S_.numel

variable [Facts]

def fn {F : FTy → Type} [FloatOps F] (main_arg0 : FVec F S5x3072x6144 .bf16) (main_arg1 : FVec F S2112x6144 .fp8e4m3) (main_arg2 : IVec S2112x192 8) (main_arg3 : FVec F S1536 .f32) (main_arg4 : FVec F S512 .f32) : IVec S_ 1 :=
  let main_v0 : FVec F S5x3072x6144 .bf16 := Host.absf main_arg0
  let main_cst : FVec F S_ .bf16 := constant S_ .bf16 0x7F7F#16
  let main_v1 : FVec F S5x3072x6144 .bf16 := broadcastInDim S5x3072x6144 ![] bcast_S_S5x3072x6144 main_cst
  let main_v2 : IVec S5x3072x6144 1 := cmpf .ole main_v0 main_v1
  let main_c : IVec S_ 1 := constantI S_ 1 1#1
  let main_v3 : IVec S_ 1 := (fun x v => Host.reduce IntOp.andi x v reducesTo_S5x3072x6144_S_d0_1_2 h_S_) main_v2 main_c
  main_v3
-- ==== Kernel.lean ====
abbrev S5x3072x6144 : Shape := ⟨3, ![5, 3072, 6144]⟩
abbrev S2112x6144 : Shape := ⟨2, ![2112, 6144]⟩
abbrev S2112x192 : Shape := ⟨2, ![2112, 192]⟩
abbrev S1536 : Shape := ⟨1, ![1536]⟩
abbrev S512 : Shape := ⟨1, ![512]⟩
abbrev S15360x6144 : Shape := ⟨2, ![15360, 6144]⟩
abbrev S1x1536 : Shape := ⟨2, ![1, 1536]⟩
abbrev S1x512 : Shape := ⟨2, ![1, 512]⟩
abbrev S15360x1536 : Shape := ⟨2, ![15360, 1536]⟩
abbrev S15360x512 : Shape := ⟨2, ![15360, 512]⟩
abbrev S15360x64 : Shape := ⟨2, ![15360, 64]⟩
abbrev S15360x192 : Shape := ⟨2, ![15360, 192]⟩
abbrev S256x6144 : Shape := ⟨2, ![256, 6144]⟩
abbrev S256x1536 : Shape := ⟨2, ![256, 1536]⟩
abbrev S256x512 : Shape := ⟨2, ![256, 512]⟩
abbrev S256x64 : Shape := ⟨2, ![256, 64]⟩
abbrev S256x192 : Shape := ⟨2, ![256, 192]⟩
abbrev S2x256x6144 : Shape := ⟨3, ![2, 256, 6144]⟩
abbrev S2x192x6144 : Shape := ⟨3, ![2, 192, 6144]⟩
abbrev S2 : Shape := ⟨1, ![2]⟩
abbrev S1 : Shape := ⟨1, ![1]⟩
abbrev S_ : Shape := ⟨0, ![]⟩
abbrev S1x192x6144 : Shape := ⟨3, ![1, 192, 6144]⟩
abbrev S192x6144 : Shape := ⟨2, ![192, 6144]⟩
abbrev S32x128 : Shape := ⟨2, ![32, 128]⟩
abbrev S32x128x1 : Shape := ⟨3, ![32, 128, 1]⟩
abbrev S32x64 : Shape := ⟨2, ![32, 64]⟩
abbrev S1x256x6144 : Shape := ⟨3, ![1, 256, 6144]⟩
abbrev S1x32x128 : Shape := ⟨3, ![1, 32, 128]⟩
abbrev S1536x6144 : Shape := ⟨2, ![1536, 6144]⟩
abbrev S256 : Shape := ⟨1, ![256]⟩
abbrev S256x1 : Shape := ⟨2, ![256, 1]⟩
abbrev S512x6144 : Shape := ⟨2, ![512, 6144]⟩
abbrev S64x6144 : Shape := ⟨2, ![64, 6144]⟩
abbrev S64x256 : Shape := ⟨2, ![64, 256]⟩

abbrev nBuf : Space → Nat
  | .hbm => 13
  | .vmem => 18
  | .smem => 0
  | _ => 0

abbrev bufTy : (tb : Table) → Fin (tcTables nBuf tb) → BufTy
  | .hbm, ⟨0, _⟩ => ⟨S5x3072x6144, .bf16⟩
  | .hbm, ⟨1, _⟩ => ⟨S2112x6144, .fp8e4m3⟩
  | .hbm, ⟨2, _⟩ => ⟨S2112x192, .i8⟩
  | .hbm, ⟨3, _⟩ => ⟨S1536, .f32⟩
  | .hbm, ⟨4, _⟩ => ⟨S512, .f32⟩
  | .hbm, ⟨5, _⟩ => ⟨S15360x6144, .bf16⟩
  | .hbm, ⟨6, _⟩ => ⟨S1x1536, .f32⟩
  | .hbm, ⟨7, _⟩ => ⟨S1x512, .f32⟩
  | .hbm, ⟨8, _⟩ => ⟨S15360x1536, .bf16⟩
  | .hbm, ⟨9, _⟩ => ⟨S15360x512, .bf16⟩
  | .hbm, ⟨10, _⟩ => ⟨S15360x64, .bf16⟩
  | .hbm, ⟨11, _⟩ => ⟨S15360x6144, .fp8e4m3⟩
  | .hbm, ⟨12, _⟩ => ⟨S15360x192, .i8⟩
  | .local _ .vmem, ⟨0, _⟩ => ⟨S256x6144, .bf16⟩
  | .local _ .vmem, ⟨1, _⟩ => ⟨S256x6144, .bf16⟩
  | .local _ .vmem, ⟨2, _⟩ => ⟨S2112x192, .i8⟩
  | .local _ .vmem, ⟨3, _⟩ => ⟨S1x1536, .f32⟩
  | .local _ .vmem, ⟨4, _⟩ => ⟨S1x512, .f32⟩
  | .local _ .vmem, ⟨5, _⟩ => ⟨S256x1536, .bf16⟩
  | .local _ .vmem, ⟨6, _⟩ => ⟨S256x1536, .bf16⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x6144, .fp8e4m3⟩
  | .local _ .vmem, ⟨12, _⟩ => ⟨S256x6144, .fp8e4m3⟩
  | .local _ .vmem, ⟨13, _⟩ => ⟨S256x192, .i8⟩
  | .local _ .vmem, ⟨14, _⟩ => ⟨S256x192, .i8⟩
  | .local _ .vmem, ⟨15, _⟩ => ⟨S2x256x6144, .bf16⟩
  | .local _ .vmem, ⟨16, _⟩ => ⟨S2112x6144, .bf16⟩
  | .local _ .vmem, ⟨17, _⟩ => ⟨S2x192x6144, .fp8e4m3⟩
  | _, _ => ⟨S5x3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![61], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8424 : BitVec 32 := 0#32
  let c11_i32_8425 : BitVec 32 := 11#32
  let v23534 : BitVec 32 := Scalar.addi c0_i32_8424 c11_i32_8425
  let c1_i32_8426 : BitVec 32 := 1#32
  ⟨c0_i32_8424, v23534, c1_i32_8426⟩
def k0_cond2 (k0_t1 : Fin k0_t1_loop.trips) : BitVec 1 :=
  let c0_i32_8424 : BitVec 32 := 0#32
  let c1_i32_8426 : BitVec 32 := 1#32
  let arg15 : BitVec 32 := Scf.iv c0_i32_8424 c1_i32_8426 k0_t1
  let c1_i32_8432 : BitVec 32 := 1#32
  let v23540 : BitVec 32 := Scalar.addi arg15 c1_i32_8432
  let c11_i32_8433 : BitVec 32 := 11#32
  let v23541 : BitVec 1 := Scalar.cmpi .slt v23540 c11_i32_8433
  let v23542 : BitVec 32 := Scalar.extui v23541
  let c0_i32_8434 : BitVec 32 := 0#32
  let v23543 : BitVec 1 := Scalar.cmpi .ne v23542 c0_i32_8434
  v23543

def k0_off1 (k0_t1 : Fin k0_t1_loop.trips) : Fin 1 → Nat :=
  let c1_i32_8443 : BitVec 32 := 1#32
  let c0_i32_8424 : BitVec 32 := 0#32
  let c1_i32_8426 : BitVec 32 := 1#32
  let arg15 : BitVec 32 := Scf.iv c0_i32_8424 c1_i32_8426 k0_t1
  let c1_i32_8431 : BitVec 32 := 1#32
  let v23539 : BitVec 32 := Scalar.andi arg15 c1_i32_8431
  let v23552 : BitVec 32 := Scalar.subi c1_i32_8443 v23539
  ![v23552.toNat]
def k0_off2 (k0_t1 : Fin k0_t1_loop.trips) : Fin 3 → Nat :=
  let c1_i32_8443 : BitVec 32 := 1#32
  let c0_i32_8424 : BitVec 32 := 0#32
  let c1_i32_8426 : BitVec 32 := 1#32
  let arg15 : BitVec 32 := Scf.iv c0_i32_8424 c1_i32_8426 k0_t1
  let c1_i32_8431 : BitVec 32 := 1#32
  let v23539 : BitVec 32 := Scalar.andi arg15 c1_i32_8431
  let v23552 : BitVec 32 := Scalar.subi c1_i32_8443 v23539
  let c0_i32_8445 : BitVec 32 := 0#32
  let c0_i32_8446 : BitVec 32 := 0#32
  ![v23552.toNat, 0, 0]
def k0_off3 (k0_t1 : Fin k0_t1_loop.trips) : Fin 2 → Nat :=
  let c0_i32_8424 : BitVec 32 := 0#32
  let c1_i32_8426 : BitVec 32 := 1#32
  let arg15 : BitVec 32 := Scf.iv c0_i32_8424 c1_i32_8426 k0_t1
  let c1_i32_8442 : BitVec 32 := 1#32
  let v23551 : BitVec 32 := Scalar.addi arg15 c1_i32_8442
  let c192_i32_8444 : BitVec 32 := 192#32
  let v23553 : BitVec 32 := Scalar.muli v23551 c192_i32_8444
  let c0_i32_8447 : BitVec 32 := 0#32
  ![v23553.toNat, 0]
def k0_off4 (k0_t1 : Fin k0_t1_loop.trips) : Fin 1 → Nat :=
  let c0_i32_8424 : BitVec 32 := 0#32
  let c1_i32_8426 : BitVec 32 := 1#32
  let arg15 : BitVec 32 := Scf.iv c0_i32_8424 c1_i32_8426 k0_t1
  let c1_i32_8431 : BitVec 32 := 1#32
  let v23539 : BitVec 32 := Scalar.andi arg15 c1_i32_8431
  ![v23539.toNat]
def k0_off5 (k0_t1 : Fin k0_t1_loop.trips) : Fin 3 → Nat :=
  let c0_i32_8424 : BitVec 32 := 0#32
  let c1_i32_8426 : BitVec 32 := 1#32
  let arg15 : BitVec 32 := Scf.iv c0_i32_8424 c1_i32_8426 k0_t1
  let c1_i32_8431 : BitVec 32 := 1#32
  let v23539 : BitVec 32 := Scalar.andi arg15 c1_i32_8431
  let c0_i32_8435 : BitVec 32 := 0#32
  let c0_i32_8436 : BitVec 32 := 0#32
  ![v23539.toNat, 0, 0]
def k0_off6 (k0_t1 : Fin k0_t1_loop.trips) : Fin 2 → Nat :=
  let c0_i32_8424 : BitVec 32 := 0#32
  let c1_i32_8426 : BitVec 32 := 1#32
  let arg15 : BitVec 32 := Scf.iv c0_i32_8424 c1_i32_8426 k0_t1
  let c192_i32 : BitVec 32 := 192#32
  let v23544 : BitVec 32 := Scalar.muli arg15 c192_i32
  let c0_i32_8437 : BitVec 32 := 0#32
  ![v23544.toNat, 0]
@[reducible] def k0_t2_loop : Scf.Loop 32 :=
  let c0_i32_8438 : BitVec 32 := 0#32
  let c6_i32_8439 : BitVec 32 := 6#32
  let v23550 : BitVec 32 := Scalar.addi c0_i32_8438 c6_i32_8439
  let c1_i32_8440 : BitVec 32 := 1#32
  ⟨c0_i32_8438, v23550, c1_i32_8440⟩
def k0_mult1 (k0_t2 : Fin k0_t2_loop.trips) : BitVec 32 :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  v23551
def k0_mult2 (k0_t1 : Fin k0_t1_loop.trips) (k0_t2 : Fin k0_t2_loop.trips) : BitVec 32 :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  v23555
def k0_off7 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23558 : Index := Scalar.indexCast v23556
  let c0_8445 : Index := 0#32
  ![v23558.toNat, 0]
def k0_off8 (k0_t1 : Fin k0_t1_loop.trips) : Fin 3 → Nat :=
  let c0_i32_8424 : BitVec 32 := 0#32
  let c1_i32_8426 : BitVec 32 := 1#32
  let arg15 : BitVec 32 := Scf.iv c0_i32_8424 c1_i32_8426 k0_t1
  let c1_i32_8431 : BitVec 32 := 1#32
  let v23539 : BitVec 32 := Scalar.andi arg15 c1_i32_8431
  let c0_i32_8450 : BitVec 32 := 0#32
  let c0_i32_8451 : BitVec 32 := 0#32
  ![v23539.toNat, 0, 0]
def k0_off9 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23575 : Index := Scalar.indexCast v23552
  let c0_8452 : Index := 0#32
  ![v23575.toNat, 0]
def k0_off10 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23583 : Index := Scalar.indexCast v23556
  let c0_8454 : Index := 0#32
  ![v23583.toNat, 0]
def k0_off11 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23601 : Index := Scalar.indexCast v23552
  let c128_8461 : Index := 128#32
  ![v23601.toNat, 128]
def k0_off12 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23609 : Index := Scalar.indexCast v23556
  let c128_8463 : Index := 128#32
  ![v23609.toNat, 128]
def k0_off13 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23627 : Index := Scalar.indexCast v23552
  let c256_8470 : Index := 256#32
  ![v23627.toNat, 256]
def k0_off14 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23635 : Index := Scalar.indexCast v23556
  let c256_8472 : Index := 256#32
  ![v23635.toNat, 256]
def k0_off15 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23653 : Index := Scalar.indexCast v23552
  let c384_8479 : Index := 384#32
  ![v23653.toNat, 384]
def k0_off16 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23661 : Index := Scalar.indexCast v23556
  let c384_8481 : Index := 384#32
  ![v23661.toNat, 384]
def k0_off17 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23679 : Index := Scalar.indexCast v23552
  let c512_8488 : Index := 512#32
  ![v23679.toNat, 512]
def k0_off18 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23687 : Index := Scalar.indexCast v23556
  let c512_8490 : Index := 512#32
  ![v23687.toNat, 512]
def k0_off19 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23705 : Index := Scalar.indexCast v23552
  let c640_8497 : Index := 640#32
  ![v23705.toNat, 640]
def k0_off20 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23713 : Index := Scalar.indexCast v23556
  let c640_8499 : Index := 640#32
  ![v23713.toNat, 640]
def k0_off21 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23731 : Index := Scalar.indexCast v23552
  let c768_8506 : Index := 768#32
  ![v23731.toNat, 768]
def k0_off22 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23739 : Index := Scalar.indexCast v23556
  let c768_8508 : Index := 768#32
  ![v23739.toNat, 768]
def k0_off23 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23757 : Index := Scalar.indexCast v23552
  let c896_8515 : Index := 896#32
  ![v23757.toNat, 896]
def k0_off24 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23765 : Index := Scalar.indexCast v23556
  let c896_8517 : Index := 896#32
  ![v23765.toNat, 896]
def k0_off25 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23783 : Index := Scalar.indexCast v23552
  let c1024_8524 : Index := 1024#32
  ![v23783.toNat, 1024]
def k0_off26 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23791 : Index := Scalar.indexCast v23556
  let c1024_8526 : Index := 1024#32
  ![v23791.toNat, 1024]
def k0_off27 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23809 : Index := Scalar.indexCast v23552
  let c1152_8532 : Index := 1152#32
  ![v23809.toNat, 1152]
def k0_off28 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23817 : Index := Scalar.indexCast v23556
  let c1152_8534 : Index := 1152#32
  ![v23817.toNat, 1152]
def k0_off29 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23835 : Index := Scalar.indexCast v23552
  let c1280_8540 : Index := 1280#32
  ![v23835.toNat, 1280]
def k0_off30 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23843 : Index := Scalar.indexCast v23556
  let c1280_8542 : Index := 1280#32
  ![v23843.toNat, 1280]
def k0_off31 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23861 : Index := Scalar.indexCast v23552
  let c1408_8548 : Index := 1408#32
  ![v23861.toNat, 1408]
def k0_off32 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23869 : Index := Scalar.indexCast v23556
  let c1408_8550 : Index := 1408#32
  ![v23869.toNat, 1408]
def k0_off33 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23887 : Index := Scalar.indexCast v23552
  let c1536_8556 : Index := 1536#32
  ![v23887.toNat, 1536]
def k0_off34 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23895 : Index := Scalar.indexCast v23556
  let c1536_8558 : Index := 1536#32
  ![v23895.toNat, 1536]
def k0_off35 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23913 : Index := Scalar.indexCast v23552
  let c1664_8564 : Index := 1664#32
  ![v23913.toNat, 1664]
def k0_off36 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23921 : Index := Scalar.indexCast v23556
  let c1664_8566 : Index := 1664#32
  ![v23921.toNat, 1664]
def k0_off37 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23939 : Index := Scalar.indexCast v23552
  let c1792_8572 : Index := 1792#32
  ![v23939.toNat, 1792]
def k0_off38 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23947 : Index := Scalar.indexCast v23556
  let c1792_8574 : Index := 1792#32
  ![v23947.toNat, 1792]
def k0_off39 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23965 : Index := Scalar.indexCast v23552
  let c1920_8580 : Index := 1920#32
  ![v23965.toNat, 1920]
def k0_off40 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23973 : Index := Scalar.indexCast v23556
  let c1920_8582 : Index := 1920#32
  ![v23973.toNat, 1920]
def k0_off41 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v23991 : Index := Scalar.indexCast v23552
  let c2048_8589 : Index := 2048#32
  ![v23991.toNat, 2048]
def k0_off42 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v23999 : Index := Scalar.indexCast v23556
  let c2048_8591 : Index := 2048#32
  ![v23999.toNat, 2048]
def k0_off43 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24017 : Index := Scalar.indexCast v23552
  let c2176_8597 : Index := 2176#32
  ![v24017.toNat, 2176]
def k0_off44 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24025 : Index := Scalar.indexCast v23556
  let c2176_8599 : Index := 2176#32
  ![v24025.toNat, 2176]
def k0_off45 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24043 : Index := Scalar.indexCast v23552
  let c2304_8605 : Index := 2304#32
  ![v24043.toNat, 2304]
def k0_off46 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24051 : Index := Scalar.indexCast v23556
  let c2304_8607 : Index := 2304#32
  ![v24051.toNat, 2304]
def k0_off47 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24069 : Index := Scalar.indexCast v23552
  let c2432_8613 : Index := 2432#32
  ![v24069.toNat, 2432]
def k0_off48 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24077 : Index := Scalar.indexCast v23556
  let c2432_8615 : Index := 2432#32
  ![v24077.toNat, 2432]
def k0_off49 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24095 : Index := Scalar.indexCast v23552
  let c2560_8621 : Index := 2560#32
  ![v24095.toNat, 2560]
def k0_off50 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24103 : Index := Scalar.indexCast v23556
  let c2560_8623 : Index := 2560#32
  ![v24103.toNat, 2560]
def k0_off51 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24121 : Index := Scalar.indexCast v23552
  let c2688_8629 : Index := 2688#32
  ![v24121.toNat, 2688]
def k0_off52 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24129 : Index := Scalar.indexCast v23556
  let c2688_8631 : Index := 2688#32
  ![v24129.toNat, 2688]
def k0_off53 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24147 : Index := Scalar.indexCast v23552
  let c2816_8637 : Index := 2816#32
  ![v24147.toNat, 2816]
def k0_off54 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24155 : Index := Scalar.indexCast v23556
  let c2816_8639 : Index := 2816#32
  ![v24155.toNat, 2816]
def k0_off55 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24173 : Index := Scalar.indexCast v23552
  let c2944_8645 : Index := 2944#32
  ![v24173.toNat, 2944]
def k0_off56 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24181 : Index := Scalar.indexCast v23556
  let c2944_8647 : Index := 2944#32
  ![v24181.toNat, 2944]
def k0_off57 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24199 : Index := Scalar.indexCast v23552
  let c3072_8653 : Index := 3072#32
  ![v24199.toNat, 3072]
def k0_off58 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24207 : Index := Scalar.indexCast v23556
  let c3072_8655 : Index := 3072#32
  ![v24207.toNat, 3072]
def k0_off59 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24225 : Index := Scalar.indexCast v23552
  let c3200_8661 : Index := 3200#32
  ![v24225.toNat, 3200]
def k0_off60 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24233 : Index := Scalar.indexCast v23556
  let c3200_8663 : Index := 3200#32
  ![v24233.toNat, 3200]
def k0_off61 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24251 : Index := Scalar.indexCast v23552
  let c3328_8669 : Index := 3328#32
  ![v24251.toNat, 3328]
def k0_off62 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24259 : Index := Scalar.indexCast v23556
  let c3328_8671 : Index := 3328#32
  ![v24259.toNat, 3328]
def k0_off63 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24277 : Index := Scalar.indexCast v23552
  let c3456_8677 : Index := 3456#32
  ![v24277.toNat, 3456]
def k0_off64 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24285 : Index := Scalar.indexCast v23556
  let c3456_8679 : Index := 3456#32
  ![v24285.toNat, 3456]
def k0_off65 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24303 : Index := Scalar.indexCast v23552
  let c3584_8685 : Index := 3584#32
  ![v24303.toNat, 3584]
def k0_off66 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24311 : Index := Scalar.indexCast v23556
  let c3584_8687 : Index := 3584#32
  ![v24311.toNat, 3584]
def k0_off67 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24329 : Index := Scalar.indexCast v23552
  let c3712_8693 : Index := 3712#32
  ![v24329.toNat, 3712]
def k0_off68 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24337 : Index := Scalar.indexCast v23556
  let c3712_8695 : Index := 3712#32
  ![v24337.toNat, 3712]
def k0_off69 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24355 : Index := Scalar.indexCast v23552
  let c3840_8701 : Index := 3840#32
  ![v24355.toNat, 3840]
def k0_off70 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24363 : Index := Scalar.indexCast v23556
  let c3840_8703 : Index := 3840#32
  ![v24363.toNat, 3840]
def k0_off71 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24381 : Index := Scalar.indexCast v23552
  let c3968_8709 : Index := 3968#32
  ![v24381.toNat, 3968]
def k0_off72 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24389 : Index := Scalar.indexCast v23556
  let c3968_8711 : Index := 3968#32
  ![v24389.toNat, 3968]
def k0_off73 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24393 : Index := Scalar.indexCast v23556
  let c128_8712 : Index := 128#32
  ![v24393.toNat, 128]
def k0_off74 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24411 : Index := Scalar.indexCast v23552
  let c4096_8719 : Index := 4096#32
  ![v24411.toNat, 4096]
def k0_off75 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24419 : Index := Scalar.indexCast v23556
  let c4096_8721 : Index := 4096#32
  ![v24419.toNat, 4096]
def k0_off76 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24437 : Index := Scalar.indexCast v23552
  let c4224_8728 : Index := 4224#32
  ![v24437.toNat, 4224]
def k0_off77 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24445 : Index := Scalar.indexCast v23556
  let c4224_8730 : Index := 4224#32
  ![v24445.toNat, 4224]
def k0_off78 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24463 : Index := Scalar.indexCast v23552
  let c4352_8737 : Index := 4352#32
  ![v24463.toNat, 4352]
def k0_off79 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24471 : Index := Scalar.indexCast v23556
  let c4352_8739 : Index := 4352#32
  ![v24471.toNat, 4352]
def k0_off80 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24489 : Index := Scalar.indexCast v23552
  let c4480_8746 : Index := 4480#32
  ![v24489.toNat, 4480]
def k0_off81 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24497 : Index := Scalar.indexCast v23556
  let c4480_8748 : Index := 4480#32
  ![v24497.toNat, 4480]
def k0_off82 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24515 : Index := Scalar.indexCast v23552
  let c4608_8755 : Index := 4608#32
  ![v24515.toNat, 4608]
def k0_off83 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24523 : Index := Scalar.indexCast v23556
  let c4608_8757 : Index := 4608#32
  ![v24523.toNat, 4608]
def k0_off84 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24541 : Index := Scalar.indexCast v23552
  let c4736_8764 : Index := 4736#32
  ![v24541.toNat, 4736]
def k0_off85 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24549 : Index := Scalar.indexCast v23556
  let c4736_8766 : Index := 4736#32
  ![v24549.toNat, 4736]
def k0_off86 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24567 : Index := Scalar.indexCast v23552
  let c4864_8773 : Index := 4864#32
  ![v24567.toNat, 4864]
def k0_off87 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24575 : Index := Scalar.indexCast v23556
  let c4864_8775 : Index := 4864#32
  ![v24575.toNat, 4864]
def k0_off88 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24593 : Index := Scalar.indexCast v23552
  let c4992_8782 : Index := 4992#32
  ![v24593.toNat, 4992]
def k0_off89 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24601 : Index := Scalar.indexCast v23556
  let c4992_8784 : Index := 4992#32
  ![v24601.toNat, 4992]
def k0_off90 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24619 : Index := Scalar.indexCast v23552
  let c5120_8791 : Index := 5120#32
  ![v24619.toNat, 5120]
def k0_off91 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24627 : Index := Scalar.indexCast v23556
  let c5120_8793 : Index := 5120#32
  ![v24627.toNat, 5120]
def k0_off92 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24645 : Index := Scalar.indexCast v23552
  let c5248_8800 : Index := 5248#32
  ![v24645.toNat, 5248]
def k0_off93 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24653 : Index := Scalar.indexCast v23556
  let c5248_8802 : Index := 5248#32
  ![v24653.toNat, 5248]
def k0_off94 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24671 : Index := Scalar.indexCast v23552
  let c5376_8809 : Index := 5376#32
  ![v24671.toNat, 5376]
def k0_off95 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24679 : Index := Scalar.indexCast v23556
  let c5376_8811 : Index := 5376#32
  ![v24679.toNat, 5376]
def k0_off96 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24697 : Index := Scalar.indexCast v23552
  let c5504_8818 : Index := 5504#32
  ![v24697.toNat, 5504]
def k0_off97 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24705 : Index := Scalar.indexCast v23556
  let c5504_8820 : Index := 5504#32
  ![v24705.toNat, 5504]
def k0_off98 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24723 : Index := Scalar.indexCast v23552
  let c5632_8827 : Index := 5632#32
  ![v24723.toNat, 5632]
def k0_off99 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24731 : Index := Scalar.indexCast v23556
  let c5632_8829 : Index := 5632#32
  ![v24731.toNat, 5632]
def k0_off100 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24749 : Index := Scalar.indexCast v23552
  let c5760_8836 : Index := 5760#32
  ![v24749.toNat, 5760]
def k0_off101 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24757 : Index := Scalar.indexCast v23556
  let c5760_8838 : Index := 5760#32
  ![v24757.toNat, 5760]
def k0_off102 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24775 : Index := Scalar.indexCast v23552
  let c5888_8845 : Index := 5888#32
  ![v24775.toNat, 5888]
def k0_off103 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24783 : Index := Scalar.indexCast v23556
  let c5888_8847 : Index := 5888#32
  ![v24783.toNat, 5888]
def k0_off104 (k0_t2 : Fin k0_t2_loop.trips) : Fin 2 → Nat :=
  let c0_i32_8438 : BitVec 32 := 0#32
  let c1_i32_8440 : BitVec 32 := 1#32
  let arg16 : BitVec 32 := Scf.iv c0_i32_8438 c1_i32_8440 k0_t2
  let c32_i32_8442 : BitVec 32 := 32#32
  let v23551 : BitVec 32 := Scalar.muli arg16 c32_i32_8442
  let v23552 : BitVec 32 := v23551
  let v24801 : Index := Scalar.indexCast v23552
  let c6016_8854 : Index := 6016#32
  ![v24801.toNat, 6016]
def k0_off105 (k0_t1 : Fin k0_t1_loop.trips) (k0_t2 : Fin k0_t2_loop.trips) : Fin 2 → Nat :=
  let c0_i32_8424 : BitVec 32 := 0#32
  let c1_i32_8426 : BitVec 32 := 1#32
  let arg15 : BitVec 32 := Scf.iv c0_i32_8424 c1_i32_8426 k0_t1
  let c192_i32_8443 : BitVec 32 := 192#32
  let v23553 : BitVec 32 := Scalar.muli arg15 c192_i32_8443
  let c0_i32_8438 : BitVec 32 := 0#32
  let c1_i32_8440 : BitVec 32 := 1#32
  let arg16 : BitVec 32 := Scf.iv c0_i32_8438 c1_i32_8440 k0_t2
  let c32_i32_8444 : BitVec 32 := 32#32
  let v23554 : BitVec 32 := Scalar.muli arg16 c32_i32_8444
  let v23555 : BitVec 32 := Scalar.addi v23553 v23554
  let v23556 : BitVec 32 := v23555
  let v24809 : Index := Scalar.indexCast v23556
  let c6016_8856 : Index := 6016#32
  ![v24809.toNat, 6016]
def k0_off106 (i : grid0.Coords) : Fin 3 → Nat :=
  let arg0 : BitVec 32 := BitVec.ofNat 32 (i 0).val
  let c1_i32 : BitVec 32 := 1#32
  let v3 : BitVec 32 := Scalar.andi arg0 c1_i32
  let v781 : Index := Scalar.indexCast v3
  let c0_218 : Index := 0#32
  let c0_219 : Index := 0#32
  ![v781.toNat, 0, 0]
def k0_off107 (i : grid0.Coords) : Fin 3 → Nat :=
  let arg0 : BitVec 32 := BitVec.ofNat 32 (i 0).val
  let c1_i32 : BitVec 32 := 1#32
  let v3 : BitVec 32 := Scalar.andi arg0 c1_i32
  let v818 : Index := Scalar.indexCast v3
  let c0_232 : Index := 0#32
  let c128_233 : Index := 128#32
  ![v818.toNat, 0, 128]
def k0_off108 (i : grid0.Coords) : Fin 3 → Nat :=
  let arg0 : BitVec 32 := BitVec.ofNat 32 (i 0).val
  let c1_i32 : BitVec 32 := 1#32
  let v3 : BitVec 32 := Scalar.andi arg0 c1_i32
  let v855 : Index := Scalar.indexCast v3
  let c0_246 : Index := 0#32
  let c256_247 : Index := 256#32
  ![v855.toNat, 0, 256]
def k0_off109 (i : grid0.Coords) : Fin 3 → Nat :=
  let arg0 : BitVec 32 := BitVec.ofNat 32 (i 0).val
  let c1_i32 : BitVec 32 := 1#32
  let v3 : BitVec 32 := Scalar.andi arg0 c1_i32
  let v892 : Index := Scalar.indexCast v3
  let c0_260 : Index := 0#32
  let c384_261 : Index := 384#32
  ![v892.toNat, 0, 384]
def k0_off110 (i : grid0.Coords) : Fin 3 → Nat :=
  let arg0 : BitVec 32 := BitVec.ofNat 32 (i 0).val
  let c1_i32 : BitVec 32 := 1#32
  let v3 : BitVec 32 := Scalar.andi arg0 c1_i32
  let v929 : Index := Scalar.indexCast v3
  let c0_274 : Index := 0#32
  let c512_275 : Index := 512#32
  ![v929.toNat, 0, 512]
def k0_off111 (i : grid0.Coords) : Fin 3 → Nat :=
  let arg0 : BitVec 32 := BitVec.ofNat 32 (i 0).val
  let c1_i32 : BitVec 32 := 1#32
  let v3 : BitVec 32 := Scalar.andi arg0 c1_i32
  let v966 : Index := Scalar.indexCast v3
  let c0_287 : Index := 0#32
  let c640_288 : Index := 640#32
  ![v966.toNat, 0, 640]
def k0_off112 (i : grid0.Coords) : Fin 3 → Nat :=
  let arg0 : BitVec 32 := BitVec.ofNat 32 (i 0).val
  let c1_i32 : BitVec 32 := 1#32
  let v3 : BitVec 32 := Scalar.andi arg0 c1_i32
  let v1003 : Index := Scalar.indexCast v3
  let c0_300 : Index := 0#32
  let c768_301 : Index := 768#32
  ![v1003.toNat, 0, 768]
def k0_off113 (i : grid0.Coords) : Fin 3 → Nat :=
  let arg0 : BitVec 32 := BitVec.ofNat 32 (i 0).val
  let c1_i32 : BitVec 32 := 1#32
  let v3 : BitVec 32 := Scalar.andi arg0 c1_i32
  let v1040 : Index := Scalar.indexCast v3
  let c0_313 : Index := 0#32
  let c896_314 : Index := 896#32
  ![v1040.toNat, 0, 896]
def k0_off114 (i : grid0.Coords) : Fin 3 → Nat :=
  let arg0 : BitVec 32 := BitVec.ofNat 32 (i 0).val
  let c1_i32 : BitVec 32 := 1#32
  let v3 : BitVec 32 := Scalar.andi arg0 c1_i32
  let v1077 : Index := Scalar.indexCast v3
  let c0_327 : Index := 0#32
  let c1024_328 : Index := 1024#32
  ![v1077.toNat, 0, 1024]
def k0_off115 (i : grid0.Coords) : Fin 3 → Nat :=
  let arg0 : BitVec 32 := BitVec.ofNat 32 (i 0).val
  let c1_i32 : BitVec 32 := 1#32
  let v3 : BitVec 32 := Scalar.andi arg0 c1_i32
  let v1114 : Index := Scalar.indexCast v3
  let c0_340 : Index := 0#32
  let c1152_341 : Index := 1152#32
  ![v1114.toNat, 0, 1152]
def k0_off116 (i : grid0.Coords) : Fin 3 → Nat :=
  let arg0 : BitVec 32 := BitVec.ofNat 32 (i 0).val
  let c1_i32 : BitVec 32 := 1#32
  let v3 : BitVec 32 := Scalar.andi arg0 c1_i32
  let v1151 : Index := Scalar.indexCast v3
  let c0_353 : Index := 0#32
  let c1280_354 : Index := 1280#32
  ![v1151.toNat, 0, 1280]
def k0_off117 (i : grid0.Coords) : Fin 3 → Nat :=
  let arg0 : BitVec 32 := BitVec.ofNat 32 (i 0).val
  let c1_i32 : BitVec 32 := 1#32
  let v3 : BitVec 32 := Scalar.andi arg0 c1_i32
  let v1188 : Index := Scalar.indexCast v3
  let c0_366 : Index := 0#32
  let c1408_367 : Index := 1408#32
  ![v1188.toNat, 0, 1408]
def k0_off118 (i : grid0.Coords) : Fin 3 → Nat :=
  let arg0 : BitVec 32 := BitVec.ofNat 32 (i 0).val
  let c1_i32 : BitVec 32 := 1#32
  let v3 : BitVec 32 := Scalar.andi arg0 c1_i32
  let v1225 : Index := Scalar.indexCast v3
  let c0_379 : Index := 0#32
  let c1536_380 : Index := 1536#32
  ![v1225.toNat, 0, 1536]
def k0_off119 (i : grid0.Coords) : Fin 3 → Nat :=
  let arg0 : BitVec 32 := BitVec.ofNat 32 (i 0).val
  let c1_i32 : BitVec 32 := 1#32
  let v3 : BitVec 32 := Scalar.andi arg0 c1_i32
  let v1262 : Index := Scalar.indexCast v3
  let c0_392 : Index := 0#32
  let c1664_393 : Index := 1664#32
  ![v1262.toNat, 0, 1664]
def k0_off120 (i : grid0.Coords) : Fin 3 → Nat :=
  let arg0 : BitVec 32 := BitVec.ofNat 32 (i 0).val
  let c1_i32 : BitVec 32 := 1#32
  let v3 : BitVec 32 := Scalar.andi arg0 c1_i32
  let v1299 : Index := Scalar.indexCast v3
  let c0_405 : Index := 0#32
  let c1792_406 : Index := 1792#32
  ![v1299.toNat, 0, 1792]
def k0_off121 (i : grid0.Coords) : Fin 3 → Nat :=
  let arg0 : BitVec 32 := BitVec.ofNat 32 (i 0).val
  let c1_i32 : BitVec 32 := 1#32
  let v3 : BitVec 32 := Scalar.andi arg0 c1_i32
  let v1336 : Index := Scalar.indexCast v3
  let c0_418 : Index := 0#32
  let c1920_419 : Index := 1920#32
  ![v1336.toNat, 0, 1920]
def k0_off122 (i : grid0.Coords) : Fin 3 → Nat :=
  let arg0 : BitVec 32 := BitVec.ofNat 32 (i 0).val
  let c1_i32 : BitVec 32 := 1#32
  let v3 : BitVec 32 := Scalar.andi arg0 c1_i32
  let v1373 : Index := Scalar.indexCast v3
  let c0_432 : Index := 0#32
  let c2048_433 : Index := 2048#32
  ![v1373.toNat, 0, 2048]
def k0_off123 (i : grid0.Coords) : Fin 3 → Nat :=
  let arg0 : BitVec 32 := BitVec.ofNat 32 (i 0).val
  let c1_i32 : BitVec 32 := 1#32
  let v3 : BitVec 32 := Scalar.andi arg0 c1_i32
  let v1410 : Index := Scalar.indexCast v3
  let c0_445 : Index := 0#32
  let c2176_446 : Index := 2176#32
  ![v1410.toNat, 0, 2176]
def k0_off124 (i : grid0.Coords) : Fin 3 → Nat :=
  let arg0 : BitVec 32 := BitVec.ofNat 32 (i 0).val
  let c1_i32 : BitVec 32 := 1#32
  let v3 : BitVec 32 := Scalar.andi arg0 c1_i32
  let v1447 : Index := Scalar.indexCast v3
  let c0_458 : Index := 0#32
  let c2304_459 : Index := 2304#32
  ![v1447.toNat, 0, 2304]
def k0_off125 (i : grid0.Coords) : Fin 3 → Nat :=
  let arg0 : BitVec 32 := BitVec.ofNat 32 (i 0).val
  let c1_i32 : BitVec 32 := 1#32
  let v3 : BitVec 32 := Scalar.andi arg0 c1_i32
  let v1484 : Index := Scalar.indexCast v3
  let c0_471 : Index := 0#32
  let c2432_472 : Index := 2432#32
  ![v1484.toNat, 0, 2432]
def k0_off126 (i : grid0.Coords) : Fin 3 → Nat :=
  let arg0 : BitVec 32 := BitVec.ofNat 32 (i 0).val
  let c1_i32 : BitVec 32 := 1#32
  let v3 : BitVec 32 := Scalar.andi arg0 c1_i32
  let v1521 : Index := Scalar.indexCast v3
  let c0_484 : Index := 0#32
  let c2560_485 : Index := 2560#32
  ![v1521.toNat, 0, 2560]
def k0_off127 (i : grid0.Coords) : Fin 3 → Nat :=
  let arg0 : BitVec 32 := BitVec.ofNat 32 (i 0).val
  let c1_i32 : BitVec 32 := 1#32
  let v3 : BitVec 32 := Scalar.andi arg0 c1_i32
  let v1558 : Index := Scalar.indexCast v3
  let c0_497 : Index := 0#32
  let c2688_498 : Index := 2688#32
  ![v1558.toNat, 0, 2688]
def k0_off128 (i : grid0.Coords) : Fin 3 → Nat :=
  let arg0 : BitVec 32 := BitVec.ofNat 32 (i 0).val
  let c1_i32 : BitVec 32 := 1#32
  let v3 : BitVec 32 := Scalar.andi arg0 c1_i32
  let v1595 : Index := Scalar.indexCast v3
  let c0_510 : Index := 0#32
  let c2816_511 : Index := 2816#32
  ![v1595.toNat, 0, 2816]
def k0_off129 (i : grid0.Coords) : Fin 3 → Nat :=
  let arg0 : BitVec 32 := BitVec.ofNat 32 (i 0).val
  let c1_i32 : BitVec 32 := 1#32
  let v3 : BitVec 32 := Scalar.andi arg0 c1_i32
  let v1632 : Index := Scalar.indexCast v3
  let c0_524 : Index := 0#32
  let c2944_525 : Index := 2944#32
  ![v1632.toNat, 0, 2944]
def k0_off130 (i : grid0.Coords) : Fin 3 → Nat :=
  let arg0 : BitVec 32 := BitVec.ofNat 32 (i 0).val
  let c1_i32 : BitVec 32 := 1#32
  let v3 : BitVec 32 := Scalar.andi arg0 c1_i32
  let v1669 : Index := Scalar.indexCast v3
  let c0_537 : Index := 0#32
  let c3072_538 : Index := 3072#32
  ![v1669.toNat, 0, 3072]
def k0_off131 (i : grid0.Coords) : Fin 3 → Nat :=
  let arg0 : BitVec 32 := BitVec.ofNat 32 (i 0).val
  let c1_i32 : BitVec 32 := 1#32
  let v3 : BitVec 32 := Scalar.andi arg0 c1_i32
  let v1706 : Index := Scalar.indexCast v3
  let c0_550 : Index := 0#32
  let c3200_551 : Index := 3200#32
  ![v1706.toNat, 0, 3200]
def k0_off132 (i : grid0.Coords) : Fin 3 → Nat :=
  let arg0 : BitVec 32 := BitVec.ofNat 32 (i 0).val
  let c1_i32 : BitVec 32 := 1#32
  let v3 : BitVec 32 := Scalar.andi arg0 c1_i32
  let v1743 : Index := Scalar.indexCast v3
  let c0_563 : Index := 0#32
  let c3328_564 : Index := 3328#32
  ![v1743.toNat, 0, 3328]
def k0_off133 (i : grid0.Coords) : Fin 3 → Nat :=
  let arg0 : BitVec 32 := BitVec.ofNat 32 (i 0).val
  let c1_i32 : BitVec 32 := 1#32
  let v3 : BitVec 32 := Scalar.andi arg0 c1_i32
  let v1780 : Index := Scalar.indexCast v3
  let c0_576 : Index := 0#32
  let c3456_577 : Index := 3456#32
  ![v1780.toNat, 0, 3456]
def k0_off134 (i : grid0.Coords) : Fin 3 → Nat :=
  let arg0 : BitVec 32 := BitVec.ofNat 32 (i 0).val
  let c1_i32 : BitVec 32 := 1#32
  let v3 : BitVec 32 := Scalar.andi arg0 c1_i32
  let v1817 : Index := Scalar.indexCast v3
  let c0_589 : Index := 0#32
  let c3584_590 : Index := 3584#32
  ![v1817.toNat, 0, 3584]
def k0_off135 (i : grid0.Coords) : Fin 3 → Nat :=
  let arg0 : BitVec 32 := BitVec.ofNat 32 (i 0).val
  let c1_i32 : BitVec 32 := 1#32
  let v3 : BitVec 32 := Scalar.andi arg0 c1_i32
  let v1854 : Index := Scalar.indexCast v3
  let c0_602 : Index := 0#32
  let c3712_603 : Index := 3712#32
  ![v1854.toNat, 0, 3712]
def k0_off136 (i : grid0.Coords) : Fin 3 → Nat :=
  let arg0 : BitVec 32 := BitVec.ofNat 32 (i 0).val
  let c1_i32 : BitVec 32 := 1#32
  let v3 : BitVec 32 := Scalar.andi arg0 c1_i32
  let v1891 : Index := Scalar.indexCast v3
  let c0_615 : Index := 0#32
  let c3840_616 : Index := 3840#32
  ![v1891.toNat, 0, 3840]
def k0_off137 (i : grid0.Coords) : Fin 3 → Nat :=
  let arg0 : BitVec 32 := BitVec.ofNat 32 (i 0).val
  let c1_i32 : BitVec 32 := 1#32
  let v3 : BitVec 32 := Scalar.andi arg0 c1_i32
  let v1928 : Index := Scalar.indexCast v3
  let c0_628 : Index := 0#32
  let c3968_629 : Index := 3968#32
  ![v1928.toNat, 0, 3968]
def k0_off138 (i : grid0.Coords) : Fin 3 → Nat :=
  let arg0 : BitVec 32 := BitVec.ofNat 32 (i 0).val
  let c1_i32 : BitVec 32 := 1#32
  let v3 : BitVec 32 := Scalar.andi arg0 c1_i32
  let v2381 : Index := Scalar.indexCast v3
  let c0_765 : Index := 0#32
  let c4096_766 : Index := 4096#32
  ![v2381.toNat, 0, 4096]
def k0_off139 (i : grid0.Coords) : Fin 3 → Nat :=
  let arg0 : BitVec 32 := BitVec.ofNat 32 (i 0).val
  let c1_i32 : BitVec 32 := 1#32
  let v3 : BitVec 32 := Scalar.andi arg0 c1_i32
  let v2418 : Index := Scalar.indexCast v3
  let c0_779 : Index := 0#32
  let c4224_780 : Index := 4224#32
  ![v2418.toNat, 0, 4224]
def k0_off140 (i : grid0.Coords) : Fin 3 → Nat :=
  let arg0 : BitVec 32 := BitVec.ofNat 32 (i 0).val
  let c1_i32 : BitVec 32 := 1#32
  let v3 : BitVec 32 := Scalar.andi arg0 c1_i32
  let v2455 : Index := Scalar.indexCast v3
  let c0_793 : Index := 0#32
  let c4352_794 : Index := 4352#32
  ![v2455.toNat, 0, 4352]
def k0_off141 (i : grid0.Coords) : Fin 3 → Nat :=
  let arg0 : BitVec 32 := BitVec.ofNat 32 (i 0).val
  let c1_i32 : BitVec 32 := 1#32
  let v3 : BitVec 32 := Scalar.andi arg0 c1_i32
  let v2492 : Index := Scalar.indexCast v3
  let c0_807 : Index := 0#32
  let c4480_808 : Index := 4480#32
  ![v2492.toNat, 0, 4480]
def k0_off142 (i : grid0.Coords) : Fin 3 → Nat :=
  let arg0 : BitVec 32 := BitVec.ofNat 32 (i 0).val
  let c1_i32 : BitVec 32 := 1#32
  let v3 : BitVec 32 := Scalar.andi arg0 c1_i32
  let v2529 : Index := Scalar.indexCast v3
  let c0_821 : Index := 0#32
  let c4608_822 : Index := 4608#32
  ![v2529.toNat, 0, 4608]
def k0_off143 (i : grid0.Coords) : Fin 3 → Nat :=
  let arg0 : BitVec 32 := BitVec.ofNat 32 (i 0).val
  let c1_i32 : BitVec 32 := 1#32
  let v3 : BitVec 32 := Scalar.andi arg0 c1_i32
  let v2566 : Index := Scalar.indexCast v3
  let c0_835 : Index := 0#32
  let c4736_836 : Index := 4736#32
  ![v2566.toNat, 0, 4736]
def k0_off144 (i : grid0.Coords) : Fin 3 → Nat :=
  let arg0 : BitVec 32 := BitVec.ofNat 32 (i 0).val
  let c1_i32 : BitVec 32 := 1#32
  let v3 : BitVec 32 := Scalar.andi arg0 c1_i32
  let v2603 : Index := Scalar.indexCast v3
  let c0_849 : Index := 0#32
  let c4864_850 : Index := 4864#32
  ![v2603.toNat, 0, 4864]
def k0_off145 (i : grid0.Coords) : Fin 3 → Nat :=
  let arg0 : BitVec 32 := BitVec.ofNat 32 (i 0).val
  let c1_i32 : BitVec 32 := 1#32
  let v3 : BitVec 32 := Scalar.andi arg0 c1_i32
  let v2640 : Index := Scalar.indexCast v3
  let c0_863 : Index := 0#32
  let c4992_864 : Index := 4992#32
  ![v2640.toNat, 0, 4992]
def k0_off146 (i : grid0.Coords) : Fin 3 → Nat :=
  let arg0 : BitVec 32 := BitVec.ofNat 32 (i 0).val
  let c1_i32 : BitVec 32 := 1#32
  let v3 : BitVec 32 := Scalar.andi arg0 c1_i32
  let v2677 : Index := Scalar.indexCast v3
  let c0_877 : Index := 0#32
  let c5120_878 : Index := 5120#32
  ![v2677.toNat, 0, 5120]
def k0_off147 (i : grid0.Coords) : Fin 3 → Nat :=
  let arg0 : BitVec 32 := BitVec.ofNat 32 (i 0).val
  let c1_i32 : BitVec 32 := 1#32
  let v3 : BitVec 32 := Scalar.andi arg0 c1_i32
  let v2714 : Index := Scalar.indexCast v3
  let c0_891 : Index := 0#32
  let c5248_892 : Index := 5248#32
  ![v2714.toNat, 0, 5248]
def k0_off148 (i : grid0.Coords) : Fin 3 → Nat :=
  let arg0 : BitVec 32 := BitVec.ofNat 32 (i 0).val
  let c1_i32 : BitVec 32 := 1#32
  let v3 : BitVec 32 := Scalar.andi arg0 c1_i32
  let v2751 : Index := Scalar.indexCast v3
  let c0_905 : Index := 0#32
  let c5376_906 : Index := 5376#32
  ![v2751.toNat, 0, 5376]
def k0_off149 (i : grid0.Coords) : Fin 3 → Nat :=
  let arg0 : BitVec 32 := BitVec.ofNat 32 (i 0).val
  let c1_i32 : BitVec 32 := 1#32
  let v3 : BitVec 32 := Scalar.andi arg0 c1_i32
  let v2788 : Index := Scalar.indexCast v3
  let c0_919 : Index := 0#32
  let c5504_920 : Index := 5504#32
  ![v2788.toNat, 0, 5504]
def k0_off150 (i : grid0.Coords) : Fin 3 → Nat :=
  let arg0 : BitVec 32 := BitVec.ofNat 32 (i 0).val
  let c1_i32 : BitVec 32 := 1#32
  let v3 : BitVec 32 := Scalar.andi arg0 c1_i32
  let v2825 : Index := Scalar.indexCast v3
  let c0_933 : Index := 0#32
  let c5632_934 : Index := 5632#32
  ![v2825.toNat, 0, 5632]
def k0_off151 (i : grid0.Coords) : Fin 3 → Nat :=
  let arg0 : BitVec 32 := BitVec.ofNat 32 (i 0).val
  let c1_i32 : BitVec 32 := 1#32
  let v3 : BitVec 32 := Scalar.andi arg0 c1_i32
  let v2862 : Index := Scalar.indexCast v3
  let c0_947 : Index := 0#32
  let c5760_948 : Index := 5760#32
  ![v2862.toNat, 0, 5760]
def k0_off152 (i : grid0.Coords) : Fin 3 → Nat :=
  let arg0 : BitVec 32 := BitVec.ofNat 32 (i 0).val
  let c1_i32 : BitVec 32 := 1#32
  let v3 : BitVec 32 := Scalar.andi arg0 c1_i32
  let v2899 : Index := Scalar.indexCast v3
  let c0_961 : Index := 0#32
  let c5888_962 : Index := 5888#32
  ![v2899.toNat, 0, 5888]
def k0_off153 (i : grid0.Coords) : Fin 3 → Nat :=
  let arg0 : BitVec 32 := BitVec.ofNat 32 (i 0).val
  let c1_i32 : BitVec 32 := 1#32
  let v3 : BitVec 32 := Scalar.andi arg0 c1_i32
  let v2936 : Index := Scalar.indexCast v3
  let c0_975 : Index := 0#32
  let c6016_976 : Index := 6016#32
  ![v2936.toNat, 0, 6016]
def k0_off154 (i : grid0.Coords) : Fin 3 → Nat :=
  let arg0 : BitVec 32 := BitVec.ofNat 32 (i 0).val
  let c1_i32 : BitVec 32 := 1#32
  let v3 : BitVec 32 := Scalar.andi arg0 c1_i32
  let v3716 : Index := Scalar.indexCast v3
  let c32_1237 : Index := 32#32
  let c0_1238 : Index := 0#32
  ![v3716.toNat, 32, 0]
def k0_off155 (i : grid0.Coords) : Fin 3 → Nat :=
  let arg0 : BitVec 32 := BitVec.ofNat 32 (i 0).val
  let c1_i32 : BitVec 32 := 1#32
  let v3 : BitVec 32 := Scalar.andi arg0 c1_i32
  let v3753 : Index := Scalar.indexCast v3
  let c32_1251 : Index := 32#32
  let c128_1252 : Index := 128#32
  ![v3753.toNat, 32, 128]
def k0_off156 (i : grid0.Coords) : Fin 3 → Nat :=
  let arg0 : BitVec 32 := BitVec.ofNat 32 (i 0).val
  let c1_i32 : BitVec 32 := 1#32
  let v3 : BitVec 32 := Scalar.andi arg0 c1_i32
  let v3790 : Index := Scalar.indexCast v3
  let c32_1265 : Index := 32#32
  let c256_1266 : Index := 256#32
  ![v3790.toNat, 32, 256]
def k0_off157 (i : grid0.Coords) : Fin 3 → Nat :=
  let arg0 : BitVec 32 := BitVec.ofNat 32 (i 0).val
  let c1_i32 : BitVec 32 := 1#32
  let v3 : BitVec 32 := Scalar.andi arg0 c1_i32
  let v3827 : Index := Scalar.indexCast v3
  let c32_1279 : Index := 32#32
  let c384_1280 : Index := 384#32
  ![v3827.toNat, 32, 384]
def k0_off158 (i : grid0.Coords) : Fin 3 → Nat :=
  let arg0 : BitVec 32 := BitVec.ofNat 32 (i 0).val
  let c1_i32 : BitVec 32 := 1#32
  let v3 : BitVec 32 := Scalar.andi arg0 c1_i32
  let v3864 : Index := Scalar.indexCast v3
  let c32_1293 : Index := 32#32
  let c512_1294 : Index := 512#32
  ![v3864.toNat, 32, 512]
def k0_off159 (i : grid0.Coords) : Fin 3 → Nat :=
  let arg0 : BitVec 32 := BitVec.ofNat 32 (i 0).val
  let c1_i32 : BitVec 32 := 1#32
  let v3 : BitVec 32 := Scalar.andi arg0 c1_i32
  let v3901 : Index := Scalar.indexCast v3
  let c32_1307 : Index := 32#32
  let c640_1308 : Index := 640#32
  ![v3901.toNat, 32, 640]
def k0_off160 (i : grid0.Coords) : Fin 3 → Nat :=
  let arg0 : BitVec 32 := BitVec.ofNat 32 (i 0).val
  let c1_i32 : BitVec 32 := 1#32
  let v3 : BitVec 32 := Scalar.andi arg0 c1_i32
  let v3938 : Index := Scalar.indexCast v3
  let c32_1321 : Index := 32#32
  let c768_1322 : Index := 768#32
  ![v3938.toNat, 32, 768]
def k0_off161 (i : grid0.Coords) : Fin 3 → Nat :=
  let arg0 : BitVec 32 := BitVec.ofNat 32 (i 0).val
  let c1_i32 : BitVec 32 := 1#32
  let v3 : BitVec 32 := Scalar.andi arg0 c1_i32
  let v3975 : Index := Scalar.indexCast v3
  let c32_1335 : Index := 32#32
  let c896_1336 : Index := 896#32
  ![v3975.toNat, 32, 896]
def k0_off162 (i : grid0.Coords) : Fin 3 → Nat :=
  let arg0 : BitVec 32 := BitVec.ofNat 32 (i 0).val
  let c1_i32 : BitVec 32 := 1#32
  let v3 : BitVec 32 := Scalar.andi arg0 c1_i32
  let v4012 : Index := Scalar.indexCast v3
  let c32_1349 : Index := 32#32
  let c1024_1350 : Index := 1024#32
  ![v4012.toNat, 32, 1024]
def k0_off163 (i : grid0.Coords) : Fin 3 → Nat :=
  let arg0 : BitVec 32 := BitVec.ofNat 32 (i 0).val
  let c1_i32 : BitVec 32 := 1#32
  let v3 : BitVec 32 := Scalar.andi arg0 c1_i32
  let v4049 : Index := Scalar.indexCast v3
  let c32_1363 : Index := 32#32
  let c1152_1364 : Index := 1152#32
  ![v4049.toNat, 32, 1152]
def k0_off164 (i : grid0.Coords) : Fin 3 → Nat :=
  let arg0 : BitVec 32 := BitVec.ofNat 32 (i 0).val
  let c1_i32 : BitVec 32 := 1#32
  let v3 : BitVec 32 := Scalar.andi arg0 c1_i32
  let v4086 : Index := Scalar.indexCast v3
  let c32_1377 : Index := 32#32
  let c1280_1378 : Index := 1280#32
  ![v4086.toNat, 32, 1280]
def k0_off165 (i : grid0.Coords) : Fin 3 → Nat :=
  let arg0 : BitVec 32 := BitVec.ofNat 32 (i 0).val
  let c1_i32 : BitVec 32 := 1#32
  let v3 : BitVec 32 := Scalar.andi arg0 c1_i32
  let v4123 : Index := Scalar.indexCast v3
  let c32_1391 : Index := 32#32
  let c1408_1392 : Index := 1408#32
  ![v4123.toNat, 32, 1408]
def k0_off166 (i : grid0.Coords) : Fin 3 → Nat :=
  let arg0 : BitVec 32 := BitVec.ofNat 32 (i 0).val
  let c1_i32 : BitVec 32 := 1#32
  let v3 : BitVec 32 := Scalar.andi arg0 c1_i32
  let v4160 : Index := Scalar.indexCast v3
  let c32_1405 : Index := 32#32
  let c1536_1406 : Index := 1536#32
  ![v4160.toNat, 32, 1536]
def k0_off167 (i : grid0.Coords) : Fin 3 → Nat :=
  let arg0 : BitVec 32 := BitVec.ofNat 32 (i 0).val
  let c1_i32 : BitVec 32 := 1#32
  let v3 : BitVec 32 := Scalar.andi arg0 c1_i32
  let v4197 : Index := Scalar.indexCast v3
  let c32_1419 : Index := 32#32
  let c1664_1420 : Index := 1664#32
  ![v4197.toNat, 32, 1664]
def k0_off168 (i : grid0.Coords) : Fin 3 → Nat :=
  let arg0 : BitVec 32 := BitVec.ofNat 32 (i 0).val
  let c1_i32 : BitVec 32 := 1#32
  let v3 : BitVec 32 := Scalar.andi arg0 c1_i32
  let v4234 : Index := Scalar.indexCast v3
  let c32_1433 : Index := 32#32
  let c1792_1434 : Index := 1792#32
  ![v4234.toNat, 32, 1792]
def k0_off169 (i : grid0.Coords) : Fin 3 → Nat :=
  let arg0 : BitVec 32 := BitVec.ofNat 32 (i 0).val
  let c1_i32 : BitVec 32 := 1#32
  let v3 : BitVec 32 := Scalar.andi arg0 c1_i32
  let v4271 : Index := Scalar.indexCast v3
  let c32_1447 : Index := 32#32
  let c1920_1448 : Index := 1920#32
  ![v4271.toNat, 32, 1920]
def k0_off170 (i : grid0.Coords) : Fin 3 → Nat :=
  let arg0 : BitVec 32 := BitVec.ofNat 32 (i 0).val
  let c1_i32 : BitVec 32 := 1#32
  let v3 : BitVec 32 := Scalar.andi arg0 c1_i32
  let v4308 : Index := Scalar.indexCast v3
  let c32_1461 : Index := 32#32
  let c2048_1462 : Index := 2048#32
  ![v4308.toNat, 32, 2048]
def k0_off171 (i : grid0.Coords) : Fin 3 → Nat :=
  let arg0 : BitVec 32 := BitVec.ofNat 32 (i 0).val
  let c1_i32 : BitVec 32 := 1#32
  let v3 : BitVec 32 := Scalar.andi arg0 c1_i32
  let v4345 : Index := Scalar.indexCast v3
  let c32_1475 : Index := 32#32
  let c2176_1476 : Index := 2176#32
  ![v4345.toNat, 32, 2176]
def k0_off172 (i : grid0.Coords) : Fin 3 → Nat :=
  let arg0 : BitVec 32 := BitVec.ofNat 32 (i 0).val
  let c1_i32 : BitVec 32 := 1#32
  let v3 : BitVec 32 := Scalar.andi arg0 c1_i32
  let v4382 : Index := Scalar.indexCast v3
  let c32_1489 : Index := 32#32
  let c2304_1490 : Index := 2304#32
  ![v4382.toNat, 32, 2304]
def k0_off173 (i : grid0.Coords) : Fin 3 → Nat :=
  let arg0 : BitVec 32 := BitVec.ofNat 32 (i 0).val
  let c1_i32 : BitVec 32 := 1#32
  let v3 : BitVec 32 := Scalar.andi arg0 c1_i32
  let v4419 : Index := Scalar.indexCast v3
  let c32_1503 : Index := 32#32
  let c2432_1504 : Index := 2432#32
  ![v4419.toNat, 32, 2432]
def k0_off174 (i : grid0.Coords) : Fin 3 → Nat :=
  let arg0 : BitVec 32 := BitVec.ofNat 32 (i 0).val
  let c1_i32 : BitVec 32 := 1#32
  let v3 : BitVec 32 := Scalar.andi arg0 c1_i32
  let v4456 : Index := Scalar.indexCast v3
  let c32_1517 : Index := 32#32
  let c2560_1518 : Index := 2560#32
  ![v4456.toNat, 32, 2560]
def k0_off175 (i : grid0.Coords) : Fin 3 → Nat :=
  let arg0 : BitVec 32 := BitVec.ofNat 32 (i 0).val
  let c1_i32 : BitVec 32 := 1#32
  let v3 : BitVec 32 := Scalar.andi arg0 c1_i32
  let v4493 : Index := Scalar.indexCast v3
  let c32_1531 : Index := 32#32
  let c2688_1532 : Index := 2688#32
  ![v4493.toNat, 32, 2688]
def k0_off176 (i : grid0.Coords) : Fin 3 → Nat :=
  let arg0 : BitVec 32 := BitVec.ofNat 32 (i 0).val
  let c1_i32 : BitVec 32 := 1#32
  let v3 : BitVec 32 := Scalar.andi arg0 c1_i32
  let v4530 : Index := Scalar.indexCast v3
  let c32_1545 : Index := 32#32
  let c2816_1546 : Index := 2816#32
  ![v4530.toNat, 32, 2816]
def k0_off177 (i : grid0.Coords) : Fin 3 → Nat :=
  let arg0 : BitVec 32 := BitVec.ofNat 32 (i 0).val
  let c1_i32 : BitVec 32 := 1#32
  let v3 : BitVec 32 := Scalar.andi arg0 c1_i32
  let v4567 : Index := Scalar.indexCast v3
  let c32_1559 : Index := 32#32
  let c2944_1560 : Index := 2944#32
  ![v4567.toNat, 32, 2944]
def k0_off178 (i : grid0.Coords) : Fin 3 → Nat :=
  let arg0 : BitVec 32 := BitVec.ofNat 32 (i 0).val
  let c1_i32 : BitVec 32 := 1#32
  let v3 : BitVec 32 := Scalar.andi arg0 c1_i32
  let v4604 : Index := Scalar.indexCast v3
  let c32_1573 : Index := 32#32
  let c3072_1574 : Index := 3072#32
  ![v4604.toNat, 32, 3072]
def k0_off179 (i : grid0.Coords) : Fin 3 → Nat :=
  let arg0 : BitVec 32 := BitVec.ofNat 32 (i 0).val
  let c1_i32 : BitVec 32 := 1#32
  let v3 : BitVec 32 := Scalar.andi arg0 c1_i32
  let v4641 : Index := Scalar.indexCast v3
  let c32_1587 : Index := 32#32
  let c3200_1588 : Index := 3200#32
  ![v4641.toNat, 32, 3200]
def k0_off180 (i : grid0.Coords) : Fin 3 → Nat :=
  let arg0 : BitVec 32 := BitVec.ofNat 32 (i 0).val
  let c1_i32 : BitVec 32 := 1#32
  let v3 : BitVec 32 := Scalar.andi arg0 c1_i32
  let v4678 : Index := Scalar.indexCast v3
  let c32_1601 : Index := 32#32
  let c3328_1602 : Index := 3328#32
  ![v4678.toNat, 32, 3328]
def k0_off181 (i : grid0.Coords) : Fin 3 → Nat :=
  let arg0 : BitVec 32 := BitVec.ofNat 32 (i 0).val
  let c1_i32 : BitVec 32 := 1#32
  let v3 : BitVec 32 := Scalar.andi arg0 c1_i32
  let v4715 : Index := Scalar.indexCast v3
  let c32_1615 : Index := 32#32
  let c3456_1616 : Index := 3456#32
  ![v4715.toNat, 32, 3456]
def k0_off182 (i : grid0.Coords) : Fin 3 → Nat :=
  let arg0 : BitVec 32 := BitVec.ofNat 32 (i 0).val
  let c1_i32 : BitVec 32 := 1#32
  let v3 : BitVec 32 := Scalar.andi arg0 c1_i32
  let v4752 : Index := Scalar.indexCast v3
  let c32_1629 : Index := 32#32
  let c3584_1630 : Index := 3584#32
  ![v4752.toNat, 32, 3584]
def k0_off183 (i : grid0.Coords) : Fin 3 → Nat :=
  let arg0 : BitVec 32 := BitVec.ofNat 32 (i 0).val
  let c1_i32 : BitVec 32 := 1#32
  let v3 : BitVec 32 := Scalar.andi arg0 c1_i32
  let v4789 : Index := Scalar.indexCast v3
  let c32_1643 : Index := 32#32
  let c3712_1644 : Index := 3712#32
  ![v4789.toNat, 32, 3712]
def k0_off184 (i : grid0.Coords) : Fin 3 → Nat :=
  let arg0 : BitVec 32 := BitVec.ofNat 32 (i 0).val
  let c1_i32 : BitVec 32 := 1#32
  let v3 : BitVec 32 := Scalar.andi arg0 c1_i32
  let v4826 : Index := Scalar.indexCast v3
  let c32_1657 : Index := 32#32
  let c3840_1658 : Index := 3840#32
  ![v4826.toNat, 32, 3840]
def k0_off185 (i : grid0.Coords) : Fin 3 → Nat :=
  let arg0 : BitVec 32 := BitVec.ofNat 32 (i 0).val
  let c1_i32 : BitVec 32 := 1#32
  let v3 : BitVec 32 := Scalar.andi arg0 c1_i32
  let v4863 : Index := Scalar.indexCast v3
  let c32_1671 : Index := 32#32
  let c3968_1672 : Index := 3968#32
  ![v4863.toNat, 32, 3968]
def k0_off186 (i : grid0.Coords) : Fin 3 → Nat :=
  let arg0 : BitVec 32 := BitVec.ofNat 32 (i 0).val
  let c1_i32 : BitVec 32 := 1#32
  let v3 : BitVec 32 := Scalar.andi arg0 c1_i32
  let v5316 : Index := Scalar.indexCast v3
  let c32_1824 : Index := 32#32
  let c4096_1825 : Index := 4096#32
  ![v5316.toNat, 32, 4096]
def k0_off187 (i : grid0.Coords) : Fin 3 → Nat :=
  let arg0 : BitVec 32 := BitVec.ofNat 32 (i 0).val
  let c1_i32 : BitVec 32 := 1#32
  let v3 : BitVec 32 := Scalar.andi arg0 c1_i32
  let v5353 : Index := Scalar.indexCast v3
  let c32_1838 : Index := 32#32
  let c4224_1839 : Index := 4224#32
  ![v5353.toNat, 32, 4224]
def k0_off188 (i : grid0.Coords) : Fin 3 → Nat :=
  let arg0 : BitVec 32 := BitVec.ofNat 32 (i 0).val
  let c1_i32 : BitVec 32 := 1#32
  let v3 : BitVec 32 := Scalar.andi arg0 c1_i32
  let v5390 : Index := Scalar.indexCast v3
  let c32_1852 : Index := 32#32
  let c4352_1853 : Index := 4352#32
  ![v5390.toNat, 32, 4352]
def k0_off189 (i : grid0.Coords) : Fin 3 → Nat :=
  let arg0 : BitVec 32 := BitVec.ofNat 32 (i 0).val
  let c1_i32 : BitVec 32 := 1#32
  let v3 : BitVec 32 := Scalar.andi arg0 c1_i32
  let v5427 : Index := Scalar.indexCast v3
  let c32_1866 : Index := 32#32
  let c4480_1867 : Index := 4480#32
  ![v5427.toNat, 32, 4480]
def k0_off190 (i : grid0.Coords) : Fin 3 → Nat :=
  let arg0 : BitVec 32 := BitVec.ofNat 32 (i 0).val
  let c1_i32 : BitVec 32 := 1#32
  let v3 : BitVec 32 := Scalar.andi arg0 c1_i32
  let v5464 : Index := Scalar.indexCast v3
  let c32_1880 : Index := 32#32
  let c4608_1881 : Index := 4608#32
  ![v5464.toNat, 32, 4608]
def k0_off191 (i : grid0.Coords) : Fin 3 → Nat :=
  let arg0 : BitVec 32 := BitVec.ofNat 32 (i 0).val
  let c1_i32 : BitVec 32 := 1#32
  let v3 : BitVec 32 := Scalar.andi arg0 c1_i32
  let v5501 : Index := Scalar.indexCast v3
  let c32_1894 : Index := 32#32
  let c4736_1895 : Index := 4736#32
  ![v5501.toNat, 32, 4736]
def k0_off192 (i : grid0.Coords) : Fin 3 → Nat :=
  let arg0 : BitVec 32 := BitVec.ofNat 32 (i 0).val
  let c1_i32 : BitVec 32 := 1#32
  let v3 : BitVec 32 := Scalar.andi arg0 c1_i32
  let v5538 : Index := Scalar.indexCast v3
  let c32_1908 : Index := 32#32
  let c4864_1909 : Index := 4864#32
  ![v5538.toNat, 32, 4864]
def k0_off193 (i : grid0.Coords) : Fin 3 → Nat :=
  let arg0 : BitVec 32 := BitVec.ofNat 32 (i 0).val
  let c1_i32 : BitVec 32 := 1#32
  let v3 : BitVec 32 := Scalar.andi arg0 c1_i32
  let v5575 : Index := Scalar.indexCast v3
  let c32_1922 : Index := 32#32
  let c4992_1923 : Index := 4992#32
  ![v5575.toNat, 32, 4992]
def k0_off194 (i : grid0.Coords) : Fin 3 → Nat :=
  let arg0 : BitVec 32 := BitVec.ofNat 32 (i 0).val
  let c1_i32 : BitVec 32 := 1#32
  let v3 : BitVec 32 := Scalar.andi arg0 c1_i32
  let v5612 : Index := Scalar.indexCast v3
  let c32_1936 : Index := 32#32
  let c5120_1937 : Index := 5120#32
  ![v5612.toNat, 32, 5120]
def k0_off195 (i : grid0.Coords) : Fin 3 → Nat :=
  let arg0 : BitVec 32 := BitVec.ofNat 32 (i 0).val
  let c1_i32 : BitVec 32 := 1#32
  let v3 : BitVec 32 := Scalar.andi arg0 c1_i32
  let v5649 : Index := Scalar.indexCast v3
  let c32_1950 : Index := 32#32
  let c5248_1951 : Index := 5248#32
  ![v5649.toNat, 32, 5248]
def k0_off196 (i : grid0.Coords) : Fin 3 → Nat :=
  let arg0 : BitVec 32 := BitVec.ofNat 32 (i 0).val
  let c1_i32 : BitVec 32 := 1#32
  let v3 : BitVec 32 := Scalar.andi arg0 c1_i32
  let v5686 : Index := Scalar.indexCast v3
  let c32_1964 : Index := 32#32
  let c5376_1965 : Index := 5376#32
  ![v5686.toNat, 32, 5376]
def k0_off197 (i : grid0.Coords) : Fin 3 → Nat :=
  let arg0 : BitVec 32 := BitVec.ofNat 32 (i 0).val
  let c1_i32 : BitVec 32 := 1#32
  let v3 : BitVec 32 := Scalar.andi arg0 c1_i32
  let v5723 : Index := Scalar.indexCast v3
  let c32_1978 : Index := 32#32
  let c5504_1979 : Index := 5504#32
  ![v5723.toNat, 32, 5504]
def k0_off198 (i : grid0.Coords) : Fin 3 → Nat :=
  let arg0 : BitVec 32 := BitVec.ofNat 32 (i 0).val
  let c1_i32 : BitVec 32 := 1#32
  let v3 : BitVec 32 := Scalar.andi arg0 c1_i32
  let v5760 : Index := Scalar.indexCast v3
  let c32_1992 : Index := 32#32
  let c5632_1993 : Index := 5632#32
  ![v5760.toNat, 32, 5632]
def k0_off199 (i : grid0.Coords) : Fin 3 → Nat :=
  let arg0 : BitVec 32 := BitVec.ofNat 32 (i 0).val
  let c1_i32 : BitVec 32 := 1#32
  let v3 : BitVec 32 := Scalar.andi arg0 c1_i32
  let v5797 : Index := Scalar.indexCast v3
  let c32_2006 : Index := 32#32
  let c5760_2007 : Index := 5760#32
  ![v5797.toNat, 32, 5760]
def k0_off200 (i : grid0.Coords) : Fin 3 → Nat :=
  let arg0 : BitVec 32 := BitVec.ofNat 32 (i 0).val
  let c1_i32 : BitVec 32 := 1#32
  let v3 : BitVec 32 := Scalar.andi arg0 c1_i32
  let v5834 : Index := Scalar.indexCast v3
  let c32_2020 : Index := 32#32
  let c5888_2021 : Index := 5888#32
  ![v5834.toNat, 32, 5888]
def k0_off201 (i : grid0.Coords) : Fin 3 → Nat :=
  let arg0 : BitVec 32 := BitVec.ofNat 32 (i 0).val
  let c1_i32 : BitVec 32 := 1#32
  let v3 : BitVec 32 := Scalar.andi arg0 c1_i32
  let v5871 : Index := Scalar.indexCast v3
  let c32_2034 : Index := 32#32
  let c6016_2035 : Index := 6016#32
  ![v5871.toNat, 32, 6016]
def k0_off202 (i : grid0.Coords) : Fin 3 → Nat :=
  let arg0 : BitVec 32 := BitVec.ofNat 32 (i 0).val
  let c1_i32 : BitVec 32 := 1#32
  let v3 : BitVec 32 := Scalar.andi arg0 c1_i32
  let v6651 : Index := Scalar.indexCast v3
  let c64_2296 : Index := 64#32
  let c0_2297 : Index := 0#32
  ![v6651.toNat, 64, 0]
def k0_off203 (i : grid0.Coords) : Fin 3 → Nat :=
  let arg0 : BitVec 32 := BitVec.ofNat 32 (i 0).val
  let c1_i32 : BitVec 32 := 1#32
  let v3 : BitVec 32 := Scalar.andi arg0 c1_i32
  let v6688 : Index := Scalar.indexCast v3
  let c64_2310 : Index := 64#32
  let c128_2311 : Index := 128#32
  ![v6688.toNat, 64, 128]
def k0_off204 (i : grid0.Coords) : Fin 3 → Nat :=
  let arg0 : BitVec 32 := BitVec.ofNat 32 (i 0).val
  let c1_i32 : BitVec 32 := 1#32
  let v3 : BitVec 32 := Scalar.andi arg0 c1_i32
  let v6725 : Index := Scalar.indexCast v3
  let c64_2324 : Index := 64#32
  let c256_2325 : Index := 256#32
  ![v6725.toNat, 64, 256]
def k0_off205 (i : grid0.Coords) : Fin 3 → Nat :=
  let arg0 : BitVec 32 := BitVec.ofNat 32 (i 0).val
  let c1_i32 : BitVec 32 := 1#32
  let v3 : BitVec 32 := Scalar.andi arg0 c1_i32
  let v6762 : Index := Scalar.indexCast v3
  let c64_2338 : Index := 64#32
  let c384_2339 : Index := 384#32
  ![v6762.toNat, 64, 384]
def k0_off206 (i : grid0.Coords) : Fin 3 → Nat :=
  let arg0 : BitVec 32 := BitVec.ofNat 32 (i 0).val
  let c1_i32 : BitVec 32 := 1#32
  let v3 : BitVec 32 := Scalar.andi arg0 c1_i32
  let v6799 : Index := Scalar.indexCast v3
  let c64_2352 : Index := 64#32
  let c512_2353 : Index := 512#32
  ![v6799.toNat, 64, 512]
def k0_off207 (i : grid0.Coords) : Fin 3 → Nat :=
  let arg0 : BitVec 32 := BitVec.ofNat 32 (i 0).val
  let c1_i32 : BitVec 32 := 1#32
  let v3 : BitVec 32 := Scalar.andi arg0 c1_i32
  let v6836 : Index := Scalar.indexCast v3
  let c64_2366 : Index := 64#32
  let c640_2367 : Index := 640#32
  ![v6836.toNat, 64, 640]
def k0_off208 (i : grid0.Coords) : Fin 3 → Nat :=
  let arg0 : BitVec 32 := BitVec.ofNat 32 (i 0).val
  let c1_i32 : BitVec 32 := 1#32
  let v3 : BitVec 32 := Scalar.andi arg0 c1_i32
  let v6873 : Index := Scalar.indexCast v3
  let c64_2380 : Index := 64#32
  let c768_2381 : Index := 768#32
  ![v6873.toNat, 64, 768]
def k0_off209 (i : grid0.Coords) : Fin 3 → Nat :=
  let arg0 : BitVec 32 := BitVec.ofNat 32 (i 0).val
  let c1_i32 : BitVec 32 := 1#32
  let v3 : BitVec 32 := Scalar.andi arg0 c1_i32
  let v6910 : Index := Scalar.indexCast v3
  let c64_2394 : Index := 64#32
  let c896_2395 : Index := 896#32
  ![v6910.toNat, 64, 896]
def k0_off210 (i : grid0.Coords) : Fin 3 → Nat :=
  let arg0 : BitVec 32 := BitVec.ofNat 32 (i 0).val
  let c1_i32 : BitVec 32 := 1#32
  let v3 : BitVec 32 := Scalar.andi arg0 c1_i32
  let v6947 : Index := Scalar.indexCast v3
  let c64_2408 : Index := 64#32
  let c1024_2409 : Index := 1024#32
  ![v6947.toNat, 64, 1024]
def k0_off211 (i : grid0.Coords) : Fin 3 → Nat :=
  let arg0 : BitVec 32 := BitVec.ofNat 32 (i 0).val
  let c1_i32 : BitVec 32 := 1#32
  let v3 : BitVec 32 := Scalar.andi arg0 c1_i32
  let v6984 : Index := Scalar.indexCast v3
  let c64_2422 : Index := 64#32
  let c1152_2423 : Index := 1152#32
  ![v6984.toNat, 64, 1152]
def k0_off212 (i : grid0.Coords) : Fin 3 → Nat :=
  let arg0 : BitVec 32 := BitVec.ofNat 32 (i 0).val
  let c1_i32 : BitVec 32 := 1#32
  let v3 : BitVec 32 := Scalar.andi arg0 c1_i32
  let v7021 : Index := Scalar.indexCast v3
  let c64_2436 : Index := 64#32
  let c1280_2437 : Index := 1280#32
  ![v7021.toNat, 64, 1280]
def k0_off213 (i : grid0.Coords) : Fin 3 → Nat :=
  let arg0 : BitVec 32 := BitVec.ofNat 32 (i 0).val
  let c1_i32 : BitVec 32 := 1#32
  let v3 : BitVec 32 := Scalar.andi arg0 c1_i32
  let v7058 : Index := Scalar.indexCast v3
  let c64_2450 : Index := 64#32
  let c1408_2451 : Index := 1408#32
  ![v7058.toNat, 64, 1408]
def k0_off214 (i : grid0.Coords) : Fin 3 → Nat :=
  let arg0 : BitVec 32 := BitVec.ofNat 32 (i 0).val
  let c1_i32 : BitVec 32 := 1#32
  let v3 : BitVec 32 := Scalar.andi arg0 c1_i32
  let v7095 : Index := Scalar.indexCast v3
  let c64_2464 : Index := 64#32
  let c1536_2465 : Index := 1536#32
  ![v7095.toNat, 64, 1536]
def k0_off215 (i : grid0.Coords) : Fin 3 → Nat :=
  let arg0 : BitVec 32 := BitVec.ofNat 32 (i 0).val
  let c1_i32 : BitVec 32 := 1#32
  let v3 : BitVec 32 := Scalar.andi arg0 c1_i32
  let v7132 : Index := Scalar.indexCast v3
  let c64_2478 : Index := 64#32
  let c1664_2479 : Index := 1664#32
  ![v7132.toNat, 64, 1664]
def k0_off216 (i : grid0.Coords) : Fin 3 → Nat :=
  let arg0 : BitVec 32 := BitVec.ofNat 32 (i 0).val
  let c1_i32 : BitVec 32 := 1#32
  let v3 : BitVec 32 := Scalar.andi arg0 c1_i32
  let v7169 : Index := Scalar.indexCast v3
  let c64_2492 : Index := 64#32
  let c1792_2493 : Index := 1792#32
  ![v7169.toNat, 64, 1792]
def k0_off217 (i : grid0.Coords) : Fin 3 → Nat :=
  let arg0 : BitVec 32 := BitVec.ofNat 32 (i 0).val
  let c1_i32 : BitVec 32 := 1#32
  let v3 : BitVec 32 := Scalar.andi arg0 c1_i32
  let v7206 : Index := Scalar.indexCast v3
  let c64_2506 : Index := 64#32
  let c1920_2507 : Index := 1920#32
  ![v7206.toNat, 64, 1920]
def k0_off218 (i : grid0.Coords) : Fin 3 → Nat :=
  let arg0 : BitVec 32 := BitVec.ofNat 32 (i 0).val
  let c1_i32 : BitVec 32 := 1#32
  let v3 : BitVec 32 := Scalar.andi arg0 c1_i32
  let v7243 : Index := Scalar.indexCast v3
  let c64_2520 : Index := 64#32
  let c2048_2521 : Index := 2048#32
  ![v7243.toNat, 64, 2048]
def k0_off219 (i : grid0.Coords) : Fin 3 → Nat :=
  let arg0 : BitVec 32 := BitVec.ofNat 32 (i 0).val
  let c1_i32 : BitVec 32 := 1#32
  let v3 : BitVec 32 := Scalar.andi arg0 c1_i32
  let v7280 : Index := Scalar.indexCast v3
  let c64_2534 : Index := 64#32
  let c2176_2535 : Index := 2176#32
  ![v7280.toNat, 64, 2176]
def k0_off220 (i : grid0.Coords) : Fin 3 → Nat :=
  let arg0 : BitVec 32 := BitVec.ofNat 32 (i 0).val
  let c1_i32 : BitVec 32 := 1#32
  let v3 : BitVec 32 := Scalar.andi arg0 c1_i32
  let v7317 : Index := Scalar.indexCast v3
  let c64_2548 : Index := 64#32
  let c2304_2549 : Index := 2304#32
  ![v7317.toNat, 64, 2304]
def k0_off221 (i : grid0.Coords) : Fin 3 → Nat :=
  let arg0 : BitVec 32 := BitVec.ofNat 32 (i 0).val
  let c1_i32 : BitVec 32 := 1#32
  let v3 : BitVec 32 := Scalar.andi arg0 c1_i32
  let v7354 : Index := Scalar.indexCast v3
  let c64_2562 : Index := 64#32
  let c2432_2563 : Index := 2432#32
  ![v7354.toNat, 64, 2432]
def k0_off222 (i : grid0.Coords) : Fin 3 → Nat :=
  let arg0 : BitVec 32 := BitVec.ofNat 32 (i 0).val
  let c1_i32 : BitVec 32 := 1#32
  let v3 : BitVec 32 := Scalar.andi arg0 c1_i32
  let v7391 : Index := Scalar.indexCast v3
  let c64_2576 : Index := 64#32
  let c2560_2577 : Index := 2560#32
  ![v7391.toNat, 64, 2560]
def k0_off223 (i : grid0.Coords) : Fin 3 → Nat :=
  let arg0 : BitVec 32 := BitVec.ofNat 32 (i 0).val
  let c1_i32 : BitVec 32 := 1#32
  let v3 : BitVec 32 := Scalar.andi arg0 c1_i32
  let v7428 : Index := Scalar.indexCast v3
  let c64_2590 : Index := 64#32
  let c2688_2591 : Index := 2688#32
  ![v7428.toNat, 64, 2688]
def k0_off224 (i : grid0.Coords) : Fin 3 → Nat :=
  let arg0 : BitVec 32 := BitVec.ofNat 32 (i 0).val
  let c1_i32 : BitVec 32 := 1#32
  let v3 : BitVec 32 := Scalar.andi arg0 c1_i32
  let v7465 : Index := Scalar.indexCast v3
  let c64_2604 : Index := 64#32
  let c2816_2605 : Index := 2816#32
  ![v7465.toNat, 64, 2816]
def k0_off225 (i : grid0.Coords) : Fin 3 → Nat :=
  let arg0 : BitVec 32 := BitVec.ofNat 32 (i 0).val
  let c1_i32 : BitVec 32 := 1#32
  let v3 : BitVec 32 := Scalar.andi arg0 c1_i32
  let v7502 : Index := Scalar.indexCast v3
  let c64_2618 : Index := 64#32
  let c2944_2619 : Index := 2944#32
  ![v7502.toNat, 64, 2944]
def k0_off226 (i : grid0.Coords) : Fin 3 → Nat :=
  let arg0 : BitVec 32 := BitVec.ofNat 32 (i 0).val
  let c1_i32 : BitVec 32 := 1#32
  let v3 : BitVec 32 := Scalar.andi arg0 c1_i32
  let v7539 : Index := Scalar.indexCast v3
  let c64_2632 : Index := 64#32
  let c3072_2633 : Index := 3072#32
  ![v7539.toNat, 64, 3072]
def k0_off227 (i : grid0.Coords) : Fin 3 → Nat :=
  let arg0 : BitVec 32 := BitVec.ofNat 32 (i 0).val
  let c1_i32 : BitVec 32 := 1#32
  let v3 : BitVec 32 := Scalar.andi arg0 c1_i32
  let v7576 : Index := Scalar.indexCast v3
  let c64_2646 : Index := 64#32
  let c3200_2647 : Index := 3200#32
  ![v7576.toNat, 64, 3200]
def k0_off228 (i : grid0.Coords) : Fin 3 → Nat :=
  let arg0 : BitVec 32 := BitVec.ofNat 32 (i 0).val
  let c1_i32 : BitVec 32 := 1#32
  let v3 : BitVec 32 := Scalar.andi arg0 c1_i32
  let v7613 : Index := Scalar.indexCast v3
  let c64_2660 : Index := 64#32
  let c3328_2661 : Index := 3328#32
  ![v7613.toNat, 64, 3328]
def k0_off229 (i : grid0.Coords) : Fin 3 → Nat :=
  let arg0 : BitVec 32 := BitVec.ofNat 32 (i 0).val
  let c1_i32 : BitVec 32 := 1#32
  let v3 : BitVec 32 := Scalar.andi arg0 c1_i32
  let v7650 : Index := Scalar.indexCast v3
  let c64_2674 : Index := 64#32
  let c3456_2675 : Index := 3456#32
  ![v7650.toNat, 64, 3456]
def k0_off230 (i : grid0.Coords) : Fin 3 → Nat :=
  let arg0 : BitVec 32 := BitVec.ofNat 32 (i 0).val
  let c1_i32 : BitVec 32 := 1#32
  let v3 : BitVec 32 := Scalar.andi arg0 c1_i32
  let v7687 : Index := Scalar.indexCast v3
  let c64_2688 : Index := 64#32
  let c3584_2689 : Index := 3584#32
  ![v7687.toNat, 64, 3584]
def k0_off231 (i : grid0.Coords) : Fin 3 → Nat :=
  let arg0 : BitVec 32 := BitVec.ofNat 32 (i 0).val
  let c1_i32 : BitVec 32 := 1#32
  let v3 : BitVec 32 := Scalar.andi arg0 c1_i32
  let v7724 : Index := Scalar.indexCast v3
  let c64_2702 : Index := 64#32
  let c3712_2703 : Index := 3712#32
  ![v7724.toNat, 64, 3712]
def k0_off232 (i : grid0.Coords) : Fin 3 → Nat :=
  let arg0 : BitVec 32 := BitVec.ofNat 32 (i 0).val
  let c1_i32 : BitVec 32 := 1#32
  let v3 : BitVec 32 := Scalar.andi arg0 c1_i32
  let v7761 : Index := Scalar.indexCast v3
  let c64_2716 : Index := 64#32
  let c3840_2717 : Index := 3840#32
  ![v7761.toNat, 64, 3840]
def k0_off233 (i : grid0.Coords) : Fin 3 → Nat :=
  let arg0 : BitVec 32 := BitVec.ofNat 32 (i 0).val
  let c1_i32 : BitVec 32 := 1#32
  let v3 : BitVec 32 := Scalar.andi arg0 c1_i32
  let v7798 : Index := Scalar.indexCast v3
  let c64_2730 : Index := 64#32
  let c3968_2731 : Index := 3968#32
  ![v7798.toNat, 64, 3968]
def k0_off234 (i : grid0.Coords) : Fin 3 → Nat :=
  let arg0 : BitVec 32 := BitVec.ofNat 32 (i 0).val
  let c1_i32 : BitVec 32 := 1#32
  let v3 : BitVec 32 := Scalar.andi arg0 c1_i32
  let v8251 : Index := Scalar.indexCast v3
  let c64_2883 : Index := 64#32
  let c4096_2884 : Index := 4096#32
  ![v8251.toNat, 64, 4096]
def k0_off235 (i : grid0.Coords) : Fin 3 → Nat :=
  let arg0 : BitVec 32 := BitVec.ofNat 32 (i 0).val
  let c1_i32 : BitVec 32 := 1#32
  let v3 : BitVec 32 := Scalar.andi arg0 c1_i32
  let v8288 : Index := Scalar.indexCast v3
  let c64_2897 : Index := 64#32
  let c4224_2898 : Index := 4224#32
  ![v8288.toNat, 64, 4224]
def k0_off236 (i : grid0.Coords) : Fin 3 → Nat :=
  let arg0 : BitVec 32 := BitVec.ofNat 32 (i 0).val
  let c1_i32 : BitVec 32 := 1#32
  let v3 : BitVec 32 := Scalar.andi arg0 c1_i32
  let v8325 : Index := Scalar.indexCast v3
  let c64_2911 : Index := 64#32
  let c4352_2912 : Index := 4352#32
  ![v8325.toNat, 64, 4352]
def k0_off237 (i : grid0.Coords) : Fin 3 → Nat :=
  let arg0 : BitVec 32 := BitVec.ofNat 32 (i 0).val
  let c1_i32 : BitVec 32 := 1#32
  let v3 : BitVec 32 := Scalar.andi arg0 c1_i32
  let v8362 : Index := Scalar.indexCast v3
  let c64_2925 : Index := 64#32
  let c4480_2926 : Index := 4480#32
  ![v8362.toNat, 64, 4480]
def k0_off238 (i : grid0.Coords) : Fin 3 → Nat :=
  let arg0 : BitVec 32 := BitVec.ofNat 32 (i 0).val
  let c1_i32 : BitVec 32 := 1#32
  let v3 : BitVec 32 := Scalar.andi arg0 c1_i32
  let v8399 : Index := Scalar.indexCast v3
  let c64_2939 : Index := 64#32
  let c4608_2940 : Index := 4608#32
  ![v8399.toNat, 64, 4608]
def k0_off239 (i : grid0.Coords) : Fin 3 → Nat :=
  let arg0 : BitVec 32 := BitVec.ofNat 32 (i 0).val
  let c1_i32 : BitVec 32 := 1#32
  let v3 : BitVec 32 := Scalar.andi arg0 c1_i32
  let v8436 : Index := Scalar.indexCast v3
  let c64_2953 : Index := 64#32
  let c4736_2954 : Index := 4736#32
  ![v8436.toNat, 64, 4736]
def k0_off240 (i : grid0.Coords) : Fin 3 → Nat :=
  let arg0 : BitVec 32 := BitVec.ofNat 32 (i 0).val
  let c1_i32 : BitVec 32 := 1#32
  let v3 : BitVec 32 := Scalar.andi arg0 c1_i32
  let v8473 : Index := Scalar.indexCast v3
  let c64_2967 : Index := 64#32
  let c4864_2968 : Index := 4864#32
  ![v8473.toNat, 64, 4864]
def k0_off241 (i : grid0.Coords) : Fin 3 → Nat :=
  let arg0 : BitVec 32 := BitVec.ofNat 32 (i 0).val
  let c1_i32 : BitVec 32 := 1#32
  let v3 : BitVec 32 := Scalar.andi arg0 c1_i32
  let v8510 : Index := Scalar.indexCast v3
  let c64_2981 : Index := 64#32
  let c4992_2982 : Index := 4992#32
  ![v8510.toNat, 64, 4992]
def k0_off242 (i : grid0.Coords) : Fin 3 → Nat :=
  let arg0 : BitVec 32 := BitVec.ofNat 32 (i 0).val
  let c1_i32 : BitVec 32 := 1#32
  let v3 : BitVec 32 := Scalar.andi arg0 c1_i32
  let v8547 : Index := Scalar.indexCast v3
  let c64_2995 : Index := 64#32
  let c5120_2996 : Index := 5120#32
  ![v8547.toNat, 64, 5120]
def k0_off243 (i : grid0.Coords) : Fin 3 → Nat :=
  let arg0 : BitVec 32 := BitVec.ofNat 32 (i 0).val
  let c1_i32 : BitVec 32 := 1#32
  let v3 : BitVec 32 := Scalar.andi arg0 c1_i32
  let v8584 : Index := Scalar.indexCast v3
  let c64_3009 : Index := 64#32
  let c5248_3010 : Index := 5248#32
  ![v8584.toNat, 64, 5248]
def k0_off244 (i : grid0.Coords) : Fin 3 → Nat :=
  let arg0 : BitVec 32 := BitVec.ofNat 32 (i 0).val
  let c1_i32 : BitVec 32 := 1#32
  let v3 : BitVec 32 := Scalar.andi arg0 c1_i32
  let v8621 : Index := Scalar.indexCast v3
  let c64_3023 : Index := 64#32
  let c5376_3024 : Index := 5376#32
  ![v8621.toNat, 64, 5376]
def k0_off245 (i : grid0.Coords) : Fin 3 → Nat :=
  let arg0 : BitVec 32 := BitVec.ofNat 32 (i 0).val
  let c1_i32 : BitVec 32 := 1#32
  let v3 : BitVec 32 := Scalar.andi arg0 c1_i32
  let v8658 : Index := Scalar.indexCast v3
  let c64_3037 : Index := 64#32
  let c5504_3038 : Index := 5504#32
  ![v8658.toNat, 64, 5504]
def k0_off246 (i : grid0.Coords) : Fin 3 → Nat :=
  let arg0 : BitVec 32 := BitVec.ofNat 32 (i 0).val
  let c1_i32 : BitVec 32 := 1#32
  let v3 : BitVec 32 := Scalar.andi arg0 c1_i32
  let v8695 : Index := Scalar.indexCast v3
  let c64_3051 : Index := 64#32
  let c5632_3052 : Index := 5632#32
  ![v8695.toNat, 64, 5632]
def k0_off247 (i : grid0.Coords) : Fin 3 → Nat :=
  let arg0 : BitVec 32 := BitVec.ofNat 32 (i 0).val
  let c1_i32 : BitVec 32 := 1#32
  let v3 : BitVec 32 := Scalar.andi arg0 c1_i32
  let v8732 : Index := Scalar.indexCast v3
  let c64_3065 : Index := 64#32
  let c5760_3066 : Index := 5760#32
  ![v8732.toNat, 64, 5760]
def k0_off248 (i : grid0.Coords) : Fin 3 → Nat :=
  let arg0 : BitVec 32 := BitVec.ofNat 32 (i 0).val
  let c1_i32 : BitVec 32 := 1#32
  let v3 : BitVec 32 := Scalar.andi arg0 c1_i32
  let v8769 : Index := Scalar.indexCast v3
  let c64_3079 : Index := 64#32
  let c5888_3080 : Index := 5888#32
  ![v8769.toNat, 64, 5888]
def k0_off249 (i : grid0.Coords) : Fin 3 → Nat :=
  let arg0 : BitVec 32 := BitVec.ofNat 32 (i 0).val
  let c1_i32 : BitVec 32 := 1#32
  let v3 : BitVec 32 := Scalar.andi arg0 c1_i32
  let v8806 : Index := Scalar.indexCast v3
  let c64_3093 : Index := 64#32
  let c6016_3094 : Index := 6016#32
  ![v8806.toNat, 64, 6016]
def k0_off250 (i : grid0.Coords) : Fin 3 → Nat :=
  let arg0 : BitVec 32 := BitVec.ofNat 32 (i 0).val
  let c1_i32 : BitVec 32 := 1#32
  let v3 : BitVec 32 := Scalar.andi arg0 c1_i32
  let v9586 : Index := Scalar.indexCast v3
  let c96_3355 : Index := 96#32
  let c0_3356 : Index := 0#32
  ![v9586.toNat, 96, 0]
def k0_off251 (i : grid0.Coords) : Fin 3 → Nat :=
  let arg0 : BitVec 32 := BitVec.ofNat 32 (i 0).val
  let c1_i32 : BitVec 32 := 1#32
  let v3 : BitVec 32 := Scalar.andi arg0 c1_i32
  let v9623 : Index := Scalar.indexCast v3
  let c96_3369 : Index := 96#32
  let c128_3370 : Index := 128#32
  ![v9623.toNat, 96, 128]
def k0_off252 (i : grid0.Coords) : Fin 3 → Nat :=
  let arg0 : BitVec 32 := BitVec.ofNat 32 (i 0).val
  let c1_i32 : BitVec 32 := 1#32
  let v3 : BitVec 32 := Scalar.andi arg0 c1_i32
  let v9660 : Index := Scalar.indexCast v3
  let c96_3383 : Index := 96#32
  let c256_3384 : Index := 256#32
  ![v9660.toNat, 96, 256]
def k0_off253 (i : grid0.Coords) : Fin 3 → Nat :=
  let arg0 : BitVec 32 := BitVec.ofNat 32 (i 0).val
  let c1_i32 : BitVec 32 := 1#32
  let v3 : BitVec 32 := Scalar.andi arg0 c1_i32
  let v9697 : Index := Scalar.indexCast v3
  let c96_3397 : Index := 96#32
  let c384_3398 : Index := 384#32
  ![v9697.toNat, 96, 384]
def k0_off254 (i : grid0.Coords) : Fin 3 → Nat :=
  let arg0 : BitVec 32 := BitVec.ofNat 32 (i 0).val
  let c1_i32 : BitVec 32 := 1#32
  let v3 : BitVec 32 := Scalar.andi arg0 c1_i32
  let v9734 : Index := Scalar.indexCast v3
  let c96_3411 : Index := 96#32
  let c512_3412 : Index := 512#32
  ![v9734.toNat, 96, 512]
def k0_off255 (i : grid0.Coords) : Fin 3 → Nat :=
  let arg0 : BitVec 32 := BitVec.ofNat 32 (i 0).val
  let c1_i32 : BitVec 32 := 1#32
  let v3 : BitVec 32 := Scalar.andi arg0 c1_i32
  let v9771 : Index := Scalar.indexCast v3
  let c96_3425 : Index := 96#32
  let c640_3426 : Index := 640#32
  ![v9771.toNat, 96, 640]
def k0_off256 (i : grid0.Coords) : Fin 3 → Nat :=
  let arg0 : BitVec 32 := BitVec.ofNat 32 (i 0).val
  let c1_i32 : BitVec 32 := 1#32
  let v3 : BitVec 32 := Scalar.andi arg0 c1_i32
  let v9808 : Index := Scalar.indexCast v3
  let c96_3439 : Index := 96#32
  let c768_3440 : Index := 768#32
  ![v9808.toNat, 96, 768]
def k0_off257 (i : grid0.Coords) : Fin 3 → Nat :=
  let arg0 : BitVec 32 := BitVec.ofNat 32 (i 0).val
  let c1_i32 : BitVec 32 := 1#32
  let v3 : BitVec 32 := Scalar.andi arg0 c1_i32
  let v9845 : Index := Scalar.indexCast v3
  let c96_3453 : Index := 96#32
  let c896_3454 : Index := 896#32
  ![v9845.toNat, 96, 896]
def k0_off258 (i : grid0.Coords) : Fin 3 → Nat :=
  let arg0 : BitVec 32 := BitVec.ofNat 32 (i 0).val
  let c1_i32 : BitVec 32 := 1#32
  let v3 : BitVec 32 := Scalar.andi arg0 c1_i32
  let v9882 : Index := Scalar.indexCast v3
  let c96_3467 : Index := 96#32
  let c1024_3468 : Index := 1024#32
  ![v9882.toNat, 96, 1024]
def k0_off259 (i : grid0.Coords) : Fin 3 → Nat :=
  let arg0 : BitVec 32 := BitVec.ofNat 32 (i 0).val
  let c1_i32 : BitVec 32 := 1#32
  let v3 : BitVec 32 := Scalar.andi arg0 c1_i32
  let v9919 : Index := Scalar.indexCast v3
  let c96_3481 : Index := 96#32
  let c1152_3482 : Index := 1152#32
  ![v9919.toNat, 96, 1152]
def k0_off260 (i : grid0.Coords) : Fin 3 → Nat :=
  let arg0 : BitVec 32 := BitVec.ofNat 32 (i 0).val
  let c1_i32 : BitVec 32 := 1#32
  let v3 : BitVec 32 := Scalar.andi arg0 c1_i32
  let v9956 : Index := Scalar.indexCast v3
  let c96_3495 : Index := 96#32
  let c1280_3496 : Index := 1280#32
  ![v9956.toNat, 96, 1280]
def k0_off261 (i : grid0.Coords) : Fin 3 → Nat :=
  let arg0 : BitVec 32 := BitVec.ofNat 32 (i 0).val
  let c1_i32 : BitVec 32 := 1#32
  let v3 : BitVec 32 := Scalar.andi arg0 c1_i32
  let v9993 : Index := Scalar.indexCast v3
  let c96_3509 : Index := 96#32
  let c1408_3510 : Index := 1408#32
  ![v9993.toNat, 96, 1408]
def k0_off262 (i : grid0.Coords) : Fin 3 → Nat :=
  let arg0 : BitVec 32 := BitVec.ofNat 32 (i 0).val
  let c1_i32 : BitVec 32 := 1#32
  let v3 : BitVec 32 := Scalar.andi arg0 c1_i32
  let v10030 : Index := Scalar.indexCast v3
  let c96_3523 : Index := 96#32
  let c1536_3524 : Index := 1536#32
  ![v10030.toNat, 96, 1536]
def k0_off263 (i : grid0.Coords) : Fin 3 → Nat :=
  let arg0 : BitVec 32 := BitVec.ofNat 32 (i 0).val
  let c1_i32 : BitVec 32 := 1#32
  let v3 : BitVec 32 := Scalar.andi arg0 c1_i32
  let v10067 : Index := Scalar.indexCast v3
  let c96_3537 : Index := 96#32
  let c1664_3538 : Index := 1664#32
  ![v10067.toNat, 96, 1664]
def k0_off264 (i : grid0.Coords) : Fin 3 → Nat :=
  let arg0 : BitVec 32 := BitVec.ofNat 32 (i 0).val
  let c1_i32 : BitVec 32 := 1#32
  let v3 : BitVec 32 := Scalar.andi arg0 c1_i32
  let v10104 : Index := Scalar.indexCast v3
  let c96_3551 : Index := 96#32
  let c1792_3552 : Index := 1792#32
  ![v10104.toNat, 96, 1792]
def k0_off265 (i : grid0.Coords) : Fin 3 → Nat :=
  let arg0 : BitVec 32 := BitVec.ofNat 32 (i 0).val
  let c1_i32 : BitVec 32 := 1#32
  let v3 : BitVec 32 := Scalar.andi arg0 c1_i32
  let v10141 : Index := Scalar.indexCast v3
  let c96_3565 : Index := 96#32
  let c1920_3566 : Index := 1920#32
  ![v10141.toNat, 96, 1920]
def k0_off266 (i : grid0.Coords) : Fin 3 → Nat :=
  let arg0 : BitVec 32 := BitVec.ofNat 32 (i 0).val
  let c1_i32 : BitVec 32 := 1#32
  let v3 : BitVec 32 := Scalar.andi arg0 c1_i32
  let v10178 : Index := Scalar.indexCast v3
  let c96_3579 : Index := 96#32
  let c2048_3580 : Index := 2048#32
  ![v10178.toNat, 96, 2048]
def k0_off267 (i : grid0.Coords) : Fin 3 → Nat :=
  let arg0 : BitVec 32 := BitVec.ofNat 32 (i 0).val
  let c1_i32 : BitVec 32 := 1#32
  let v3 : BitVec 32 := Scalar.andi arg0 c1_i32
  let v10215 : Index := Scalar.indexCast v3
  let c96_3593 : Index := 96#32
  let c2176_3594 : Index := 2176#32
  ![v10215.toNat, 96, 2176]
def k0_off268 (i : grid0.Coords) : Fin 3 → Nat :=
  let arg0 : BitVec 32 := BitVec.ofNat 32 (i 0).val
  let c1_i32 : BitVec 32 := 1#32
  let v3 : BitVec 32 := Scalar.andi arg0 c1_i32
  let v10252 : Index := Scalar.indexCast v3
  let c96_3607 : Index := 96#32
  let c2304_3608 : Index := 2304#32
  ![v10252.toNat, 96, 2304]
def k0_off269 (i : grid0.Coords) : Fin 3 → Nat :=
  let arg0 : BitVec 32 := BitVec.ofNat 32 (i 0).val
  let c1_i32 : BitVec 32 := 1#32
  let v3 : BitVec 32 := Scalar.andi arg0 c1_i32
  let v10289 : Index := Scalar.indexCast v3
  let c96_3621 : Index := 96#32
  let c2432_3622 : Index := 2432#32
  ![v10289.toNat, 96, 2432]
def k0_off270 (i : grid0.Coords) : Fin 3 → Nat :=
  let arg0 : BitVec 32 := BitVec.ofNat 32 (i 0).val
  let c1_i32 : BitVec 32 := 1#32
  let v3 : BitVec 32 := Scalar.andi arg0 c1_i32
  let v10326 : Index := Scalar.indexCast v3
  let c96_3635 : Index := 96#32
  let c2560_3636 : Index := 2560#32
  ![v10326.toNat, 96, 2560]
def k0_off271 (i : grid0.Coords) : Fin 3 → Nat :=
  let arg0 : BitVec 32 := BitVec.ofNat 32 (i 0).val
  let c1_i32 : BitVec 32 := 1#32
  let v3 : BitVec 32 := Scalar.andi arg0 c1_i32
  let v10363 : Index := Scalar.indexCast v3
  let c96_3649 : Index := 96#32
  let c2688_3650 : Index := 2688#32
  ![v10363.toNat, 96, 2688]
def k0_off272 (i : grid0.Coords) : Fin 3 → Nat :=
  let arg0 : BitVec 32 := BitVec.ofNat 32 (i 0).val
  let c1_i32 : BitVec 32 := 1#32
  let v3 : BitVec 32 := Scalar.andi arg0 c1_i32
  let v10400 : Index := Scalar.indexCast v3
  let c96_3663 : Index := 96#32
  let c2816_3664 : Index := 2816#32
  ![v10400.toNat, 96, 2816]
def k0_off273 (i : grid0.Coords) : Fin 3 → Nat :=
  let arg0 : BitVec 32 := BitVec.ofNat 32 (i 0).val
  let c1_i32 : BitVec 32 := 1#32
  let v3 : BitVec 32 := Scalar.andi arg0 c1_i32
  let v10437 : Index := Scalar.indexCast v3
  let c96_3677 : Index := 96#32
  let c2944_3678 : Index := 2944#32
  ![v10437.toNat, 96, 2944]
def k0_off274 (i : grid0.Coords) : Fin 3 → Nat :=
  let arg0 : BitVec 32 := BitVec.ofNat 32 (i 0).val
  let c1_i32 : BitVec 32 := 1#32
  let v3 : BitVec 32 := Scalar.andi arg0 c1_i32
  let v10474 : Index := Scalar.indexCast v3
  let c96_3691 : Index := 96#32
  let c3072_3692 : Index := 3072#32
  ![v10474.toNat, 96, 3072]
def k0_off275 (i : grid0.Coords) : Fin 3 → Nat :=
  let arg0 : BitVec 32 := BitVec.ofNat 32 (i 0).val
  let c1_i32 : BitVec 32 := 1#32
  let v3 : BitVec 32 := Scalar.andi arg0 c1_i32
  let v10511 : Index := Scalar.indexCast v3
  let c96_3705 : Index := 96#32
  let c3200_3706 : Index := 3200#32
  ![v10511.toNat, 96, 3200]
def k0_off276 (i : grid0.Coords) : Fin 3 → Nat :=
  let arg0 : BitVec 32 := BitVec.ofNat 32 (i 0).val
  let c1_i32 : BitVec 32 := 1#32
  let v3 : BitVec 32 := Scalar.andi arg0 c1_i32
  let v10548 : Index := Scalar.indexCast v3
  let c96_3719 : Index := 96#32
  let c3328_3720 : Index := 3328#32
  ![v10548.toNat, 96, 3328]
def k0_off277 (i : grid0.Coords) : Fin 3 → Nat :=
  let arg0 : BitVec 32 := BitVec.ofNat 32 (i 0).val
  let c1_i32 : BitVec 32 := 1#32
  let v3 : BitVec 32 := Scalar.andi arg0 c1_i32
  let v10585 : Index := Scalar.indexCast v3
  let c96_3733 : Index := 96#32
  let c3456_3734 : Index := 3456#32
  ![v10585.toNat, 96, 3456]
def k0_off278 (i : grid0.Coords) : Fin 3 → Nat :=
  let arg0 : BitVec 32 := BitVec.ofNat 32 (i 0).val
  let c1_i32 : BitVec 32 := 1#32
  let v3 : BitVec 32 := Scalar.andi arg0 c1_i32
  let v10622 : Index := Scalar.indexCast v3
  let c96_3747 : Index := 96#32
  let c3584_3748 : Index := 3584#32
  ![v10622.toNat, 96, 3584]
def k0_off279 (i : grid0.Coords) : Fin 3 → Nat :=
  let arg0 : BitVec 32 := BitVec.ofNat 32 (i 0).val
  let c1_i32 : BitVec 32 := 1#32
  let v3 : BitVec 32 := Scalar.andi arg0 c1_i32
  let v10659 : Index := Scalar.indexCast v3
  let c96_3761 : Index := 96#32
  let c3712_3762 : Index := 3712#32
  ![v10659.toNat, 96, 3712]
def k0_off280 (i : grid0.Coords) : Fin 3 → Nat :=
  let arg0 : BitVec 32 := BitVec.ofNat 32 (i 0).val
  let c1_i32 : BitVec 32 := 1#32
  let v3 : BitVec 32 := Scalar.andi arg0 c1_i32
  let v10696 : Index := Scalar.indexCast v3
  let c96_3775 : Index := 96#32
  let c3840_3776 : Index := 3840#32
  ![v10696.toNat, 96, 3840]
def k0_off281 (i : grid0.Coords) : Fin 3 → Nat :=
  let arg0 : BitVec 32 := BitVec.ofNat 32 (i 0).val
  let c1_i32 : BitVec 32 := 1#32
  let v3 : BitVec 32 := Scalar.andi arg0 c1_i32
  let v10733 : Index := Scalar.indexCast v3
  let c96_3789 : Index := 96#32
  let c3968_3790 : Index := 3968#32
  ![v10733.toNat, 96, 3968]
def k0_off282 (i : grid0.Coords) : Fin 3 → Nat :=
  let arg0 : BitVec 32 := BitVec.ofNat 32 (i 0).val
  let c1_i32 : BitVec 32 := 1#32
  let v3 : BitVec 32 := Scalar.andi arg0 c1_i32
  let v11186 : Index := Scalar.indexCast v3
  let c96_3942 : Index := 96#32
  let c4096_3943 : Index := 4096#32
  ![v11186.toNat, 96, 4096]
def k0_off283 (i : grid0.Coords) : Fin 3 → Nat :=
  let arg0 : BitVec 32 := BitVec.ofNat 32 (i 0).val
  let c1_i32 : BitVec 32 := 1#32
  let v3 : BitVec 32 := Scalar.andi arg0 c1_i32
  let v11223 : Index := Scalar.indexCast v3
  let c96_3956 : Index := 96#32
  let c4224_3957 : Index := 4224#32
  ![v11223.toNat, 96, 4224]
def k0_off284 (i : grid0.Coords) : Fin 3 → Nat :=
  let arg0 : BitVec 32 := BitVec.ofNat 32 (i 0).val
  let c1_i32 : BitVec 32 := 1#32
  let v3 : BitVec 32 := Scalar.andi arg0 c1_i32
  let v11260 : Index := Scalar.indexCast v3
  let c96_3970 : Index := 96#32
  let c4352_3971 : Index := 4352#32
  ![v11260.toNat, 96, 4352]
def k0_off285 (i : grid0.Coords) : Fin 3 → Nat :=
  let arg0 : BitVec 32 := BitVec.ofNat 32 (i 0).val
  let c1_i32 : BitVec 32 := 1#32
  let v3 : BitVec 32 := Scalar.andi arg0 c1_i32
  let v11297 : Index := Scalar.indexCast v3
  let c96_3984 : Index := 96#32
  let c4480_3985 : Index := 4480#32
  ![v11297.toNat, 96, 4480]
def k0_off286 (i : grid0.Coords) : Fin 3 → Nat :=
  let arg0 : BitVec 32 := BitVec.ofNat 32 (i 0).val
  let c1_i32 : BitVec 32 := 1#32
  let v3 : BitVec 32 := Scalar.andi arg0 c1_i32
  let v11334 : Index := Scalar.indexCast v3
  let c96_3998 : Index := 96#32
  let c4608_3999 : Index := 4608#32
  ![v11334.toNat, 96, 4608]
def k0_off287 (i : grid0.Coords) : Fin 3 → Nat :=
  let arg0 : BitVec 32 := BitVec.ofNat 32 (i 0).val
  let c1_i32 : BitVec 32 := 1#32
  let v3 : BitVec 32 := Scalar.andi arg0 c1_i32
  let v11371 : Index := Scalar.indexCast v3
  let c96_4012 : Index := 96#32
  let c4736_4013 : Index := 4736#32
  ![v11371.toNat, 96, 4736]
def k0_off288 (i : grid0.Coords) : Fin 3 → Nat :=
  let arg0 : BitVec 32 := BitVec.ofNat 32 (i 0).val
  let c1_i32 : BitVec 32 := 1#32
  let v3 : BitVec 32 := Scalar.andi arg0 c1_i32
  let v11408 : Index := Scalar.indexCast v3
  let c96_4026 : Index := 96#32
  let c4864_4027 : Index := 4864#32
  ![v11408.toNat, 96, 4864]
def k0_off289 (i : grid0.Coords) : Fin 3 → Nat :=
  let arg0 : BitVec 32 := BitVec.ofNat 32 (i 0).val
  let c1_i32 : BitVec 32 := 1#32
  let v3 : BitVec 32 := Scalar.andi arg0 c1_i32
  let v11445 : Index := Scalar.indexCast v3
  let c96_4040 : Index := 96#32
  let c4992_4041 : Index := 4992#32
  ![v11445.toNat, 96, 4992]
def k0_off290 (i : grid0.Coords) : Fin 3 → Nat :=
  let arg0 : BitVec 32 := BitVec.ofNat 32 (i 0).val
  let c1_i32 : BitVec 32 := 1#32
  let v3 : BitVec 32 := Scalar.andi arg0 c1_i32
  let v11482 : Index := Scalar.indexCast v3
  let c96_4054 : Index := 96#32
  let c5120_4055 : Index := 5120#32
  ![v11482.toNat, 96, 5120]
def k0_off291 (i : grid0.Coords) : Fin 3 → Nat :=
  let arg0 : BitVec 32 := BitVec.ofNat 32 (i 0).val
  let c1_i32 : BitVec 32 := 1#32
  let v3 : BitVec 32 := Scalar.andi arg0 c1_i32
  let v11519 : Index := Scalar.indexCast v3
  let c96_4068 : Index := 96#32
  let c5248_4069 : Index := 5248#32
  ![v11519.toNat, 96, 5248]
def k0_off292 (i : grid0.Coords) : Fin 3 → Nat :=
  let arg0 : BitVec 32 := BitVec.ofNat 32 (i 0).val
  let c1_i32 : BitVec 32 := 1#32
  let v3 : BitVec 32 := Scalar.andi arg0 c1_i32
  let v11556 : Index := Scalar.indexCast v3
  let c96_4082 : Index := 96#32
  let c5376_4083 : Index := 5376#32
  ![v11556.toNat, 96, 5376]
def k0_off293 (i : grid0.Coords) : Fin 3 → Nat :=
  let arg0 : BitVec 32 := BitVec.ofNat 32 (i 0).val
  let c1_i32 : BitVec 32 := 1#32
  let v3 : BitVec 32 := Scalar.andi arg0 c1_i32
  let v11593 : Index := Scalar.indexCast v3
  let c96_4096 : Index := 96#32
  let c5504_4097 : Index := 5504#32
  ![v11593.toNat, 96, 5504]
def k0_off294 (i : grid0.Coords) : Fin 3 → Nat :=
  let arg0 : BitVec 32 := BitVec.ofNat 32 (i 0).val
  let c1_i32 : BitVec 32 := 1#32
  let v3 : BitVec 32 := Scalar.andi arg0 c1_i32
  let v11630 : Index := Scalar.indexCast v3
  let c96_4110 : Index := 96#32
  let c5632_4111 : Index := 5632#32
  ![v11630.toNat, 96, 5632]
def k0_off295 (i : grid0.Coords) : Fin 3 → Nat :=
  let arg0 : BitVec 32 := BitVec.ofNat 32 (i 0).val
  let c1_i32 : BitVec 32 := 1#32
  let v3 : BitVec 32 := Scalar.andi arg0 c1_i32
  let v11667 : Index := Scalar.indexCast v3
  let c96_4124 : Index := 96#32
  let c5760_4125 : Index := 5760#32
  ![v11667.toNat, 96, 5760]
def k0_off296 (i : grid0.Coords) : Fin 3 → Nat :=
  let arg0 : BitVec 32 := BitVec.ofNat 32 (i 0).val
  let c1_i32 : BitVec 32 := 1#32
  let v3 : BitVec 32 := Scalar.andi arg0 c1_i32
  let v11704 : Index := Scalar.indexCast v3
  let c96_4138 : Index := 96#32
  let c5888_4139 : Index := 5888#32
  ![v11704.toNat, 96, 5888]
def k0_off297 (i : grid0.Coords) : Fin 3 → Nat :=
  let arg0 : BitVec 32 := BitVec.ofNat 32 (i 0).val
  let c1_i32 : BitVec 32 := 1#32
  let v3 : BitVec 32 := Scalar.andi arg0 c1_i32
  let v11741 : Index := Scalar.indexCast v3
  let c96_4152 : Index := 96#32
  let c6016_4153 : Index := 6016#32
  ![v11741.toNat, 96, 6016]
def k0_off298 (i : grid0.Coords) : Fin 3 → Nat :=
  let arg0 : BitVec 32 := BitVec.ofNat 32 (i 0).val
  let c1_i32 : BitVec 32 := 1#32
  let v3 : BitVec 32 := Scalar.andi arg0 c1_i32
  let v12521 : Index := Scalar.indexCast v3
  let c128_4415 : Index := 128#32
  let c0_4416 : Index := 0#32
  ![v12521.toNat, 128, 0]
def k0_off299 (i : grid0.Coords) : Fin 3 → Nat :=
  let arg0 : BitVec 32 := BitVec.ofNat 32 (i 0).val
  let c1_i32 : BitVec 32 := 1#32
  let v3 : BitVec 32 := Scalar.andi arg0 c1_i32
  let v12558 : Index := Scalar.indexCast v3
  let c128_4429 : Index := 128#32
  let c128_4430 : Index := 128#32
  ![v12558.toNat, 128, 128]
def k0_off300 (i : grid0.Coords) : Fin 3 → Nat :=
  let arg0 : BitVec 32 := BitVec.ofNat 32 (i 0).val
  let c1_i32 : BitVec 32 := 1#32
  let v3 : BitVec 32 := Scalar.andi arg0 c1_i32
  let v12595 : Index := Scalar.indexCast v3
  let c128_4443 : Index := 128#32
  let c256_4444 : Index := 256#32
  ![v12595.toNat, 128, 256]
def k0_off301 (i : grid0.Coords) : Fin 3 → Nat :=
  let arg0 : BitVec 32 := BitVec.ofNat 32 (i 0).val
  let c1_i32 : BitVec 32 := 1#32
  let v3 : BitVec 32 := Scalar.andi arg0 c1_i32
  let v12632 : Index := Scalar.indexCast v3
  let c128_4457 : Index := 128#32
  let c384_4458 : Index := 384#32
  ![v12632.toNat, 128, 384]
def k0_off302 (i : grid0.Coords) : Fin 3 → Nat :=
  let arg0 : BitVec 32 := BitVec.ofNat 32 (i 0).val
  let c1_i32 : BitVec 32 := 1#32
  let v3 : BitVec 32 := Scalar.andi arg0 c1_i32
  let v12669 : Index := Scalar.indexCast v3
  let c128_4471 : Index := 128#32
  let c512_4472 : Index := 512#32
  ![v12669.toNat, 128, 512]
def k0_off303 (i : grid0.Coords) : Fin 3 → Nat :=
  let arg0 : BitVec 32 := BitVec.ofNat 32 (i 0).val
  let c1_i32 : BitVec 32 := 1#32
  let v3 : BitVec 32 := Scalar.andi arg0 c1_i32
  let v12706 : Index := Scalar.indexCast v3
  let c128_4485 : Index := 128#32
  let c640_4486 : Index := 640#32
  ![v12706.toNat, 128, 640]
def k0_off304 (i : grid0.Coords) : Fin 3 → Nat :=
  let arg0 : BitVec 32 := BitVec.ofNat 32 (i 0).val
  let c1_i32 : BitVec 32 := 1#32
  let v3 : BitVec 32 := Scalar.andi arg0 c1_i32
  let v12743 : Index := Scalar.indexCast v3
  let c128_4499 : Index := 128#32
  let c768_4500 : Index := 768#32
  ![v12743.toNat, 128, 768]
def k0_off305 (i : grid0.Coords) : Fin 3 → Nat :=
  let arg0 : BitVec 32 := BitVec.ofNat 32 (i 0).val
  let c1_i32 : BitVec 32 := 1#32
  let v3 : BitVec 32 := Scalar.andi arg0 c1_i32
  let v12780 : Index := Scalar.indexCast v3
  let c128_4513 : Index := 128#32
  let c896_4514 : Index := 896#32
  ![v12780.toNat, 128, 896]
def k0_off306 (i : grid0.Coords) : Fin 3 → Nat :=
  let arg0 : BitVec 32 := BitVec.ofNat 32 (i 0).val
  let c1_i32 : BitVec 32 := 1#32
  let v3 : BitVec 32 := Scalar.andi arg0 c1_i32
  let v12817 : Index := Scalar.indexCast v3
  let c128_4527 : Index := 128#32
  let c1024_4528 : Index := 1024#32
  ![v12817.toNat, 128, 1024]
def k0_off307 (i : grid0.Coords) : Fin 3 → Nat :=
  let arg0 : BitVec 32 := BitVec.ofNat 32 (i 0).val
  let c1_i32 : BitVec 32 := 1#32
  let v3 : BitVec 32 := Scalar.andi arg0 c1_i32
  let v12854 : Index := Scalar.indexCast v3
  let c128_4541 : Index := 128#32
  let c1152_4542 : Index := 1152#32
  ![v12854.toNat, 128, 1152]
def k0_off308 (i : grid0.Coords) : Fin 3 → Nat :=
  let arg0 : BitVec 32 := BitVec.ofNat 32 (i 0).val
  let c1_i32 : BitVec 32 := 1#32
  let v3 : BitVec 32 := Scalar.andi arg0 c1_i32
  let v12891 : Index := Scalar.indexCast v3
  let c128_4555 : Index := 128#32
  let c1280_4556 : Index := 1280#32
  ![v12891.toNat, 128, 1280]
def k0_off309 (i : grid0.Coords) : Fin 3 → Nat :=
  let arg0 : BitVec 32 := BitVec.ofNat 32 (i 0).val
  let c1_i32 : BitVec 32 := 1#32
  let v3 : BitVec 32 := Scalar.andi arg0 c1_i32
  let v12928 : Index := Scalar.indexCast v3
  let c128_4569 : Index := 128#32
  let c1408_4570 : Index := 1408#32
  ![v12928.toNat, 128, 1408]
def k0_off310 (i : grid0.Coords) : Fin 3 → Nat :=
  let arg0 : BitVec 32 := BitVec.ofNat 32 (i 0).val
  let c1_i32 : BitVec 32 := 1#32
  let v3 : BitVec 32 := Scalar.andi arg0 c1_i32
  let v12965 : Index := Scalar.indexCast v3
  let c128_4583 : Index := 128#32
  let c1536_4584 : Index := 1536#32
  ![v12965.toNat, 128, 1536]
def k0_off311 (i : grid0.Coords) : Fin 3 → Nat :=
  let arg0 : BitVec 32 := BitVec.ofNat 32 (i 0).val
  let c1_i32 : BitVec 32 := 1#32
  let v3 : BitVec 32 := Scalar.andi arg0 c1_i32
  let v13002 : Index := Scalar.indexCast v3
  let c128_4597 : Index := 128#32
  let c1664_4598 : Index := 1664#32
  ![v13002.toNat, 128, 1664]
def k0_off312 (i : grid0.Coords) : Fin 3 → Nat :=
  let arg0 : BitVec 32 := BitVec.ofNat 32 (i 0).val
  let c1_i32 : BitVec 32 := 1#32
  let v3 : BitVec 32 := Scalar.andi arg0 c1_i32
  let v13039 : Index := Scalar.indexCast v3
  let c128_4611 : Index := 128#32
  let c1792_4612 : Index := 1792#32
  ![v13039.toNat, 128, 1792]
def k0_off313 (i : grid0.Coords) : Fin 3 → Nat :=
  let arg0 : BitVec 32 := BitVec.ofNat 32 (i 0).val
  let c1_i32 : BitVec 32 := 1#32
  let v3 : BitVec 32 := Scalar.andi arg0 c1_i32
  let v13076 : Index := Scalar.indexCast v3
  let c128_4625 : Index := 128#32
  let c1920_4626 : Index := 1920#32
  ![v13076.toNat, 128, 1920]
def k0_off314 (i : grid0.Coords) : Fin 3 → Nat :=
  let arg0 : BitVec 32 := BitVec.ofNat 32 (i 0).val
  let c1_i32 : BitVec 32 := 1#32
  let v3 : BitVec 32 := Scalar.andi arg0 c1_i32
  let v13113 : Index := Scalar.indexCast v3
  let c128_4639 : Index := 128#32
  let c2048_4640 : Index := 2048#32
  ![v13113.toNat, 128, 2048]
def k0_off315 (i : grid0.Coords) : Fin 3 → Nat :=
  let arg0 : BitVec 32 := BitVec.ofNat 32 (i 0).val
  let c1_i32 : BitVec 32 := 1#32
  let v3 : BitVec 32 := Scalar.andi arg0 c1_i32
  let v13150 : Index := Scalar.indexCast v3
  let c128_4653 : Index := 128#32
  let c2176_4654 : Index := 2176#32
  ![v13150.toNat, 128, 2176]
def k0_off316 (i : grid0.Coords) : Fin 3 → Nat :=
  let arg0 : BitVec 32 := BitVec.ofNat 32 (i 0).val
  let c1_i32 : BitVec 32 := 1#32
  let v3 : BitVec 32 := Scalar.andi arg0 c1_i32
  let v13187 : Index := Scalar.indexCast v3
  let c128_4667 : Index := 128#32
  let c2304_4668 : Index := 2304#32
  ![v13187.toNat, 128, 2304]
def k0_off317 (i : grid0.Coords) : Fin 3 → Nat :=
  let arg0 : BitVec 32 := BitVec.ofNat 32 (i 0).val
  let c1_i32 : BitVec 32 := 1#32
  let v3 : BitVec 32 := Scalar.andi arg0 c1_i32
  let v13224 : Index := Scalar.indexCast v3
  let c128_4681 : Index := 128#32
  let c2432_4682 : Index := 2432#32
  ![v13224.toNat, 128, 2432]
def k0_off318 (i : grid0.Coords) : Fin 3 → Nat :=
  let arg0 : BitVec 32 := BitVec.ofNat 32 (i 0).val
  let c1_i32 : BitVec 32 := 1#32
  let v3 : BitVec 32 := Scalar.andi arg0 c1_i32
  let v13261 : Index := Scalar.indexCast v3
  let c128_4695 : Index := 128#32
  let c2560_4696 : Index := 2560#32
  ![v13261.toNat, 128, 2560]
def k0_off319 (i : grid0.Coords) : Fin 3 → Nat :=
  let arg0 : BitVec 32 := BitVec.ofNat 32 (i 0).val
  let c1_i32 : BitVec 32 := 1#32
  let v3 : BitVec 32 := Scalar.andi arg0 c1_i32
  let v13298 : Index := Scalar.indexCast v3
  let c128_4709 : Index := 128#32
  let c2688_4710 : Index := 2688#32
  ![v13298.toNat, 128, 2688]
def k0_off320 (i : grid0.Coords) : Fin 3 → Nat :=
  let arg0 : BitVec 32 := BitVec.ofNat 32 (i 0).val
  let c1_i32 : BitVec 32 := 1#32
  let v3 : BitVec 32 := Scalar.andi arg0 c1_i32
  let v13335 : Index := Scalar.indexCast v3
  let c128_4723 : Index := 128#32
  let c2816_4724 : Index := 2816#32
  ![v13335.toNat, 128, 2816]
def k0_off321 (i : grid0.Coords) : Fin 3 → Nat :=
  let arg0 : BitVec 32 := BitVec.ofNat 32 (i 0).val
  let c1_i32 : BitVec 32 := 1#32
  let v3 : BitVec 32 := Scalar.andi arg0 c1_i32
  let v13372 : Index := Scalar.indexCast v3
  let c128_4737 : Index := 128#32
  let c2944_4738 : Index := 2944#32
  ![v13372.toNat, 128, 2944]
def k0_off322 (i : grid0.Coords) : Fin 3 → Nat :=
  let arg0 : BitVec 32 := BitVec.ofNat 32 (i 0).val
  let c1_i32 : BitVec 32 := 1#32
  let v3 : BitVec 32 := Scalar.andi arg0 c1_i32
  let v13409 : Index := Scalar.indexCast v3
  let c128_4751 : Index := 128#32
  let c3072_4752 : Index := 3072#32
  ![v13409.toNat, 128, 3072]
def k0_off323 (i : grid0.Coords) : Fin 3 → Nat :=
  let arg0 : BitVec 32 := BitVec.ofNat 32 (i 0).val
  let c1_i32 : BitVec 32 := 1#32
  let v3 : BitVec 32 := Scalar.andi arg0 c1_i32
  let v13446 : Index := Scalar.indexCast v3
  let c128_4765 : Index := 128#32
  let c3200_4766 : Index := 3200#32
  ![v13446.toNat, 128, 3200]
def k0_off324 (i : grid0.Coords) : Fin 3 → Nat :=
  let arg0 : BitVec 32 := BitVec.ofNat 32 (i 0).val
  let c1_i32 : BitVec 32 := 1#32
  let v3 : BitVec 32 := Scalar.andi arg0 c1_i32
  let v13483 : Index := Scalar.indexCast v3
  let c128_4779 : Index := 128#32
  let c3328_4780 : Index := 3328#32
  ![v13483.toNat, 128, 3328]
def k0_off325 (i : grid0.Coords) : Fin 3 → Nat :=
  let arg0 : BitVec 32 := BitVec.ofNat 32 (i 0).val
  let c1_i32 : BitVec 32 := 1#32
  let v3 : BitVec 32 := Scalar.andi arg0 c1_i32
  let v13520 : Index := Scalar.indexCast v3
  let c128_4793 : Index := 128#32
  let c3456_4794 : Index := 3456#32
  ![v13520.toNat, 128, 3456]
def k0_off326 (i : grid0.Coords) : Fin 3 → Nat :=
  let arg0 : BitVec 32 := BitVec.ofNat 32 (i 0).val
  let c1_i32 : BitVec 32 := 1#32
  let v3 : BitVec 32 := Scalar.andi arg0 c1_i32
  let v13557 : Index := Scalar.indexCast v3
  let c128_4807 : Index := 128#32
  let c3584_4808 : Index := 3584#32
  ![v13557.toNat, 128, 3584]
def k0_off327 (i : grid0.Coords) : Fin 3 → Nat :=
  let arg0 : BitVec 32 := BitVec.ofNat 32 (i 0).val
  let c1_i32 : BitVec 32 := 1#32
  let v3 : BitVec 32 := Scalar.andi arg0 c1_i32
  let v13594 : Index := Scalar.indexCast v3
  let c128_4821 : Index := 128#32
  let c3712_4822 : Index := 3712#32
  ![v13594.toNat, 128, 3712]
def k0_off328 (i : grid0.Coords) : Fin 3 → Nat :=
  let arg0 : BitVec 32 := BitVec.ofNat 32 (i 0).val
  let c1_i32 : BitVec 32 := 1#32
  let v3 : BitVec 32 := Scalar.andi arg0 c1_i32
  let v13631 : Index := Scalar.indexCast v3
  let c128_4835 : Index := 128#32
  let c3840_4836 : Index := 3840#32
  ![v13631.toNat, 128, 3840]
def k0_off329 (i : grid0.Coords) : Fin 3 → Nat :=
  let arg0 : BitVec 32 := BitVec.ofNat 32 (i 0).val
  let c1_i32 : BitVec 32 := 1#32
  let v3 : BitVec 32 := Scalar.andi arg0 c1_i32
  let v13668 : Index := Scalar.indexCast v3
  let c128_4849 : Index := 128#32
  let c3968_4850 : Index := 3968#32
  ![v13668.toNat, 128, 3968]
def k0_off330 (i : grid0.Coords) : Fin 3 → Nat :=
  let arg0 : BitVec 32 := BitVec.ofNat 32 (i 0).val
  let c1_i32 : BitVec 32 := 1#32
  let v3 : BitVec 32 := Scalar.andi arg0 c1_i32
  let v14121 : Index := Scalar.indexCast v3
  let c128_5002 : Index := 128#32
  let c4096_5003 : Index := 4096#32
  ![v14121.toNat, 128, 4096]
def k0_off331 (i : grid0.Coords) : Fin 3 → Nat :=
  let arg0 : BitVec 32 := BitVec.ofNat 32 (i 0).val
  let c1_i32 : BitVec 32 := 1#32
  let v3 : BitVec 32 := Scalar.andi arg0 c1_i32
  let v14158 : Index := Scalar.indexCast v3
  let c128_5016 : Index := 128#32
  let c4224_5017 : Index := 4224#32
  ![v14158.toNat, 128, 4224]
def k0_off332 (i : grid0.Coords) : Fin 3 → Nat :=
  let arg0 : BitVec 32 := BitVec.ofNat 32 (i 0).val
  let c1_i32 : BitVec 32 := 1#32
  let v3 : BitVec 32 := Scalar.andi arg0 c1_i32
  let v14195 : Index := Scalar.indexCast v3
  let c128_5030 : Index := 128#32
  let c4352_5031 : Index := 4352#32
  ![v14195.toNat, 128, 4352]
def k0_off333 (i : grid0.Coords) : Fin 3 → Nat :=
  let arg0 : BitVec 32 := BitVec.ofNat 32 (i 0).val
  let c1_i32 : BitVec 32 := 1#32
  let v3 : BitVec 32 := Scalar.andi arg0 c1_i32
  let v14232 : Index := Scalar.indexCast v3
  let c128_5044 : Index := 128#32
  let c4480_5045 : Index := 4480#32
  ![v14232.toNat, 128, 4480]
def k0_off334 (i : grid0.Coords) : Fin 3 → Nat :=
  let arg0 : BitVec 32 := BitVec.ofNat 32 (i 0).val
  let c1_i32 : BitVec 32 := 1#32
  let v3 : BitVec 32 := Scalar.andi arg0 c1_i32
  let v14269 : Index := Scalar.indexCast v3
  let c128_5058 : Index := 128#32
  let c4608_5059 : Index := 4608#32
  ![v14269.toNat, 128, 4608]
def k0_off335 (i : grid0.Coords) : Fin 3 → Nat :=
  let arg0 : BitVec 32 := BitVec.ofNat 32 (i 0).val
  let c1_i32 : BitVec 32 := 1#32
  let v3 : BitVec 32 := Scalar.andi arg0 c1_i32
  let v14306 : Index := Scalar.indexCast v3
  let c128_5072 : Index := 128#32
  let c4736_5073 : Index := 4736#32
  ![v14306.toNat, 128, 4736]
def k0_off336 (i : grid0.Coords) : Fin 3 → Nat :=
  let arg0 : BitVec 32 := BitVec.ofNat 32 (i 0).val
  let c1_i32 : BitVec 32 := 1#32
  let v3 : BitVec 32 := Scalar.andi arg0 c1_i32
  let v14343 : Index := Scalar.indexCast v3
  let c128_5086 : Index := 128#32
  let c4864_5087 : Index := 4864#32
  ![v14343.toNat, 128, 4864]
def k0_off337 (i : grid0.Coords) : Fin 3 → Nat :=
  let arg0 : BitVec 32 := BitVec.ofNat 32 (i 0).val
  let c1_i32 : BitVec 32 := 1#32
  let v3 : BitVec 32 := Scalar.andi arg0 c1_i32
  let v14380 : Index := Scalar.indexCast v3
  let c128_5100 : Index := 128#32
  let c4992_5101 : Index := 4992#32
  ![v14380.toNat, 128, 4992]
def k0_off338 (i : grid0.Coords) : Fin 3 → Nat :=
  let arg0 : BitVec 32 := BitVec.ofNat 32 (i 0).val
  let c1_i32 : BitVec 32 := 1#32
  let v3 : BitVec 32 := Scalar.andi arg0 c1_i32
  let v14417 : Index := Scalar.indexCast v3
  let c128_5114 : Index := 128#32
  let c5120_5115 : Index := 5120#32
  ![v14417.toNat, 128, 5120]
def k0_off339 (i : grid0.Coords) : Fin 3 → Nat :=
  let arg0 : BitVec 32 := BitVec.ofNat 32 (i 0).val
  let c1_i32 : BitVec 32 := 1#32
  let v3 : BitVec 32 := Scalar.andi arg0 c1_i32
  let v14454 : Index := Scalar.indexCast v3
  let c128_5128 : Index := 128#32
  let c5248_5129 : Index := 5248#32
  ![v14454.toNat, 128, 5248]
def k0_off340 (i : grid0.Coords) : Fin 3 → Nat :=
  let arg0 : BitVec 32 := BitVec.ofNat 32 (i 0).val
  let c1_i32 : BitVec 32 := 1#32
  let v3 : BitVec 32 := Scalar.andi arg0 c1_i32
  let v14491 : Index := Scalar.indexCast v3
  let c128_5142 : Index := 128#32
  let c5376_5143 : Index := 5376#32
  ![v14491.toNat, 128, 5376]
def k0_off341 (i : grid0.Coords) : Fin 3 → Nat :=
  let arg0 : BitVec 32 := BitVec.ofNat 32 (i 0).val
  let c1_i32 : BitVec 32 := 1#32
  let v3 : BitVec 32 := Scalar.andi arg0 c1_i32
  let v14528 : Index := Scalar.indexCast v3
  let c128_5156 : Index := 128#32
  let c5504_5157 : Index := 5504#32
  ![v14528.toNat, 128, 5504]
def k0_off342 (i : grid0.Coords) : Fin 3 → Nat :=
  let arg0 : BitVec 32 := BitVec.ofNat 32 (i 0).val
  let c1_i32 : BitVec 32 := 1#32
  let v3 : BitVec 32 := Scalar.andi arg0 c1_i32
  let v14565 : Index := Scalar.indexCast v3
  let c128_5170 : Index := 128#32
  let c5632_5171 : Index := 5632#32
  ![v14565.toNat, 128, 5632]
def k0_off343 (i : grid0.Coords) : Fin 3 → Nat :=
  let arg0 : BitVec 32 := BitVec.ofNat 32 (i 0).val
  let c1_i32 : BitVec 32 := 1#32
  let v3 : BitVec 32 := Scalar.andi arg0 c1_i32
  let v14602 : Index := Scalar.indexCast v3
  let c128_5184 : Index := 128#32
  let c5760_5185 : Index := 5760#32
  ![v14602.toNat, 128, 5760]
def k0_off344 (i : grid0.Coords) : Fin 3 → Nat :=
  let arg0 : BitVec 32 := BitVec.ofNat 32 (i 0).val
  let c1_i32 : BitVec 32 := 1#32
  let v3 : BitVec 32 := Scalar.andi arg0 c1_i32
  let v14639 : Index := Scalar.indexCast v3
  let c128_5198 : Index := 128#32
  let c5888_5199 : Index := 5888#32
  ![v14639.toNat, 128, 5888]
def k0_off345 (i : grid0.Coords) : Fin 3 → Nat :=
  let arg0 : BitVec 32 := BitVec.ofNat 32 (i 0).val
  let c1_i32 : BitVec 32 := 1#32
  let v3 : BitVec 32 := Scalar.andi arg0 c1_i32
  let v14676 : Index := Scalar.indexCast v3
  let c128_5212 : Index := 128#32
  let c6016_5213 : Index := 6016#32
  ![v14676.toNat, 128, 6016]
def k0_off346 (i : grid0.Coords) : Fin 3 → Nat :=
  let arg0 : BitVec 32 := BitVec.ofNat 32 (i 0).val
  let c1_i32 : BitVec 32 := 1#32
  let v3 : BitVec 32 := Scalar.andi arg0 c1_i32
  let v15456 : Index := Scalar.indexCast v3
  let c160_5474 : Index := 160#32
  let c0_5475 : Index := 0#32
  ![v15456.toNat, 160, 0]
def k0_off347 (i : grid0.Coords) : Fin 3 → Nat :=
  let arg0 : BitVec 32 := BitVec.ofNat 32 (i 0).val
  let c1_i32 : BitVec 32 := 1#32
  let v3 : BitVec 32 := Scalar.andi arg0 c1_i32
  let v15493 : Index := Scalar.indexCast v3
  let c160_5488 : Index := 160#32
  let c128_5489 : Index := 128#32
  ![v15493.toNat, 160, 128]
def k0_off348 (i : grid0.Coords) : Fin 3 → Nat :=
  let arg0 : BitVec 32 := BitVec.ofNat 32 (i 0).val
  let c1_i32 : BitVec 32 := 1#32
  let v3 : BitVec 32 := Scalar.andi arg0 c1_i32
  let v15530 : Index := Scalar.indexCast v3
  let c160_5502 : Index := 160#32
  let c256_5503 : Index := 256#32
  ![v15530.toNat, 160, 256]
def k0_off349 (i : grid0.Coords) : Fin 3 → Nat :=
  let arg0 : BitVec 32 := BitVec.ofNat 32 (i 0).val
  let c1_i32 : BitVec 32 := 1#32
  let v3 : BitVec 32 := Scalar.andi arg0 c1_i32
  let v15567 : Index := Scalar.indexCast v3
  let c160_5516 : Index := 160#32
  let c384_5517 : Index := 384#32
  ![v15567.toNat, 160, 384]
def k0_off350 (i : grid0.Coords) : Fin 3 → Nat :=
  let arg0 : BitVec 32 := BitVec.ofNat 32 (i 0).val
  let c1_i32 : BitVec 32 := 1#32
  let v3 : BitVec 32 := Scalar.andi arg0 c1_i32
  let v15604 : Index := Scalar.indexCast v3
  let c160_5530 : Index := 160#32
  let c512_5531 : Index := 512#32
  ![v15604.toNat, 160, 512]
def k0_off351 (i : grid0.Coords) : Fin 3 → Nat :=
  let arg0 : BitVec 32 := BitVec.ofNat 32 (i 0).val
  let c1_i32 : BitVec 32 := 1#32
  let v3 : BitVec 32 := Scalar.andi arg0 c1_i32
  let v15641 : Index := Scalar.indexCast v3
  let c160_5544 : Index := 160#32
  let c640_5545 : Index := 640#32
  ![v15641.toNat, 160, 640]
def k0_off352 (i : grid0.Coords) : Fin 3 → Nat :=
  let arg0 : BitVec 32 := BitVec.ofNat 32 (i 0).val
  let c1_i32 : BitVec 32 := 1#32
  let v3 : BitVec 32 := Scalar.andi arg0 c1_i32
  let v15678 : Index := Scalar.indexCast v3
  let c160_5558 : Index := 160#32
  let c768_5559 : Index := 768#32
  ![v15678.toNat, 160, 768]
def k0_off353 (i : grid0.Coords) : Fin 3 → Nat :=
  let arg0 : BitVec 32 := BitVec.ofNat 32 (i 0).val
  let c1_i32 : BitVec 32 := 1#32
  let v3 : BitVec 32 := Scalar.andi arg0 c1_i32
  let v15715 : Index := Scalar.indexCast v3
  let c160_5572 : Index := 160#32
  let c896_5573 : Index := 896#32
  ![v15715.toNat, 160, 896]
def k0_off354 (i : grid0.Coords) : Fin 3 → Nat :=
  let arg0 : BitVec 32 := BitVec.ofNat 32 (i 0).val
  let c1_i32 : BitVec 32 := 1#32
  let v3 : BitVec 32 := Scalar.andi arg0 c1_i32
  let v15752 : Index := Scalar.indexCast v3
  let c160_5586 : Index := 160#32
  let c1024_5587 : Index := 1024#32
  ![v15752.toNat, 160, 1024]
def k0_off355 (i : grid0.Coords) : Fin 3 → Nat :=
  let arg0 : BitVec 32 := BitVec.ofNat 32 (i 0).val
  let c1_i32 : BitVec 32 := 1#32
  let v3 : BitVec 32 := Scalar.andi arg0 c1_i32
  let v15789 : Index := Scalar.indexCast v3
  let c160_5600 : Index := 160#32
  let c1152_5601 : Index := 1152#32
  ![v15789.toNat, 160, 1152]
def k0_off356 (i : grid0.Coords) : Fin 3 → Nat :=
  let arg0 : BitVec 32 := BitVec.ofNat 32 (i 0).val
  let c1_i32 : BitVec 32 := 1#32
  let v3 : BitVec 32 := Scalar.andi arg0 c1_i32
  let v15826 : Index := Scalar.indexCast v3
  let c160_5614 : Index := 160#32
  let c1280_5615 : Index := 1280#32
  ![v15826.toNat, 160, 1280]
def k0_off357 (i : grid0.Coords) : Fin 3 → Nat :=
  let arg0 : BitVec 32 := BitVec.ofNat 32 (i 0).val
  let c1_i32 : BitVec 32 := 1#32
  let v3 : BitVec 32 := Scalar.andi arg0 c1_i32
  let v15863 : Index := Scalar.indexCast v3
  let c160_5628 : Index := 160#32
  let c1408_5629 : Index := 1408#32
  ![v15863.toNat, 160, 1408]
def k0_off358 (i : grid0.Coords) : Fin 3 → Nat :=
  let arg0 : BitVec 32 := BitVec.ofNat 32 (i 0).val
  let c1_i32 : BitVec 32 := 1#32
  let v3 : BitVec 32 := Scalar.andi arg0 c1_i32
  let v15900 : Index := Scalar.indexCast v3
  let c160_5642 : Index := 160#32
  let c1536_5643 : Index := 1536#32
  ![v15900.toNat, 160, 1536]
def k0_off359 (i : grid0.Coords) : Fin 3 → Nat :=
  let arg0 : BitVec 32 := BitVec.ofNat 32 (i 0).val
  let c1_i32 : BitVec 32 := 1#32
  let v3 : BitVec 32 := Scalar.andi arg0 c1_i32
  let v15937 : Index := Scalar.indexCast v3
  let c160_5656 : Index := 160#32
  let c1664_5657 : Index := 1664#32
  ![v15937.toNat, 160, 1664]
def k0_off360 (i : grid0.Coords) : Fin 3 → Nat :=
  let arg0 : BitVec 32 := BitVec.ofNat 32 (i 0).val
  let c1_i32 : BitVec 32 := 1#32
  let v3 : BitVec 32 := Scalar.andi arg0 c1_i32
  let v15974 : Index := Scalar.indexCast v3
  let c160_5670 : Index := 160#32
  let c1792_5671 : Index := 1792#32
  ![v15974.toNat, 160, 1792]
def k0_off361 (i : grid0.Coords) : Fin 3 → Nat :=
  let arg0 : BitVec 32 := BitVec.ofNat 32 (i 0).val
  let c1_i32 : BitVec 32 := 1#32
  let v3 : BitVec 32 := Scalar.andi arg0 c1_i32
  let v16011 : Index := Scalar.indexCast v3
  let c160_5684 : Index := 160#32
  let c1920_5685 : Index := 1920#32
  ![v16011.toNat, 160, 1920]
def k0_off362 (i : grid0.Coords) : Fin 3 → Nat :=
  let arg0 : BitVec 32 := BitVec.ofNat 32 (i 0).val
  let c1_i32 : BitVec 32 := 1#32
  let v3 : BitVec 32 := Scalar.andi arg0 c1_i32
  let v16048 : Index := Scalar.indexCast v3
  let c160_5698 : Index := 160#32
  let c2048_5699 : Index := 2048#32
  ![v16048.toNat, 160, 2048]
def k0_off363 (i : grid0.Coords) : Fin 3 → Nat :=
  let arg0 : BitVec 32 := BitVec.ofNat 32 (i 0).val
  let c1_i32 : BitVec 32 := 1#32
  let v3 : BitVec 32 := Scalar.andi arg0 c1_i32
  let v16085 : Index := Scalar.indexCast v3
  let c160_5712 : Index := 160#32
  let c2176_5713 : Index := 2176#32
  ![v16085.toNat, 160, 2176]
def k0_off364 (i : grid0.Coords) : Fin 3 → Nat :=
  let arg0 : BitVec 32 := BitVec.ofNat 32 (i 0).val
  let c1_i32 : BitVec 32 := 1#32
  let v3 : BitVec 32 := Scalar.andi arg0 c1_i32
  let v16122 : Index := Scalar.indexCast v3
  let c160_5726 : Index := 160#32
  let c2304_5727 : Index := 2304#32
  ![v16122.toNat, 160, 2304]
def k0_off365 (i : grid0.Coords) : Fin 3 → Nat :=
  let arg0 : BitVec 32 := BitVec.ofNat 32 (i 0).val
  let c1_i32 : BitVec 32 := 1#32
  let v3 : BitVec 32 := Scalar.andi arg0 c1_i32
  let v16159 : Index := Scalar.indexCast v3
  let c160_5740 : Index := 160#32
  let c2432_5741 : Index := 2432#32
  ![v16159.toNat, 160, 2432]
def k0_off366 (i : grid0.Coords) : Fin 3 → Nat :=
  let arg0 : BitVec 32 := BitVec.ofNat 32 (i 0).val
  let c1_i32 : BitVec 32 := 1#32
  let v3 : BitVec 32 := Scalar.andi arg0 c1_i32
  let v16196 : Index := Scalar.indexCast v3
  let c160_5754 : Index := 160#32
  let c2560_5755 : Index := 2560#32
  ![v16196.toNat, 160, 2560]
def k0_off367 (i : grid0.Coords) : Fin 3 → Nat :=
  let arg0 : BitVec 32 := BitVec.ofNat 32 (i 0).val
  let c1_i32 : BitVec 32 := 1#32
  let v3 : BitVec 32 := Scalar.andi arg0 c1_i32
  let v16233 : Index := Scalar.indexCast v3
  let c160_5768 : Index := 160#32
  let c2688_5769 : Index := 2688#32
  ![v16233.toNat, 160, 2688]
def k0_off368 (i : grid0.Coords) : Fin 3 → Nat :=
  let arg0 : BitVec 32 := BitVec.ofNat 32 (i 0).val
  let c1_i32 : BitVec 32 := 1#32
  let v3 : BitVec 32 := Scalar.andi arg0 c1_i32
  let v16270 : Index := Scalar.indexCast v3
  let c160_5782 : Index := 160#32
  let c2816_5783 : Index := 2816#32
  ![v16270.toNat, 160, 2816]
def k0_off369 (i : grid0.Coords) : Fin 3 → Nat :=
  let arg0 : BitVec 32 := BitVec.ofNat 32 (i 0).val
  let c1_i32 : BitVec 32 := 1#32
  let v3 : BitVec 32 := Scalar.andi arg0 c1_i32
  let v16307 : Index := Scalar.indexCast v3
  let c160_5796 : Index := 160#32
  let c2944_5797 : Index := 2944#32
  ![v16307.toNat, 160, 2944]
def k0_off370 (i : grid0.Coords) : Fin 3 → Nat :=
  let arg0 : BitVec 32 := BitVec.ofNat 32 (i 0).val
  let c1_i32 : BitVec 32 := 1#32
  let v3 : BitVec 32 := Scalar.andi arg0 c1_i32
  let v16344 : Index := Scalar.indexCast v3
  let c160_5810 : Index := 160#32
  let c3072_5811 : Index := 3072#32
  ![v16344.toNat, 160, 3072]
def k0_off371 (i : grid0.Coords) : Fin 3 → Nat :=
  let arg0 : BitVec 32 := BitVec.ofNat 32 (i 0).val
  let c1_i32 : BitVec 32 := 1#32
  let v3 : BitVec 32 := Scalar.andi arg0 c1_i32
  let v16381 : Index := Scalar.indexCast v3
  let c160_5824 : Index := 160#32
  let c3200_5825 : Index := 3200#32
  ![v16381.toNat, 160, 3200]
def k0_off372 (i : grid0.Coords) : Fin 3 → Nat :=
  let arg0 : BitVec 32 := BitVec.ofNat 32 (i 0).val
  let c1_i32 : BitVec 32 := 1#32
  let v3 : BitVec 32 := Scalar.andi arg0 c1_i32
  let v16418 : Index := Scalar.indexCast v3
  let c160_5838 : Index := 160#32
  let c3328_5839 : Index := 3328#32
  ![v16418.toNat, 160, 3328]
def k0_off373 (i : grid0.Coords) : Fin 3 → Nat :=
  let arg0 : BitVec 32 := BitVec.ofNat 32 (i 0).val
  let c1_i32 : BitVec 32 := 1#32
  let v3 : BitVec 32 := Scalar.andi arg0 c1_i32
  let v16455 : Index := Scalar.indexCast v3
  let c160_5852 : Index := 160#32
  let c3456_5853 : Index := 3456#32
  ![v16455.toNat, 160, 3456]
def k0_off374 (i : grid0.Coords) : Fin 3 → Nat :=
  let arg0 : BitVec 32 := BitVec.ofNat 32 (i 0).val
  let c1_i32 : BitVec 32 := 1#32
  let v3 : BitVec 32 := Scalar.andi arg0 c1_i32
  let v16492 : Index := Scalar.indexCast v3
  let c160_5866 : Index := 160#32
  let c3584_5867 : Index := 3584#32
  ![v16492.toNat, 160, 3584]
def k0_off375 (i : grid0.Coords) : Fin 3 → Nat :=
  let arg0 : BitVec 32 := BitVec.ofNat 32 (i 0).val
  let c1_i32 : BitVec 32 := 1#32
  let v3 : BitVec 32 := Scalar.andi arg0 c1_i32
  let v16529 : Index := Scalar.indexCast v3
  let c160_5880 : Index := 160#32
  let c3712_5881 : Index := 3712#32
  ![v16529.toNat, 160, 3712]
def k0_off376 (i : grid0.Coords) : Fin 3 → Nat :=
  let arg0 : BitVec 32 := BitVec.ofNat 32 (i 0).val
  let c1_i32 : BitVec 32 := 1#32
  let v3 : BitVec 32 := Scalar.andi arg0 c1_i32
  let v16566 : Index := Scalar.indexCast v3
  let c160_5894 : Index := 160#32
  let c3840_5895 : Index := 3840#32
  ![v16566.toNat, 160, 3840]
def k0_off377 (i : grid0.Coords) : Fin 3 → Nat :=
  let arg0 : BitVec 32 := BitVec.ofNat 32 (i 0).val
  let c1_i32 : BitVec 32 := 1#32
  let v3 : BitVec 32 := Scalar.andi arg0 c1_i32
  let v16603 : Index := Scalar.indexCast v3
  let c160_5908 : Index := 160#32
  let c3968_5909 : Index := 3968#32
  ![v16603.toNat, 160, 3968]
def k0_off378 (i : grid0.Coords) : Fin 3 → Nat :=
  let arg0 : BitVec 32 := BitVec.ofNat 32 (i 0).val
  let c1_i32 : BitVec 32 := 1#32
  let v3 : BitVec 32 := Scalar.andi arg0 c1_i32
  let v17056 : Index := Scalar.indexCast v3
  let c160_6061 : Index := 160#32
  let c4096_6062 : Index := 4096#32
  ![v17056.toNat, 160, 4096]
def k0_off379 (i : grid0.Coords) : Fin 3 → Nat :=
  let arg0 : BitVec 32 := BitVec.ofNat 32 (i 0).val
  let c1_i32 : BitVec 32 := 1#32
  let v3 : BitVec 32 := Scalar.andi arg0 c1_i32
  let v17093 : Index := Scalar.indexCast v3
  let c160_6075 : Index := 160#32
  let c4224_6076 : Index := 4224#32
  ![v17093.toNat, 160, 4224]
def k0_off380 (i : grid0.Coords) : Fin 3 → Nat :=
  let arg0 : BitVec 32 := BitVec.ofNat 32 (i 0).val
  let c1_i32 : BitVec 32 := 1#32
  let v3 : BitVec 32 := Scalar.andi arg0 c1_i32
  let v17130 : Index := Scalar.indexCast v3
  let c160_6089 : Index := 160#32
  let c4352_6090 : Index := 4352#32
  ![v17130.toNat, 160, 4352]
def k0_off381 (i : grid0.Coords) : Fin 3 → Nat :=
  let arg0 : BitVec 32 := BitVec.ofNat 32 (i 0).val
  let c1_i32 : BitVec 32 := 1#32
  let v3 : BitVec 32 := Scalar.andi arg0 c1_i32
  let v17167 : Index := Scalar.indexCast v3
  let c160_6103 : Index := 160#32
  let c4480_6104 : Index := 4480#32
  ![v17167.toNat, 160, 4480]
def k0_off382 (i : grid0.Coords) : Fin 3 → Nat :=
  let arg0 : BitVec 32 := BitVec.ofNat 32 (i 0).val
  let c1_i32 : BitVec 32 := 1#32
  let v3 : BitVec 32 := Scalar.andi arg0 c1_i32
  let v17204 : Index := Scalar.indexCast v3
  let c160_6117 : Index := 160#32
  let c4608_6118 : Index := 4608#32
  ![v17204.toNat, 160, 4608]
def k0_off383 (i : grid0.Coords) : Fin 3 → Nat :=
  let arg0 : BitVec 32 := BitVec.ofNat 32 (i 0).val
  let c1_i32 : BitVec 32 := 1#32
  let v3 : BitVec 32 := Scalar.andi arg0 c1_i32
  let v17241 : Index := Scalar.indexCast v3
  let c160_6131 : Index := 160#32
  let c4736_6132 : Index := 4736#32
  ![v17241.toNat, 160, 4736]
def k0_off384 (i : grid0.Coords) : Fin 3 → Nat :=
  let arg0 : BitVec 32 := BitVec.ofNat 32 (i 0).val
  let c1_i32 : BitVec 32 := 1#32
  let v3 : BitVec 32 := Scalar.andi arg0 c1_i32
  let v17278 : Index := Scalar.indexCast v3
  let c160_6145 : Index := 160#32
  let c4864_6146 : Index := 4864#32
  ![v17278.toNat, 160, 4864]
def k0_off385 (i : grid0.Coords) : Fin 3 → Nat :=
  let arg0 : BitVec 32 := BitVec.ofNat 32 (i 0).val
  let c1_i32 : BitVec 32 := 1#32
  let v3 : BitVec 32 := Scalar.andi arg0 c1_i32
  let v17315 : Index := Scalar.indexCast v3
  let c160_6159 : Index := 160#32
  let c4992_6160 : Index := 4992#32
  ![v17315.toNat, 160, 4992]
def k0_off386 (i : grid0.Coords) : Fin 3 → Nat :=
  let arg0 : BitVec 32 := BitVec.ofNat 32 (i 0).val
  let c1_i32 : BitVec 32 := 1#32
  let v3 : BitVec 32 := Scalar.andi arg0 c1_i32
  let v17352 : Index := Scalar.indexCast v3
  let c160_6173 : Index := 160#32
  let c5120_6174 : Index := 5120#32
  ![v17352.toNat, 160, 5120]
def k0_off387 (i : grid0.Coords) : Fin 3 → Nat :=
  let arg0 : BitVec 32 := BitVec.ofNat 32 (i 0).val
  let c1_i32 : BitVec 32 := 1#32
  let v3 : BitVec 32 := Scalar.andi arg0 c1_i32
  let v17389 : Index := Scalar.indexCast v3
  let c160_6187 : Index := 160#32
  let c5248_6188 : Index := 5248#32
  ![v17389.toNat, 160, 5248]
def k0_off388 (i : grid0.Coords) : Fin 3 → Nat :=
  let arg0 : BitVec 32 := BitVec.ofNat 32 (i 0).val
  let c1_i32 : BitVec 32 := 1#32
  let v3 : BitVec 32 := Scalar.andi arg0 c1_i32
  let v17426 : Index := Scalar.indexCast v3
  let c160_6201 : Index := 160#32
  let c5376_6202 : Index := 5376#32
  ![v17426.toNat, 160, 5376]
def k0_off389 (i : grid0.Coords) : Fin 3 → Nat :=
  let arg0 : BitVec 32 := BitVec.ofNat 32 (i 0).val
  let c1_i32 : BitVec 32 := 1#32
  let v3 : BitVec 32 := Scalar.andi arg0 c1_i32
  let v17463 : Index := Scalar.indexCast v3
  let c160_6215 : Index := 160#32
  let c5504_6216 : Index := 5504#32
  ![v17463.toNat, 160, 5504]
def k0_off390 (i : grid0.Coords) : Fin 3 → Nat :=
  let arg0 : BitVec 32 := BitVec.ofNat 32 (i 0).val
  let c1_i32 : BitVec 32 := 1#32
  let v3 : BitVec 32 := Scalar.andi arg0 c1_i32
  let v17500 : Index := Scalar.indexCast v3
  let c160_6229 : Index := 160#32
  let c5632_6230 : Index := 5632#32
  ![v17500.toNat, 160, 5632]
def k0_off391 (i : grid0.Coords) : Fin 3 → Nat :=
  let arg0 : BitVec 32 := BitVec.ofNat 32 (i 0).val
  let c1_i32 : BitVec 32 := 1#32
  let v3 : BitVec 32 := Scalar.andi arg0 c1_i32
  let v17537 : Index := Scalar.indexCast v3
  let c160_6243 : Index := 160#32
  let c5760_6244 : Index := 5760#32
  ![v17537.toNat, 160, 5760]
def k0_off392 (i : grid0.Coords) : Fin 3 → Nat :=
  let arg0 : BitVec 32 := BitVec.ofNat 32 (i 0).val
  let c1_i32 : BitVec 32 := 1#32
  let v3 : BitVec 32 := Scalar.andi arg0 c1_i32
  let v17574 : Index := Scalar.indexCast v3
  let c160_6257 : Index := 160#32
  let c5888_6258 : Index := 5888#32
  ![v17574.toNat, 160, 5888]
def k0_off393 (i : grid0.Coords) : Fin 3 → Nat :=
  let arg0 : BitVec 32 := BitVec.ofNat 32 (i 0).val
  let c1_i32 : BitVec 32 := 1#32
  let v3 : BitVec 32 := Scalar.andi arg0 c1_i32
  let v17611 : Index := Scalar.indexCast v3
  let c160_6271 : Index := 160#32
  let c6016_6272 : Index := 6016#32
  ![v17611.toNat, 160, 6016]
def k0_off394 (i : grid0.Coords) : Fin 3 → Nat :=
  let arg0 : BitVec 32 := BitVec.ofNat 32 (i 0).val
  let c1_i32 : BitVec 32 := 1#32
  let v3 : BitVec 32 := Scalar.andi arg0 c1_i32
  let v18391 : Index := Scalar.indexCast v3
  let c192_6533 : Index := 192#32
  let c0_6534 : Index := 0#32
  ![v18391.toNat, 192, 0]
def k0_off395 (i : grid0.Coords) : Fin 3 → Nat :=
  let arg0 : BitVec 32 := BitVec.ofNat 32 (i 0).val
  let c1_i32 : BitVec 32 := 1#32
  let v3 : BitVec 32 := Scalar.andi arg0 c1_i32
  let v18428 : Index := Scalar.indexCast v3
  let c192_6547 : Index := 192#32
  let c128_6548 : Index := 128#32
  ![v18428.toNat, 192, 128]
def k0_off396 (i : grid0.Coords) : Fin 3 → Nat :=
  let arg0 : BitVec 32 := BitVec.ofNat 32 (i 0).val
  let c1_i32 : BitVec 32 := 1#32
  let v3 : BitVec 32 := Scalar.andi arg0 c1_i32
  let v18465 : Index := Scalar.indexCast v3
  let c192_6561 : Index := 192#32
  let c256_6562 : Index := 256#32
  ![v18465.toNat, 192, 256]
def k0_off397 (i : grid0.Coords) : Fin 3 → Nat :=
  let arg0 : BitVec 32 := BitVec.ofNat 32 (i 0).val
  let c1_i32 : BitVec 32 := 1#32
  let v3 : BitVec 32 := Scalar.andi arg0 c1_i32
  let v18502 : Index := Scalar.indexCast v3
  let c192_6575 : Index := 192#32
  let c384_6576 : Index := 384#32
  ![v18502.toNat, 192, 384]
def k0_off398 (i : grid0.Coords) : Fin 3 → Nat :=
  let arg0 : BitVec 32 := BitVec.ofNat 32 (i 0).val
  let c1_i32 : BitVec 32 := 1#32
  let v3 : BitVec 32 := Scalar.andi arg0 c1_i32
  let v18539 : Index := Scalar.indexCast v3
  let c192_6589 : Index := 192#32
  let c512_6590 : Index := 512#32
  ![v18539.toNat, 192, 512]
def k0_off399 (i : grid0.Coords) : Fin 3 → Nat :=
  let arg0 : BitVec 32 := BitVec.ofNat 32 (i 0).val
  let c1_i32 : BitVec 32 := 1#32
  let v3 : BitVec 32 := Scalar.andi arg0 c1_i32
  let v18576 : Index := Scalar.indexCast v3
  let c192_6603 : Index := 192#32
  let c640_6604 : Index := 640#32
  ![v18576.toNat, 192, 640]
def k0_off400 (i : grid0.Coords) : Fin 3 → Nat :=
  let arg0 : BitVec 32 := BitVec.ofNat 32 (i 0).val
  let c1_i32 : BitVec 32 := 1#32
  let v3 : BitVec 32 := Scalar.andi arg0 c1_i32
  let v18613 : Index := Scalar.indexCast v3
  let c192_6617 : Index := 192#32
  let c768_6618 : Index := 768#32
  ![v18613.toNat, 192, 768]
def k0_off401 (i : grid0.Coords) : Fin 3 → Nat :=
  let arg0 : BitVec 32 := BitVec.ofNat 32 (i 0).val
  let c1_i32 : BitVec 32 := 1#32
  let v3 : BitVec 32 := Scalar.andi arg0 c1_i32
  let v18650 : Index := Scalar.indexCast v3
  let c192_6631 : Index := 192#32
  let c896_6632 : Index := 896#32
  ![v18650.toNat, 192, 896]
def k0_off402 (i : grid0.Coords) : Fin 3 → Nat :=
  let arg0 : BitVec 32 := BitVec.ofNat 32 (i 0).val
  let c1_i32 : BitVec 32 := 1#32
  let v3 : BitVec 32 := Scalar.andi arg0 c1_i32
  let v18687 : Index := Scalar.indexCast v3
  let c192_6645 : Index := 192#32
  let c1024_6646 : Index := 1024#32
  ![v18687.toNat, 192, 1024]
def k0_off403 (i : grid0.Coords) : Fin 3 → Nat :=
  let arg0 : BitVec 32 := BitVec.ofNat 32 (i 0).val
  let c1_i32 : BitVec 32 := 1#32
  let v3 : BitVec 32 := Scalar.andi arg0 c1_i32
  let v18724 : Index := Scalar.indexCast v3
  let c192_6659 : Index := 192#32
  let c1152_6660 : Index := 1152#32
  ![v18724.toNat, 192, 1152]
def k0_off404 (i : grid0.Coords) : Fin 3 → Nat :=
  let arg0 : BitVec 32 := BitVec.ofNat 32 (i 0).val
  let c1_i32 : BitVec 32 := 1#32
  let v3 : BitVec 32 := Scalar.andi arg0 c1_i32
  let v18761 : Index := Scalar.indexCast v3
  let c192_6673 : Index := 192#32
  let c1280_6674 : Index := 1280#32
  ![v18761.toNat, 192, 1280]
def k0_off405 (i : grid0.Coords) : Fin 3 → Nat :=
  let arg0 : BitVec 32 := BitVec.ofNat 32 (i 0).val
  let c1_i32 : BitVec 32 := 1#32
  let v3 : BitVec 32 := Scalar.andi arg0 c1_i32
  let v18798 : Index := Scalar.indexCast v3
  let c192_6687 : Index := 192#32
  let c1408_6688 : Index := 1408#32
  ![v18798.toNat, 192, 1408]
def k0_off406 (i : grid0.Coords) : Fin 3 → Nat :=
  let arg0 : BitVec 32 := BitVec.ofNat 32 (i 0).val
  let c1_i32 : BitVec 32 := 1#32
  let v3 : BitVec 32 := Scalar.andi arg0 c1_i32
  let v18835 : Index := Scalar.indexCast v3
  let c192_6701 : Index := 192#32
  let c1536_6702 : Index := 1536#32
  ![v18835.toNat, 192, 1536]
def k0_off407 (i : grid0.Coords) : Fin 3 → Nat :=
  let arg0 : BitVec 32 := BitVec.ofNat 32 (i 0).val
  let c1_i32 : BitVec 32 := 1#32
  let v3 : BitVec 32 := Scalar.andi arg0 c1_i32
  let v18872 : Index := Scalar.indexCast v3
  let c192_6715 : Index := 192#32
  let c1664_6716 : Index := 1664#32
  ![v18872.toNat, 192, 1664]
def k0_off408 (i : grid0.Coords) : Fin 3 → Nat :=
  let arg0 : BitVec 32 := BitVec.ofNat 32 (i 0).val
  let c1_i32 : BitVec 32 := 1#32
  let v3 : BitVec 32 := Scalar.andi arg0 c1_i32
  let v18909 : Index := Scalar.indexCast v3
  let c192_6729 : Index := 192#32
  let c1792_6730 : Index := 1792#32
  ![v18909.toNat, 192, 1792]
def k0_off409 (i : grid0.Coords) : Fin 3 → Nat :=
  let arg0 : BitVec 32 := BitVec.ofNat 32 (i 0).val
  let c1_i32 : BitVec 32 := 1#32
  let v3 : BitVec 32 := Scalar.andi arg0 c1_i32
  let v18946 : Index := Scalar.indexCast v3
  let c192_6743 : Index := 192#32
  let c1920_6744 : Index := 1920#32
  ![v18946.toNat, 192, 1920]
def k0_off410 (i : grid0.Coords) : Fin 3 → Nat :=
  let arg0 : BitVec 32 := BitVec.ofNat 32 (i 0).val
  let c1_i32 : BitVec 32 := 1#32
  let v3 : BitVec 32 := Scalar.andi arg0 c1_i32
  let v18983 : Index := Scalar.indexCast v3
  let c192_6757 : Index := 192#32
  let c2048_6758 : Index := 2048#32
  ![v18983.toNat, 192, 2048]
def k0_off411 (i : grid0.Coords) : Fin 3 → Nat :=
  let arg0 : BitVec 32 := BitVec.ofNat 32 (i 0).val
  let c1_i32 : BitVec 32 := 1#32
  let v3 : BitVec 32 := Scalar.andi arg0 c1_i32
  let v19020 : Index := Scalar.indexCast v3
  let c192_6771 : Index := 192#32
  let c2176_6772 : Index := 2176#32
  ![v19020.toNat, 192, 2176]
def k0_off412 (i : grid0.Coords) : Fin 3 → Nat :=
  let arg0 : BitVec 32 := BitVec.ofNat 32 (i 0).val
  let c1_i32 : BitVec 32 := 1#32
  let v3 : BitVec 32 := Scalar.andi arg0 c1_i32
  let v19057 : Index := Scalar.indexCast v3
  let c192_6785 : Index := 192#32
  let c2304_6786 : Index := 2304#32
  ![v19057.toNat, 192, 2304]
def k0_off413 (i : grid0.Coords) : Fin 3 → Nat :=
  let arg0 : BitVec 32 := BitVec.ofNat 32 (i 0).val
  let c1_i32 : BitVec 32 := 1#32
  let v3 : BitVec 32 := Scalar.andi arg0 c1_i32
  let v19094 : Index := Scalar.indexCast v3
  let c192_6799 : Index := 192#32
  let c2432_6800 : Index := 2432#32
  ![v19094.toNat, 192, 2432]
def k0_off414 (i : grid0.Coords) : Fin 3 → Nat :=
  let arg0 : BitVec 32 := BitVec.ofNat 32 (i 0).val
  let c1_i32 : BitVec 32 := 1#32
  let v3 : BitVec 32 := Scalar.andi arg0 c1_i32
  let v19131 : Index := Scalar.indexCast v3
  let c192_6813 : Index := 192#32
  let c2560_6814 : Index := 2560#32
  ![v19131.toNat, 192, 2560]
def k0_off415 (i : grid0.Coords) : Fin 3 → Nat :=
  let arg0 : BitVec 32 := BitVec.ofNat 32 (i 0).val
  let c1_i32 : BitVec 32 := 1#32
  let v3 : BitVec 32 := Scalar.andi arg0 c1_i32
  let v19168 : Index := Scalar.indexCast v3
  let c192_6827 : Index := 192#32
  let c2688_6828 : Index := 2688#32
  ![v19168.toNat, 192, 2688]
def k0_off416 (i : grid0.Coords) : Fin 3 → Nat :=
  let arg0 : BitVec 32 := BitVec.ofNat 32 (i 0).val
  let c1_i32 : BitVec 32 := 1#32
  let v3 : BitVec 32 := Scalar.andi arg0 c1_i32
  let v19205 : Index := Scalar.indexCast v3
  let c192_6841 : Index := 192#32
  let c2816_6842 : Index := 2816#32
  ![v19205.toNat, 192, 2816]
def k0_off417 (i : grid0.Coords) : Fin 3 → Nat :=
  let arg0 : BitVec 32 := BitVec.ofNat 32 (i 0).val
  let c1_i32 : BitVec 32 := 1#32
  let v3 : BitVec 32 := Scalar.andi arg0 c1_i32
  let v19242 : Index := Scalar.indexCast v3
  let c192_6855 : Index := 192#32
  let c2944_6856 : Index := 2944#32
  ![v19242.toNat, 192, 2944]
def k0_off418 (i : grid0.Coords) : Fin 3 → Nat :=
  let arg0 : BitVec 32 := BitVec.ofNat 32 (i 0).val
  let c1_i32 : BitVec 32 := 1#32
  let v3 : BitVec 32 := Scalar.andi arg0 c1_i32
  let v19279 : Index := Scalar.indexCast v3
  let c192_6869 : Index := 192#32
  let c3072_6870 : Index := 3072#32
  ![v19279.toNat, 192, 3072]
def k0_off419 (i : grid0.Coords) : Fin 3 → Nat :=
  let arg0 : BitVec 32 := BitVec.ofNat 32 (i 0).val
  let c1_i32 : BitVec 32 := 1#32
  let v3 : BitVec 32 := Scalar.andi arg0 c1_i32
  let v19316 : Index := Scalar.indexCast v3
  let c192_6883 : Index := 192#32
  let c3200_6884 : Index := 3200#32
  ![v19316.toNat, 192, 3200]
def k0_off420 (i : grid0.Coords) : Fin 3 → Nat :=
  let arg0 : BitVec 32 := BitVec.ofNat 32 (i 0).val
  let c1_i32 : BitVec 32 := 1#32
  let v3 : BitVec 32 := Scalar.andi arg0 c1_i32
  let v19353 : Index := Scalar.indexCast v3
  let c192_6897 : Index := 192#32
  let c3328_6898 : Index := 3328#32
  ![v19353.toNat, 192, 3328]
def k0_off421 (i : grid0.Coords) : Fin 3 → Nat :=
  let arg0 : BitVec 32 := BitVec.ofNat 32 (i 0).val
  let c1_i32 : BitVec 32 := 1#32
  let v3 : BitVec 32 := Scalar.andi arg0 c1_i32
  let v19390 : Index := Scalar.indexCast v3
  let c192_6911 : Index := 192#32
  let c3456_6912 : Index := 3456#32
  ![v19390.toNat, 192, 3456]
def k0_off422 (i : grid0.Coords) : Fin 3 → Nat :=
  let arg0 : BitVec 32 := BitVec.ofNat 32 (i 0).val
  let c1_i32 : BitVec 32 := 1#32
  let v3 : BitVec 32 := Scalar.andi arg0 c1_i32
  let v19427 : Index := Scalar.indexCast v3
  let c192_6925 : Index := 192#32
  let c3584_6926 : Index := 3584#32
  ![v19427.toNat, 192, 3584]
def k0_off423 (i : grid0.Coords) : Fin 3 → Nat :=
  let arg0 : BitVec 32 := BitVec.ofNat 32 (i 0).val
  let c1_i32 : BitVec 32 := 1#32
  let v3 : BitVec 32 := Scalar.andi arg0 c1_i32
  let v19464 : Index := Scalar.indexCast v3
  let c192_6939 : Index := 192#32
  let c3712_6940 : Index := 3712#32
  ![v19464.toNat, 192, 3712]
def k0_off424 (i : grid0.Coords) : Fin 3 → Nat :=
  let arg0 : BitVec 32 := BitVec.ofNat 32 (i 0).val
  let c1_i32 : BitVec 32 := 1#32
  let v3 : BitVec 32 := Scalar.andi arg0 c1_i32
  let v19501 : Index := Scalar.indexCast v3
  let c192_6953 : Index := 192#32
  let c3840_6954 : Index := 3840#32
  ![v19501.toNat, 192, 3840]
def k0_off425 (i : grid0.Coords) : Fin 3 → Nat :=
  let arg0 : BitVec 32 := BitVec.ofNat 32 (i 0).val
  let c1_i32 : BitVec 32 := 1#32
  let v3 : BitVec 32 := Scalar.andi arg0 c1_i32
  let v19538 : Index := Scalar.indexCast v3
  let c192_6967 : Index := 192#32
  let c3968_6968 : Index := 3968#32
  ![v19538.toNat, 192, 3968]
def k0_off426 (i : grid0.Coords) : Fin 3 → Nat :=
  let arg0 : BitVec 32 := BitVec.ofNat 32 (i 0).val
  let c1_i32 : BitVec 32 := 1#32
  let v3 : BitVec 32 := Scalar.andi arg0 c1_i32
  let v19991 : Index := Scalar.indexCast v3
  let c192_7120 : Index := 192#32
  let c4096_7121 : Index := 4096#32
  ![v19991.toNat, 192, 4096]
def k0_off427 (i : grid0.Coords) : Fin 3 → Nat :=
  let arg0 : BitVec 32 := BitVec.ofNat 32 (i 0).val
  let c1_i32 : BitVec 32 := 1#32
  let v3 : BitVec 32 := Scalar.andi arg0 c1_i32
  let v20028 : Index := Scalar.indexCast v3
  let c192_7134 : Index := 192#32
  let c4224_7135 : Index := 4224#32
  ![v20028.toNat, 192, 4224]
def k0_off428 (i : grid0.Coords) : Fin 3 → Nat :=
  let arg0 : BitVec 32 := BitVec.ofNat 32 (i 0).val
  let c1_i32 : BitVec 32 := 1#32
  let v3 : BitVec 32 := Scalar.andi arg0 c1_i32
  let v20065 : Index := Scalar.indexCast v3
  let c192_7148 : Index := 192#32
  let c4352_7149 : Index := 4352#32
  ![v20065.toNat, 192, 4352]
def k0_off429 (i : grid0.Coords) : Fin 3 → Nat :=
  let arg0 : BitVec 32 := BitVec.ofNat 32 (i 0).val
  let c1_i32 : BitVec 32 := 1#32
  let v3 : BitVec 32 := Scalar.andi arg0 c1_i32
  let v20102 : Index := Scalar.indexCast v3
  let c192_7162 : Index := 192#32
  let c4480_7163 : Index := 4480#32
  ![v20102.toNat, 192, 4480]
def k0_off430 (i : grid0.Coords) : Fin 3 → Nat :=
  let arg0 : BitVec 32 := BitVec.ofNat 32 (i 0).val
  let c1_i32 : BitVec 32 := 1#32
  let v3 : BitVec 32 := Scalar.andi arg0 c1_i32
  let v20139 : Index := Scalar.indexCast v3
  let c192_7176 : Index := 192#32
  let c4608_7177 : Index := 4608#32
  ![v20139.toNat, 192, 4608]
def k0_off431 (i : grid0.Coords) : Fin 3 → Nat :=
  let arg0 : BitVec 32 := BitVec.ofNat 32 (i 0).val
  let c1_i32 : BitVec 32 := 1#32
  let v3 : BitVec 32 := Scalar.andi arg0 c1_i32
  let v20176 : Index := Scalar.indexCast v3
  let c192_7190 : Index := 192#32
  let c4736_7191 : Index := 4736#32
  ![v20176.toNat, 192, 4736]
def k0_off432 (i : grid0.Coords) : Fin 3 → Nat :=
  let arg0 : BitVec 32 := BitVec.ofNat 32 (i 0).val
  let c1_i32 : BitVec 32 := 1#32
  let v3 : BitVec 32 := Scalar.andi arg0 c1_i32
  let v20213 : Index := Scalar.indexCast v3
  let c192_7204 : Index := 192#32
  let c4864_7205 : Index := 4864#32
  ![v20213.toNat, 192, 4864]
def k0_off433 (i : grid0.Coords) : Fin 3 → Nat :=
  let arg0 : BitVec 32 := BitVec.ofNat 32 (i 0).val
  let c1_i32 : BitVec 32 := 1#32
  let v3 : BitVec 32 := Scalar.andi arg0 c1_i32
  let v20250 : Index := Scalar.indexCast v3
  let c192_7218 : Index := 192#32
  let c4992_7219 : Index := 4992#32
  ![v20250.toNat, 192, 4992]
def k0_off434 (i : grid0.Coords) : Fin 3 → Nat :=
  let arg0 : BitVec 32 := BitVec.ofNat 32 (i 0).val
  let c1_i32 : BitVec 32 := 1#32
  let v3 : BitVec 32 := Scalar.andi arg0 c1_i32
  let v20287 : Index := Scalar.indexCast v3
  let c192_7232 : Index := 192#32
  let c5120_7233 : Index := 5120#32
  ![v20287.toNat, 192, 5120]
def k0_off435 (i : grid0.Coords) : Fin 3 → Nat :=
  let arg0 : BitVec 32 := BitVec.ofNat 32 (i 0).val
  let c1_i32 : BitVec 32 := 1#32
  let v3 : BitVec 32 := Scalar.andi arg0 c1_i32
  let v20324 : Index := Scalar.indexCast v3
  let c192_7246 : Index := 192#32
  let c5248_7247 : Index := 5248#32
  ![v20324.toNat, 192, 5248]
def k0_off436 (i : grid0.Coords) : Fin 3 → Nat :=
  let arg0 : BitVec 32 := BitVec.ofNat 32 (i 0).val
  let c1_i32 : BitVec 32 := 1#32
  let v3 : BitVec 32 := Scalar.andi arg0 c1_i32
  let v20361 : Index := Scalar.indexCast v3
  let c192_7260 : Index := 192#32
  let c5376_7261 : Index := 5376#32
  ![v20361.toNat, 192, 5376]
def k0_off437 (i : grid0.Coords) : Fin 3 → Nat :=
  let arg0 : BitVec 32 := BitVec.ofNat 32 (i 0).val
  let c1_i32 : BitVec 32 := 1#32
  let v3 : BitVec 32 := Scalar.andi arg0 c1_i32
  let v20398 : Index := Scalar.indexCast v3
  let c192_7274 : Index := 192#32
  let c5504_7275 : Index := 5504#32
  ![v20398.toNat, 192, 5504]
def k0_off438 (i : grid0.Coords) : Fin 3 → Nat :=
  let arg0 : BitVec 32 := BitVec.ofNat 32 (i 0).val
  let c1_i32 : BitVec 32 := 1#32
  let v3 : BitVec 32 := Scalar.andi arg0 c1_i32
  let v20435 : Index := Scalar.indexCast v3
  let c192_7288 : Index := 192#32
  let c5632_7289 : Index := 5632#32
  ![v20435.toNat, 192, 5632]
def k0_off439 (i : grid0.Coords) : Fin 3 → Nat :=
  let arg0 : BitVec 32 := BitVec.ofNat 32 (i 0).val
  let c1_i32 : BitVec 32 := 1#32
  let v3 : BitVec 32 := Scalar.andi arg0 c1_i32
  let v20472 : Index := Scalar.indexCast v3
  let c192_7302 : Index := 192#32
  let c5760_7303 : Index := 5760#32
  ![v20472.toNat, 192, 5760]
def k0_off440 (i : grid0.Coords) : Fin 3 → Nat :=
  let arg0 : BitVec 32 := BitVec.ofNat 32 (i 0).val
  let c1_i32 : BitVec 32 := 1#32
  let v3 : BitVec 32 := Scalar.andi arg0 c1_i32
  let v20509 : Index := Scalar.indexCast v3
  let c192_7316 : Index := 192#32
  let c5888_7317 : Index := 5888#32
  ![v20509.toNat, 192, 5888]
def k0_off441 (i : grid0.Coords) : Fin 3 → Nat :=
  let arg0 : BitVec 32 := BitVec.ofNat 32 (i 0).val
  let c1_i32 : BitVec 32 := 1#32
  let v3 : BitVec 32 := Scalar.andi arg0 c1_i32
  let v20546 : Index := Scalar.indexCast v3
  let c192_7330 : Index := 192#32
  let c6016_7331 : Index := 6016#32
  ![v20546.toNat, 192, 6016]
def k0_off442 (i : grid0.Coords) : Fin 3 → Nat :=
  let arg0 : BitVec 32 := BitVec.ofNat 32 (i 0).val
  let c1_i32 : BitVec 32 := 1#32
  let v3 : BitVec 32 := Scalar.andi arg0 c1_i32
  let v21326 : Index := Scalar.indexCast v3
  let c224_7592 : Index := 224#32
  let c0_7593 : Index := 0#32
  ![v21326.toNat, 224, 0]
def k0_off443 (i : grid0.Coords) : Fin 3 → Nat :=
  let arg0 : BitVec 32 := BitVec.ofNat 32 (i 0).val
  let c1_i32 : BitVec 32 := 1#32
  let v3 : BitVec 32 := Scalar.andi arg0 c1_i32
  let v21363 : Index := Scalar.indexCast v3
  let c224_7606 : Index := 224#32
  let c128_7607 : Index := 128#32
  ![v21363.toNat, 224, 128]
def k0_off444 (i : grid0.Coords) : Fin 3 → Nat :=
  let arg0 : BitVec 32 := BitVec.ofNat 32 (i 0).val
  let c1_i32 : BitVec 32 := 1#32
  let v3 : BitVec 32 := Scalar.andi arg0 c1_i32
  let v21400 : Index := Scalar.indexCast v3
  let c224_7620 : Index := 224#32
  let c256_7621 : Index := 256#32
  ![v21400.toNat, 224, 256]
def k0_off445 (i : grid0.Coords) : Fin 3 → Nat :=
  let arg0 : BitVec 32 := BitVec.ofNat 32 (i 0).val
  let c1_i32 : BitVec 32 := 1#32
  let v3 : BitVec 32 := Scalar.andi arg0 c1_i32
  let v21437 : Index := Scalar.indexCast v3
  let c224_7634 : Index := 224#32
  let c384_7635 : Index := 384#32
  ![v21437.toNat, 224, 384]
def k0_off446 (i : grid0.Coords) : Fin 3 → Nat :=
  let arg0 : BitVec 32 := BitVec.ofNat 32 (i 0).val
  let c1_i32 : BitVec 32 := 1#32
  let v3 : BitVec 32 := Scalar.andi arg0 c1_i32
  let v21474 : Index := Scalar.indexCast v3
  let c224_7648 : Index := 224#32
  let c512_7649 : Index := 512#32
  ![v21474.toNat, 224, 512]
def k0_off447 (i : grid0.Coords) : Fin 3 → Nat :=
  let arg0 : BitVec 32 := BitVec.ofNat 32 (i 0).val
  let c1_i32 : BitVec 32 := 1#32
  let v3 : BitVec 32 := Scalar.andi arg0 c1_i32
  let v21511 : Index := Scalar.indexCast v3
  let c224_7662 : Index := 224#32
  let c640_7663 : Index := 640#32
  ![v21511.toNat, 224, 640]
def k0_off448 (i : grid0.Coords) : Fin 3 → Nat :=
  let arg0 : BitVec 32 := BitVec.ofNat 32 (i 0).val
  let c1_i32 : BitVec 32 := 1#32
  let v3 : BitVec 32 := Scalar.andi arg0 c1_i32
  let v21548 : Index := Scalar.indexCast v3
  let c224_7676 : Index := 224#32
  let c768_7677 : Index := 768#32
  ![v21548.toNat, 224, 768]
def k0_off449 (i : grid0.Coords) : Fin 3 → Nat :=
  let arg0 : BitVec 32 := BitVec.ofNat 32 (i 0).val
  let c1_i32 : BitVec 32 := 1#32
  let v3 : BitVec 32 := Scalar.andi arg0 c1_i32
  let v21585 : Index := Scalar.indexCast v3
  let c224_7690 : Index := 224#32
  let c896_7691 : Index := 896#32
  ![v21585.toNat, 224, 896]
def k0_off450 (i : grid0.Coords) : Fin 3 → Nat :=
  let arg0 : BitVec 32 := BitVec.ofNat 32 (i 0).val
  let c1_i32 : BitVec 32 := 1#32
  let v3 : BitVec 32 := Scalar.andi arg0 c1_i32
  let v21622 : Index := Scalar.indexCast v3
  let c224_7704 : Index := 224#32
  let c1024_7705 : Index := 1024#32
  ![v21622.toNat, 224, 1024]
def k0_off451 (i : grid0.Coords) : Fin 3 → Nat :=
  let arg0 : BitVec 32 := BitVec.ofNat 32 (i 0).val
  let c1_i32 : BitVec 32 := 1#32
  let v3 : BitVec 32 := Scalar.andi arg0 c1_i32
  let v21659 : Index := Scalar.indexCast v3
  let c224_7718 : Index := 224#32
  let c1152_7719 : Index := 1152#32
  ![v21659.toNat, 224, 1152]
def k0_off452 (i : grid0.Coords) : Fin 3 → Nat :=
  let arg0 : BitVec 32 := BitVec.ofNat 32 (i 0).val
  let c1_i32 : BitVec 32 := 1#32
  let v3 : BitVec 32 := Scalar.andi arg0 c1_i32
  let v21696 : Index := Scalar.indexCast v3
  let c224_7732 : Index := 224#32
  let c1280_7733 : Index := 1280#32
  ![v21696.toNat, 224, 1280]
def k0_off453 (i : grid0.Coords) : Fin 3 → Nat :=
  let arg0 : BitVec 32 := BitVec.ofNat 32 (i 0).val
  let c1_i32 : BitVec 32 := 1#32
  let v3 : BitVec 32 := Scalar.andi arg0 c1_i32
  let v21733 : Index := Scalar.indexCast v3
  let c224_7746 : Index := 224#32
  let c1408_7747 : Index := 1408#32
  ![v21733.toNat, 224, 1408]
def k0_off454 (i : grid0.Coords) : Fin 3 → Nat :=
  let arg0 : BitVec 32 := BitVec.ofNat 32 (i 0).val
  let c1_i32 : BitVec 32 := 1#32
  let v3 : BitVec 32 := Scalar.andi arg0 c1_i32
  let v21770 : Index := Scalar.indexCast v3
  let c224_7760 : Index := 224#32
  let c1536_7761 : Index := 1536#32
  ![v21770.toNat, 224, 1536]
def k0_off455 (i : grid0.Coords) : Fin 3 → Nat :=
  let arg0 : BitVec 32 := BitVec.ofNat 32 (i 0).val
  let c1_i32 : BitVec 32 := 1#32
  let v3 : BitVec 32 := Scalar.andi arg0 c1_i32
  let v21807 : Index := Scalar.indexCast v3
  let c224_7774 : Index := 224#32
  let c1664_7775 : Index := 1664#32
  ![v21807.toNat, 224, 1664]
def k0_off456 (i : grid0.Coords) : Fin 3 → Nat :=
  let arg0 : BitVec 32 := BitVec.ofNat 32 (i 0).val
  let c1_i32 : BitVec 32 := 1#32
  let v3 : BitVec 32 := Scalar.andi arg0 c1_i32
  let v21844 : Index := Scalar.indexCast v3
  let c224_7788 : Index := 224#32
  let c1792_7789 : Index := 1792#32
  ![v21844.toNat, 224, 1792]
def k0_off457 (i : grid0.Coords) : Fin 3 → Nat :=
  let arg0 : BitVec 32 := BitVec.ofNat 32 (i 0).val
  let c1_i32 : BitVec 32 := 1#32
  let v3 : BitVec 32 := Scalar.andi arg0 c1_i32
  let v21881 : Index := Scalar.indexCast v3
  let c224_7802 : Index := 224#32
  let c1920_7803 : Index := 1920#32
  ![v21881.toNat, 224, 1920]
def k0_off458 (i : grid0.Coords) : Fin 3 → Nat :=
  let arg0 : BitVec 32 := BitVec.ofNat 32 (i 0).val
  let c1_i32 : BitVec 32 := 1#32
  let v3 : BitVec 32 := Scalar.andi arg0 c1_i32
  let v21918 : Index := Scalar.indexCast v3
  let c224_7816 : Index := 224#32
  let c2048_7817 : Index := 2048#32
  ![v21918.toNat, 224, 2048]
def k0_off459 (i : grid0.Coords) : Fin 3 → Nat :=
  let arg0 : BitVec 32 := BitVec.ofNat 32 (i 0).val
  let c1_i32 : BitVec 32 := 1#32
  let v3 : BitVec 32 := Scalar.andi arg0 c1_i32
  let v21955 : Index := Scalar.indexCast v3
  let c224_7830 : Index := 224#32
  let c2176_7831 : Index := 2176#32
  ![v21955.toNat, 224, 2176]
def k0_off460 (i : grid0.Coords) : Fin 3 → Nat :=
  let arg0 : BitVec 32 := BitVec.ofNat 32 (i 0).val
  let c1_i32 : BitVec 32 := 1#32
  let v3 : BitVec 32 := Scalar.andi arg0 c1_i32
  let v21992 : Index := Scalar.indexCast v3
  let c224_7844 : Index := 224#32
  let c2304_7845 : Index := 2304#32
  ![v21992.toNat, 224, 2304]
def k0_off461 (i : grid0.Coords) : Fin 3 → Nat :=
  let arg0 : BitVec 32 := BitVec.ofNat 32 (i 0).val
  let c1_i32 : BitVec 32 := 1#32
  let v3 : BitVec 32 := Scalar.andi arg0 c1_i32
  let v22029 : Index := Scalar.indexCast v3
  let c224_7858 : Index := 224#32
  let c2432_7859 : Index := 2432#32
  ![v22029.toNat, 224, 2432]
def k0_off462 (i : grid0.Coords) : Fin 3 → Nat :=
  let arg0 : BitVec 32 := BitVec.ofNat 32 (i 0).val
  let c1_i32 : BitVec 32 := 1#32
  let v3 : BitVec 32 := Scalar.andi arg0 c1_i32
  let v22066 : Index := Scalar.indexCast v3
  let c224_7872 : Index := 224#32
  let c2560_7873 : Index := 2560#32
  ![v22066.toNat, 224, 2560]
def k0_off463 (i : grid0.Coords) : Fin 3 → Nat :=
  let arg0 : BitVec 32 := BitVec.ofNat 32 (i 0).val
  let c1_i32 : BitVec 32 := 1#32
  let v3 : BitVec 32 := Scalar.andi arg0 c1_i32
  let v22103 : Index := Scalar.indexCast v3
  let c224_7886 : Index := 224#32
  let c2688_7887 : Index := 2688#32
  ![v22103.toNat, 224, 2688]
def k0_off464 (i : grid0.Coords) : Fin 3 → Nat :=
  let arg0 : BitVec 32 := BitVec.ofNat 32 (i 0).val
  let c1_i32 : BitVec 32 := 1#32
  let v3 : BitVec 32 := Scalar.andi arg0 c1_i32
  let v22140 : Index := Scalar.indexCast v3
  let c224_7900 : Index := 224#32
  let c2816_7901 : Index := 2816#32
  ![v22140.toNat, 224, 2816]
def k0_off465 (i : grid0.Coords) : Fin 3 → Nat :=
  let arg0 : BitVec 32 := BitVec.ofNat 32 (i 0).val
  let c1_i32 : BitVec 32 := 1#32
  let v3 : BitVec 32 := Scalar.andi arg0 c1_i32
  let v22177 : Index := Scalar.indexCast v3
  let c224_7914 : Index := 224#32
  let c2944_7915 : Index := 2944#32
  ![v22177.toNat, 224, 2944]
def k0_off466 (i : grid0.Coords) : Fin 3 → Nat :=
  let arg0 : BitVec 32 := BitVec.ofNat 32 (i 0).val
  let c1_i32 : BitVec 32 := 1#32
  let v3 : BitVec 32 := Scalar.andi arg0 c1_i32
  let v22214 : Index := Scalar.indexCast v3
  let c224_7928 : Index := 224#32
  let c3072_7929 : Index := 3072#32
  ![v22214.toNat, 224, 3072]
def k0_off467 (i : grid0.Coords) : Fin 3 → Nat :=
  let arg0 : BitVec 32 := BitVec.ofNat 32 (i 0).val
  let c1_i32 : BitVec 32 := 1#32
  let v3 : BitVec 32 := Scalar.andi arg0 c1_i32
  let v22251 : Index := Scalar.indexCast v3
  let c224_7942 : Index := 224#32
  let c3200_7943 : Index := 3200#32
  ![v22251.toNat, 224, 3200]
def k0_off468 (i : grid0.Coords) : Fin 3 → Nat :=
  let arg0 : BitVec 32 := BitVec.ofNat 32 (i 0).val
  let c1_i32 : BitVec 32 := 1#32
  let v3 : BitVec 32 := Scalar.andi arg0 c1_i32
  let v22288 : Index := Scalar.indexCast v3
  let c224_7956 : Index := 224#32
  let c3328_7957 : Index := 3328#32
  ![v22288.toNat, 224, 3328]
def k0_off469 (i : grid0.Coords) : Fin 3 → Nat :=
  let arg0 : BitVec 32 := BitVec.ofNat 32 (i 0).val
  let c1_i32 : BitVec 32 := 1#32
  let v3 : BitVec 32 := Scalar.andi arg0 c1_i32
  let v22325 : Index := Scalar.indexCast v3
  let c224_7970 : Index := 224#32
  let c3456_7971 : Index := 3456#32
  ![v22325.toNat, 224, 3456]
def k0_off470 (i : grid0.Coords) : Fin 3 → Nat :=
  let arg0 : BitVec 32 := BitVec.ofNat 32 (i 0).val
  let c1_i32 : BitVec 32 := 1#32
  let v3 : BitVec 32 := Scalar.andi arg0 c1_i32
  let v22362 : Index := Scalar.indexCast v3
  let c224_7984 : Index := 224#32
  let c3584_7985 : Index := 3584#32
  ![v22362.toNat, 224, 3584]
def k0_off471 (i : grid0.Coords) : Fin 3 → Nat :=
  let arg0 : BitVec 32 := BitVec.ofNat 32 (i 0).val
  let c1_i32 : BitVec 32 := 1#32
  let v3 : BitVec 32 := Scalar.andi arg0 c1_i32
  let v22399 : Index := Scalar.indexCast v3
  let c224_7998 : Index := 224#32
  let c3712_7999 : Index := 3712#32
  ![v22399.toNat, 224, 3712]
def k0_off472 (i : grid0.Coords) : Fin 3 → Nat :=
  let arg0 : BitVec 32 := BitVec.ofNat 32 (i 0).val
  let c1_i32 : BitVec 32 := 1#32
  let v3 : BitVec 32 := Scalar.andi arg0 c1_i32
  let v22436 : Index := Scalar.indexCast v3
  let c224_8012 : Index := 224#32
  let c3840_8013 : Index := 3840#32
  ![v22436.toNat, 224, 3840]
def k0_off473 (i : grid0.Coords) : Fin 3 → Nat :=
  let arg0 : BitVec 32 := BitVec.ofNat 32 (i 0).val
  let c1_i32 : BitVec 32 := 1#32
  let v3 : BitVec 32 := Scalar.andi arg0 c1_i32
  let v22473 : Index := Scalar.indexCast v3
  let c224_8026 : Index := 224#32
  let c3968_8027 : Index := 3968#32
  ![v22473.toNat, 224, 3968]
def k0_off474 (i : grid0.Coords) : Fin 3 → Nat :=
  let arg0 : BitVec 32 := BitVec.ofNat 32 (i 0).val
  let c1_i32 : BitVec 32 := 1#32
  let v3 : BitVec 32 := Scalar.andi arg0 c1_i32
  let v22926 : Index := Scalar.indexCast v3
  let c224_8179 : Index := 224#32
  let c4096_8180 : Index := 4096#32
  ![v22926.toNat, 224, 4096]
def k0_off475 (i : grid0.Coords) : Fin 3 → Nat :=
  let arg0 : BitVec 32 := BitVec.ofNat 32 (i 0).val
  let c1_i32 : BitVec 32 := 1#32
  let v3 : BitVec 32 := Scalar.andi arg0 c1_i32
  let v22963 : Index := Scalar.indexCast v3
  let c224_8193 : Index := 224#32
  let c4224_8194 : Index := 4224#32
  ![v22963.toNat, 224, 4224]
def k0_off476 (i : grid0.Coords) : Fin 3 → Nat :=
  let arg0 : BitVec 32 := BitVec.ofNat 32 (i 0).val
  let c1_i32 : BitVec 32 := 1#32
  let v3 : BitVec 32 := Scalar.andi arg0 c1_i32
  let v23000 : Index := Scalar.indexCast v3
  let c224_8207 : Index := 224#32
  let c4352_8208 : Index := 4352#32
  ![v23000.toNat, 224, 4352]
def k0_off477 (i : grid0.Coords) : Fin 3 → Nat :=
  let arg0 : BitVec 32 := BitVec.ofNat 32 (i 0).val
  let c1_i32 : BitVec 32 := 1#32
  let v3 : BitVec 32 := Scalar.andi arg0 c1_i32
  let v23037 : Index := Scalar.indexCast v3
  let c224_8221 : Index := 224#32
  let c4480_8222 : Index := 4480#32
  ![v23037.toNat, 224, 4480]
def k0_off478 (i : grid0.Coords) : Fin 3 → Nat :=
  let arg0 : BitVec 32 := BitVec.ofNat 32 (i 0).val
  let c1_i32 : BitVec 32 := 1#32
  let v3 : BitVec 32 := Scalar.andi arg0 c1_i32
  let v23074 : Index := Scalar.indexCast v3
  let c224_8235 : Index := 224#32
  let c4608_8236 : Index := 4608#32
  ![v23074.toNat, 224, 4608]
def k0_off479 (i : grid0.Coords) : Fin 3 → Nat :=
  let arg0 : BitVec 32 := BitVec.ofNat 32 (i 0).val
  let c1_i32 : BitVec 32 := 1#32
  let v3 : BitVec 32 := Scalar.andi arg0 c1_i32
  let v23111 : Index := Scalar.indexCast v3
  let c224_8249 : Index := 224#32
  let c4736_8250 : Index := 4736#32
  ![v23111.toNat, 224, 4736]
def k0_off480 (i : grid0.Coords) : Fin 3 → Nat :=
  let arg0 : BitVec 32 := BitVec.ofNat 32 (i 0).val
  let c1_i32 : BitVec 32 := 1#32
  let v3 : BitVec 32 := Scalar.andi arg0 c1_i32
  let v23148 : Index := Scalar.indexCast v3
  let c224_8263 : Index := 224#32
  let c4864_8264 : Index := 4864#32
  ![v23148.toNat, 224, 4864]
def k0_off481 (i : grid0.Coords) : Fin 3 → Nat :=
  let arg0 : BitVec 32 := BitVec.ofNat 32 (i 0).val
  let c1_i32 : BitVec 32 := 1#32
  let v3 : BitVec 32 := Scalar.andi arg0 c1_i32
  let v23185 : Index := Scalar.indexCast v3
  let c224_8277 : Index := 224#32
  let c4992_8278 : Index := 4992#32
  ![v23185.toNat, 224, 4992]
def k0_off482 (i : grid0.Coords) : Fin 3 → Nat :=
  let arg0 : BitVec 32 := BitVec.ofNat 32 (i 0).val
  let c1_i32 : BitVec 32 := 1#32
  let v3 : BitVec 32 := Scalar.andi arg0 c1_i32
  let v23222 : Index := Scalar.indexCast v3
  let c224_8291 : Index := 224#32
  let c5120_8292 : Index := 5120#32
  ![v23222.toNat, 224, 5120]
def k0_off483 (i : grid0.Coords) : Fin 3 → Nat :=
  let arg0 : BitVec 32 := BitVec.ofNat 32 (i 0).val
  let c1_i32 : BitVec 32 := 1#32
  let v3 : BitVec 32 := Scalar.andi arg0 c1_i32
  let v23259 : Index := Scalar.indexCast v3
  let c224_8305 : Index := 224#32
  let c5248_8306 : Index := 5248#32
  ![v23259.toNat, 224, 5248]
def k0_off484 (i : grid0.Coords) : Fin 3 → Nat :=
  let arg0 : BitVec 32 := BitVec.ofNat 32 (i 0).val
  let c1_i32 : BitVec 32 := 1#32
  let v3 : BitVec 32 := Scalar.andi arg0 c1_i32
  let v23296 : Index := Scalar.indexCast v3
  let c224_8319 : Index := 224#32
  let c5376_8320 : Index := 5376#32
  ![v23296.toNat, 224, 5376]
def k0_off485 (i : grid0.Coords) : Fin 3 → Nat :=
  let arg0 : BitVec 32 := BitVec.ofNat 32 (i 0).val
  let c1_i32 : BitVec 32 := 1#32
  let v3 : BitVec 32 := Scalar.andi arg0 c1_i32
  let v23333 : Index := Scalar.indexCast v3
  let c224_8333 : Index := 224#32
  let c5504_8334 : Index := 5504#32
  ![v23333.toNat, 224, 5504]
def k0_off486 (i : grid0.Coords) : Fin 3 → Nat :=
  let arg0 : BitVec 32 := BitVec.ofNat 32 (i 0).val
  let c1_i32 : BitVec 32 := 1#32
  let v3 : BitVec 32 := Scalar.andi arg0 c1_i32
  let v23370 : Index := Scalar.indexCast v3
  let c224_8347 : Index := 224#32
  let c5632_8348 : Index := 5632#32
  ![v23370.toNat, 224, 5632]
def k0_off487 (i : grid0.Coords) : Fin 3 → Nat :=
  let arg0 : BitVec 32 := BitVec.ofNat 32 (i 0).val
  let c1_i32 : BitVec 32 := 1#32
  let v3 : BitVec 32 := Scalar.andi arg0 c1_i32
  let v23407 : Index := Scalar.indexCast v3
  let c224_8361 : Index := 224#32
  let c5760_8362 : Index := 5760#32
  ![v23407.toNat, 224, 5760]
def k0_off488 (i : grid0.Coords) : Fin 3 → Nat :=
  let arg0 : BitVec 32 := BitVec.ofNat 32 (i 0).val
  let c1_i32 : BitVec 32 := 1#32
  let v3 : BitVec 32 := Scalar.andi arg0 c1_i32
  let v23444 : Index := Scalar.indexCast v3
  let c224_8375 : Index := 224#32
  let c5888_8376 : Index := 5888#32
  ![v23444.toNat, 224, 5888]
def k0_off489 (i : grid0.Coords) : Fin 3 → Nat :=
  let arg0 : BitVec 32 := BitVec.ofNat 32 (i 0).val
  let c1_i32 : BitVec 32 := 1#32
  let v3 : BitVec 32 := Scalar.andi arg0 c1_i32
  let v23481 : Index := Scalar.indexCast v3
  let c224_8389 : Index := 224#32
  let c6016_8390 : Index := 6016#32
  ![v23481.toNat, 224, 6016]
def k0_off490 (i : grid0.Coords) : Fin 3 → Nat :=
  let c1_i32_1 : BitVec 32 := 1#32
  let arg0 : BitVec 32 := BitVec.ofNat 32 (i 0).val
  let c1_i32 : BitVec 32 := 1#32
  let v3 : BitVec 32 := Scalar.andi arg0 c1_i32
  let v4 : BitVec 32 := Scalar.subi c1_i32_1 v3
  let v23485 : Index := Scalar.indexCast v4
  let c0_8391 : Index := 0#32
  let c0_8392 : Index := 0#32
  ![v23485.toNat, 0, 0]
def cc0_transform_0 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2112x192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x6144 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_q_rank" => some ((1 / 1536 : ℝ) : EReal)
  | _ => none
-- ==== ReferenceIdeal.lean ====
abbrev S5x3072x6144 : Shape := ⟨3, ![5, 3072, 6144]⟩
abbrev S2112x6144 : Shape := ⟨2, ![2112, 6144]⟩
abbrev S2112x192 : Shape := ⟨2, ![2112, 192]⟩
abbrev S1536 : Shape := ⟨1, ![1536]⟩
abbrev S512 : Shape := ⟨1, ![512]⟩
abbrev S15360x6144 : Shape := ⟨2, ![15360, 6144]⟩
abbrev S1x1536 : Shape := ⟨2, ![1, 1536]⟩
abbrev S1x512 : Shape := ⟨2, ![1, 512]⟩
abbrev S15360x1536 : Shape := ⟨2, ![15360, 1536]⟩
abbrev S15360x512 : Shape := ⟨2, ![15360, 512]⟩
abbrev S15360x64 : Shape := ⟨2, ![15360, 64]⟩
abbrev S15360x192 : Shape := ⟨2, ![15360, 192]⟩
abbrev S15360x192x32 : Shape := ⟨3, ![15360, 192, 32]⟩
abbrev S15360x192x1 : Shape := ⟨3, ![15360, 192, 1]⟩
abbrev S2112x192x32 : Shape := ⟨3, ![2112, 192, 32]⟩
abbrev S2112x192x1 : Shape := ⟨3, ![2112, 192, 1]⟩
abbrev S15360x2112 : Shape := ⟨2, ![15360, 2112]⟩
abbrev S15360 : Shape := ⟨1, ![15360]⟩
abbrev S15360x1 : Shape := ⟨2, ![15360, 1]⟩

abbrev nBuf : Space → Nat
  | .hbm => 13
  | .vmem => 10
  | .smem => 0
  | _ => 0

abbrev bufTy : (tb : Table) → Fin (tcTables nBuf tb) → BufTy
  | .hbm, ⟨0, _⟩ => ⟨S5x3072x6144, .bf16⟩
  | .hbm, ⟨1, _⟩ => ⟨S2112x6144, .fp8e4m3⟩
  | .hbm, ⟨2, _⟩ => ⟨S2112x192, .i8⟩
  | .hbm, ⟨3, _⟩ => ⟨S1536, .f32⟩
  | .hbm, ⟨4, _⟩ => ⟨S512, .f32⟩
  | .hbm, ⟨5, _⟩ => ⟨S15360x6144, .bf16⟩
  | .hbm, ⟨6, _⟩ => ⟨S1x1536, .f32⟩
  | .hbm, ⟨7, _⟩ => ⟨S1x512, .f32⟩
  | .hbm, ⟨8, _⟩ => ⟨S15360x1536, .bf16⟩
  | .hbm, ⟨9, _⟩ => ⟨S15360x512, .bf16⟩
  | .hbm, ⟨10, _⟩ => ⟨S15360x64, .bf16⟩
  | .hbm, ⟨11, _⟩ => ⟨S15360x6144, .fp8e4m3⟩
  | .hbm, ⟨12, _⟩ => ⟨S15360x192, .i8⟩
  | .local _ .vmem, ⟨0, _⟩ => ⟨S15360x6144, .bf16⟩
  | .local _ .vmem, ⟨1, _⟩ => ⟨S2112x6144, .fp8e4m3⟩
  | .local _ .vmem, ⟨2, _⟩ => ⟨S2112x192, .i8⟩
  | .local _ .vmem, ⟨3, _⟩ => ⟨S1x1536, .f32⟩
  | .local _ .vmem, ⟨4, _⟩ => ⟨S1x512, .f32⟩
  | .local _ .vmem, ⟨5, _⟩ => ⟨S15360x1536, .bf16⟩
  | .local _ .vmem, ⟨6, _⟩ => ⟨S15360x512, .bf16⟩
  | .local _ .vmem, ⟨7, _⟩ => ⟨S15360x64, .bf16⟩
  | .local _ .vmem, ⟨8, _⟩ => ⟨S15360x6144, .fp8e4m3⟩
  | .local _ .vmem, ⟨9, _⟩ => ⟨S15360x192, .i8⟩
  | _, _ => ⟨S5x3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv_ln_2" => some (((Real.log 2)⁻¹ : ℝ) : EReal)
  | _ => none

abbrev grid0 : Pipeline.Grid := .none

abbrev stage0_0 : Fin 1 → Memref sig .tc .vmem S15360x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112x192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x6144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15360x192 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Clean.lean ====
/-
  The kernel's body, written once more with its repetitions as recursions.

  The printed body is straight-line: eight groups of 32 rows, each quantised in two segments (32 column tiles, then
  16), every tile spelled out. Here each repeated piece is one definition over a tile number, a segment or a row
  group, with the same operations in the same order, so that a property of the body is proved once per piece. That
  the printed body IS this program is `Cert.Proof.Kernel.body_eq` / `Cert.Proof.KernelIdeal.body_eq`.
-/
module

public import Idealize.ShloMosaic.Lib.Pipeline
public import Idealize.ShloMosaic.Lib.Scf
public import Idealize.ShloMosaic.Lib.Sig
public import Idealize.ShloMosaic.PureOps

@[expose] public section

noncomputable section

namespace Cert.Proof

open Idealize.ShloMosaic Idealize.SL.Sem

/-! ## Shapes and their facts -/

abbrev S32x128 : Shape := ⟨2, ![32, 128]⟩
abbrev S32x64 : Shape := ⟨2, ![32, 64]⟩
abbrev S32x128x1 : Shape := ⟨3, ![32, 128, 1]⟩
abbrev S1x32x128 : Shape := ⟨3, ![1, 32, 128]⟩
abbrev S256x6144 : Shape := ⟨2, ![256, 6144]⟩
abbrev S256x192 : Shape := ⟨2, ![256, 192]⟩
abbrev S2x256x6144 : Shape := ⟨3, ![2, 256, 6144]⟩
abbrev S1x256x6144 : Shape := ⟨3, ![1, 256, 6144]⟩
abbrev S2112x6144 : Shape := ⟨2, ![2112, 6144]⟩
abbrev S2112x192 : Shape := ⟨2, ![2112, 192]⟩
abbrev S192x6144 : Shape := ⟨2, ![192, 6144]⟩
abbrev S1x192x6144 : Shape := ⟨3, ![1, 192, 6144]⟩
abbrev S2x192x6144 : Shape := ⟨3, ![2, 192, 6144]⟩
abbrev S1x1536 : Shape := ⟨2, ![1, 1536]⟩
abbrev S1x512 : Shape := ⟨2, ![1, 512]⟩
abbrev S256x1536 : Shape := ⟨2, ![256, 1536]⟩
abbrev S256x512 : Shape := ⟨2, ![256, 512]⟩
abbrev S256x64 : Shape := ⟨2, ![256, 64]⟩
abbrev S64x256 : Shape := ⟨2, ![64, 256]⟩
abbrev S1536x6144 : Shape := ⟨2, ![1536, 6144]⟩
abbrev S512x6144 : Shape := ⟨2, ![512, 6144]⟩
abbrev S64x6144 : Shape := ⟨2, ![64, 6144]⟩
abbrev S256 : Shape := ⟨1, ![256]⟩
abbrev S256x1 : Shape := ⟨2, ![256, 1]⟩
abbrev S1 : Shape := ⟨1, ![1]⟩
abbrev S2 : Shape := ⟨1, ![2]⟩
abbrev S_ : Shape := ⟨0, ![]⟩

theorem pos_tile : 0 < S32x128.numel := by decide
theorem pos_half : 0 < S32x64.numel := by decide
theorem pos_tile3 : 0 < S1x32x128.numel := by decide
theorem iotas_tile : S32x128.Iotas .tc 32 [1] := by decide
theorem cast_tile : S32x128.ShapeCasts S32x128 := by decide
theorem cast_tile_idx : S32x128.ShapeCasts S32x128x1 := by decide
theorem cast_idx_tile : S32x128x1.ShapeCasts S32x128 := by decide
theorem cast_tile3 : S32x128.ShapeCasts S1x32x128 := by decide
theorem cast_tile3' : S1x32x128.ShapeCasts S32x128 := by decide
theorem bf16_lt_f32 : FTy.bits .bf16 < FTy.bits .f32 := by decide
theorem fp8_lt_bf16 : FTy.bits .fp8e4m3 < FTy.bits .bf16 := by decide
theorem eight_lt : 8 < 32 := by decide
theorem slices_half : S32x128.Slices ![0, 0] S32x64 := by decide
theorem concats_half : Shape.Concatenates [S32x64, S32x64] S32x128 1 := by decide

/-! ## The tiles of a row group -/

/-- The tile of 32 rows and 128 columns: row group `r`, column tile `n`. -/
def tileOff (r n : Nat) : Fin 2 → Nat := ![32 * (r % 8), 128 * (n % 48)]

theorem tileOff_inb (r n : Nat) : ∀ a, tileOff r n a + S32x128.size a ≤ S256x6144.size a := by
  intro a
  have h1 : r % 8 < 8 := Nat.mod_lt _ (by decide)
  have h2 : n % 48 < 48 := Nat.mod_lt _ (by decide)
  fin_cases a
  · show 32 * (r % 8) + 32 ≤ 256; omega
  · show 128 * (n % 48) + 128 ≤ 6144; omega

abbrev tileRect (r n : Nat) : Rect S256x6144 := Rect.unit (s := S256x6144) (tileOff r n) S32x128.size (tileOff_inb r n)

theorem tileRect_packed (p : Nat) (hp : p ∣ 32) (r n : Nat) : (tileRect r n).PackedRows p :=
  .inr ⟨Nat.le_of_ble_eq_true rfl, rfl, .inl ⟨Dvd.dvd.mul_right hp (r % 8), hp⟩⟩

/-- The same tile of slot `t` of the double buffer. -/
def slotOff (t : BitVec 32) (r n : Nat) : Fin 3 → Nat := ![t.toNat, 32 * (r % 8), 128 * (n % 48)]

/-- The double buffer's slot at grid point `s`. -/
def curSlot (s : Nat) : BitVec 32 := Scalar.andi (BitVec.ofNat 32 s) 1#32

theorem curSlot_lt (s : Nat) : (curSlot s).toNat < 2 := by
  have h : (curSlot s).toNat = (BitVec.ofNat 32 s).toNat &&& 1 := BitVec.toNat_and ..
  have := Nat.and_le_right (n := (BitVec.ofNat 32 s).toNat) (m := 1)
  omega

theorem slotOff_inb (s r n : Nat) : ∀ a, slotOff (curSlot s) r n a + S1x32x128.size a ≤ S2x256x6144.size a := by
  intro a
  have h0 := curSlot_lt s
  have h1 : r % 8 < 8 := Nat.mod_lt _ (by decide)
  have h2 : n % 48 < 48 := Nat.mod_lt _ (by decide)
  fin_cases a
  · show (curSlot s).toNat + 1 ≤ 2; omega
  · show 32 * (r % 8) + 32 ≤ 256; omega
  · show 128 * (n % 48) + 128 ≤ 6144; omega

abbrev slotRect (s r n : Nat) : Rect S2x256x6144 :=
  Rect.unit (s := S2x256x6144) (slotOff (curSlot s) r n) S1x32x128.size (slotOff_inb s r n)

theorem slotRect_packed (p : Nat) (hp : p ∣ 32) (s r n : Nat) : (slotRect s r n).PackedRows p :=
  .inr ⟨Nat.le_of_ble_eq_true rfl, rfl, .inl ⟨Dvd.dvd.mul_right hp (r % 8), hp⟩⟩

/-- Row group `r`'s scales of the first 32 tiles, and of the last 16. -/
def scaleOff (r : Nat) : Fin 2 → Nat := ![32 * (r % 8), 0]
def scaleOff' (r : Nat) : Fin 2 → Nat := ![32 * (r % 8), 128]

theorem scaleOff_inb (r : Nat) : ∀ a, scaleOff r a + S32x128.size a ≤ S256x192.size a := by
  intro a
  have h1 : r % 8 < 8 := Nat.mod_lt _ (by decide)
  fin_cases a
  · show 32 * (r % 8) + 32 ≤ 256; omega
  · show 0 + 128 ≤ 192; omega

theorem scaleOff'_inb (r : Nat) : ∀ a, scaleOff' r a + S32x64.size a ≤ S256x192.size a := by
  intro a
  have h1 : r % 8 < 8 := Nat.mod_lt _ (by decide)
  fin_cases a
  · show 32 * (r % 8) + 32 ≤ 256; omega
  · show 128 + 64 ≤ 192; omega

abbrev scaleRect (r : Nat) : Rect S256x192 := Rect.unit (s := S256x192) (scaleOff r) S32x128.size (scaleOff_inb r)
abbrev scaleRect' (r : Nat) : Rect S256x192 := Rect.unit (s := S256x192) (scaleOff' r) S32x64.size (scaleOff'_inb r)

theorem scaleRect_packed (p : Nat) (hp : p ∣ 32) (r : Nat) : (scaleRect r).PackedRows p :=
  .inr ⟨Nat.le_of_ble_eq_true rfl, rfl, .inl ⟨Dvd.dvd.mul_right hp (r % 8), hp⟩⟩
theorem scaleRect'_packed (p : Nat) (hp : p ∣ 32) (r : Nat) : (scaleRect' r).PackedRows p :=
  .inr ⟨Nat.le_of_ble_eq_true rfl, rfl, .inl ⟨Dvd.dvd.mul_right hp (r % 8), hp⟩⟩

/-! ## The values -/

/-- The lane number. -/
def lane : IVec S32x128 32 := iota .tc S32x128 32 [1] iotas_tile

/-- The lanes of `x` named by `idx`, a negative index counted from the end. -/
def lanes {α : Type} (x : S32x128.Idx → α) (idx : IVec S32x128 32) : S32x128.Idx → α :=
  dynamicGather 1 x (shapeCast S32x128 (shapeCast S32x128x1
    (select (cmpi .slt idx (broadcast S32x128 0#32)) (addi idx (broadcast S32x128 128#32)) idx) cast_tile_idx) cast_idx_tile)

variable {F : FTy → Type} [FloatOps F]

/-- The absolute value of a tile, in f32. -/
def absTile (v : Vec F S32x128 .bf16) : FVec F S32x128 .f32 :=
  absf (extf .f32 (shapeCast S32x128 (v : FVec F S32x128 .bf16) cast_tile) bf16_lt_f32)

/-- One level of the butterfly: the lanes with bit `b` set keep `y` and send `x`, the others the other way round. -/
def fly (b : BitVec 32) (x y : FVec F S32x128 .f32) : FVec F S32x128 .f32 :=
  maximumf (select (cmpi .ne (andi lane (broadcast S32x128 b)) (broadcast S32x128 0#32)) y x)
    (lanes (select (cmpi .ne (andi lane (broadcast S32x128 b)) (broadcast S32x128 0#32)) x y)
      (xori lane (broadcast S32x128 b)))

/-- A level with one vector: each lane with its partner at bit `b`. -/
def fly₁ (b : BitVec 32) (x : FVec F S32x128 .f32) : FVec F S32x128 .f32 :=
  maximumf x (lanes x (xori lane (broadcast S32x128 b)))

/-- One rung of the ladder that finds the exponent field of `p`: `k` is added when `p` reaches the power of two
    whose exponent field is the sum. -/
def rung (p : FVec F S32x128 .f32) (k : BitVec 32) (ef : IVec S32x128 32) : IVec S32x128 32 :=
  select (cmpf .oge p (bitcastToFloat .f32 (shli (addi ef (broadcast S32x128 k)) (broadcast S32x128 23#32))))
    (addi ef (broadcast S32x128 k)) ef

/-- The exponent field of `p`, by eight rungs. -/
def ladder (p : FVec F S32x128 .f32) : IVec S32x128 32 :=
  rung p 1#32 (rung p 2#32 (rung p 4#32 (rung p 8#32 (rung p 16#32 (rung p 32#32 (rung p 64#32 (rung p 128#32
    (broadcast S32x128 0#32))))))))

/-- The scale's exponent code from the group maximum. -/
def expCode (amax : FVec F S32x128 .f32) : IVec S32x128 32 :=
  let ef := ladder (mulf amax (broadcast S32x128 (Scalar.ofBits .f32 0x3B124925#32)))
  select (cmpi .eq ef (broadcast S32x128 0#32)) (broadcast S32x128 127#32) (addi ef (broadcast S32x128 1#32))

/-- The exponent codes in the order of the result: lane `c` gets lane `32 (c mod 4) + c / 4`. -/
def codeOrder (e : IVec S32x128 32) : IVec S32x128 32 :=
  lanes e (addi (muli (andi lane (broadcast S32x128 3#32)) (broadcast S32x128 32#32))
    (shrsi lane (broadcast S32x128 2#32)))

/-- The power of two of an exponent code. -/
def pow2 (e : IVec S32x128 32) : FVec F S32x128 .bf16 :=
  truncf .bf16 (bitcastToFloat .f32 (shli e (broadcast S32x128 23#32))) bf16_lt_f32

/-- The lanes of the tile at `n`: each group of 32 lanes reads its lane `n`. -/
def segLanes (x : IVec S32x128 32) (n : BitVec 32) : IVec S32x128 32 :=
  lanes x (addi (andi lane (broadcast S32x128 4294967264#32)) (broadcast S32x128 n))

/-- A tile's codes, from the reciprocal scale's exponent codes. -/
def codesTile (inv : IVec S32x128 32) (v : Vec F S32x128 .bf16) : FVec F S32x128 .fp8e4m3 :=
  truncf .fp8e4m3
    (minimumf (broadcast S32x128 (Scalar.truncf .bf16 bf16_lt_f32 (Scalar.ofBits .f32 0x43E00000#32)))
      (maximumf (broadcast S32x128 (Scalar.truncf .bf16 bf16_lt_f32 (Scalar.ofBits .f32 0xC3E00000#32)))
        (mulf (shapeCast S32x128 (v : FVec F S32x128 .bf16) cast_tile) (pow2 inv)))) fp8_lt_bf16

/-- A tile's codes times their scale. -/
def scaledTile (inv : IVec S32x128 32) (codes : FVec F S32x128 .fp8e4m3) : FVec F S32x128 .bf16 :=
  mulf (extf .bf16 codes fp8_lt_bf16) (pow2 (subi (broadcast S32x128 254#32) inv))

/-! ## The quantiser -/

section Prog

variable {nD : Nat} {τ : Topo} {sig : RefSig} {Λ : Labels}

/-- Load one tile. -/
def loadTile (x : Memref sig .tc .vmem S256x6144 .bf16) (r n : Nat) : Prog (TpuEff nD τ sig (Elt F) Λ .tc) (Vec F S32x128 .bf16) :=
  Prog.lift (.load x (tileRect r n).toLoadRect (View.loadsAt_vmem pos_tile))

/-- The group maxima of `2 ^ k` tiles: level `l` pairs the tiles `n` and `n + 2 ^ l`. -/
def maxTree (x : Memref sig .tc .vmem S256x6144 .bf16) (r t0 : Nat) :
    (k l n : Nat) → Prog (TpuEff nD τ sig (Elt F) Λ .tc) (FVec F S32x128 .f32)
  | 0, _, n => do
    let v ← loadTile x r (t0 + n)
    pure (absTile v)
  | k + 1, l, n => do
    let a ← maxTree x r t0 k (l + 1) n
    let b ← maxTree x r t0 k (l + 1) (n + 2 ^ l)
    pure (fly (BitVec.ofNat 32 (2 ^ l)) a b)

variable (x : Memref sig .tc .vmem S256x6144 .bf16)
  (codes : Memref sig .tc .vmem S256x6144 .fp8e4m3) (hcodes : codes.IsWhole)
  (scales : Memref sig .tc .vmem S256x192 .i8) (hscales : scales.IsWhole)
  (xa : Memref sig .tc .vmem S2x256x6144 .bf16) (hxa : xa.IsWhole)

/-- Quantise one tile and store its codes and its scaled codes. -/
def quantTile (s r t0 : Nat) (inv : IVec S32x128 32) (n : Nat) : Prog (TpuEff nD τ sig (Elt F) Λ .tc) PUnit := do
  let v ← loadTile x r (t0 + n)
  let _ ← Prog.lift (.load codes (tileRect r (t0 + n)).toLoadRect (View.loadsAt_vmem pos_tile))
  let i := segLanes inv (BitVec.ofNat 32 n)
  Prog.lift (.store codes (tileRect r (t0 + n)) (codesTile i v) Finset.univ
    (View.stores_vmem pos_tile (hcodes.storeExact_slice rfl _ (tileRect_packed _ (by decide) r (t0 + n))) (fun _ => rfl)) (.inl rfl))
  let _ ← Prog.lift (.load xa (slotRect s r (t0 + n)).toLoadRect (View.loadsAt_vmem pos_tile3))
  Prog.lift (.store xa (slotRect s r (t0 + n)) (shapeCast S1x32x128 (scaledTile i (codesTile i v)) cast_tile3) Finset.univ
    (View.stores_vmem pos_tile3 (hxa.storeExact_slice rfl _ (slotRect_packed _ (by decide) s r (t0 + n))) (fun _ => rfl)) (.inl rfl))

/-- Quantise the tiles `n`, `n + 1`, … (`k` of them), then go on. -/
def quantTiles {α : Type} (s r t0 : Nat) (inv : IVec S32x128 32) : (k n : Nat) → Prog (TpuEff nD τ sig (Elt F) Λ .tc) α → Prog (TpuEff nD τ sig (Elt F) Λ .tc) α
  | 0, _, next => next
  | k + 1, n, next => do
    quantTile x codes hcodes xa hxa s r t0 inv n
    quantTiles s r t0 inv k (n + 1) next

/-- The first segment of a row group: tiles 0 to 31. -/
def quantSeg {α : Type} (s r : Nat) (next : Prog (TpuEff nD τ sig (Elt F) Λ .tc) α) : Prog (TpuEff nD τ sig (Elt F) Λ .tc) α := do
  let m ← maxTree x r 0 5 0 0
  let e := expCode m
  let _ ← Prog.lift (.load scales (scaleRect r).toLoadRect (View.loadsAt_vmem pos_tile))
  Prog.lift (.store scales (scaleRect r) (trunci 8 (codeOrder e) eight_lt) Finset.univ
    (View.stores_vmem pos_tile (hscales.storeExact_slice rfl _ (scaleRect_packed _ (by decide) r)) (fun _ => rfl)) (.inl rfl))
  quantTiles x codes hcodes xa hxa s r 0 (subi (broadcast S32x128 254#32) e) 32 0 next

/-- The second segment: tiles 32 to 47. -/
def quantSeg' {α : Type} (s r : Nat) (next : Prog (TpuEff nD τ sig (Elt F) Λ .tc) α) : Prog (TpuEff nD τ sig (Elt F) Λ .tc) α := do
  let m ← maxTree x r 32 4 0 0
  let e := expCode (fly₁ 16#32 m)
  let _ ← Prog.lift (.load scales (scaleRect' r).toLoadRect (View.loadsAt_vmem pos_half))
  Prog.lift (.store scales (scaleRect' r)
    (trunci 8 (extractStridedSlice S32x64 ![0, 0] (codeOrder e) slices_half) eight_lt) Finset.univ
    (View.stores_vmem pos_half (hscales.storeExact_slice rfl _ (scaleRect'_packed _ (by decide) r)) (fun _ => rfl)) (.inl rfl))
  quantTiles x codes hcodes xa hxa s r 32 (subi (broadcast S32x128 254#32) e) 16 0 next

/-- The row groups `r`, `r + 1`, … (`k` of them), then go on. -/
def quantRows {α : Type} (s : Nat) : (k r : Nat) → Prog (TpuEff nD τ sig (Elt F) Λ .tc) α → Prog (TpuEff nD τ sig (Elt F) Λ .tc) α
  | 0, _, next => next
  | k + 1, r, next =>
    quantSeg x codes hcodes scales hscales xa hxa s r
      (quantSeg' x codes hcodes scales hscales xa hxa s r (quantRows s k (r + 1) next))

end Prog

/-! ## The weights: fetched once, two chunks in flight, and decoded -/

/-- The loop over the eleven chunks of 192 rows, and over the six groups of 32 rows of a chunk. -/
@[reducible] def chunkLoop : Scf.Loop 32 := ⟨0#32, Scalar.addi 0#32 11#32, 1#32⟩
@[reducible] def rowLoop : Scf.Loop 32 := ⟨0#32, Scalar.addi 0#32 6#32, 1#32⟩

theorem chunkLoop_ok : chunkLoop.OK := by decide
theorem rowLoop_ok : rowLoop.OK := by decide

/-- The trip's number. -/
def tripW (t : Nat) : BitVec 32 := Scf.iv 0#32 1#32 t

/-- The buffer of chunk `t`, the other buffer, and whether there is a next chunk. -/
def bufW (t : Nat) : BitVec 32 := Scalar.andi (tripW t) 1#32
def otherW (t : Nat) : BitVec 32 := Scalar.subi 1#32 (bufW t)
def more (t : Nat) : BitVec 1 :=
  Scalar.cmpi .ne (Scalar.extui (Scalar.cmpi .slt (Scalar.addi (tripW t) 1#32) 11#32)) 0#32

/-- The first row of chunk `t`, of the next chunk; the first row of row group `u` in its chunk, and in the array. -/
def chunkRow (t : Nat) : BitVec 32 := Scalar.muli (tripW t) 192#32
def nextRow (t : Nat) : BitVec 32 := Scalar.muli (Scalar.addi (tripW t) 1#32) 192#32
def rowIn (u : Nat) : BitVec 32 := Scalar.muli (tripW u) 32#32
def rowOf (t u : Nat) : BitVec 32 := Scalar.addi (Scalar.muli (tripW t) 192#32) (Scalar.muli (tripW u) 32#32)

theorem bufW_lt : ∀ t : Fin chunkLoop.trips, (bufW t).toNat + 1 ≤ 2 := by decide +kernel
theorem otherW_lt : ∀ t : Fin chunkLoop.trips, (otherW t).toNat + 1 ≤ 2 := by decide +kernel
theorem chunkRow_eq : ∀ t : Fin chunkLoop.trips, (chunkRow t).toNat = 192 * t.val := by decide +kernel
theorem nextRow_eq : ∀ t : Fin chunkLoop.trips, (nextRow t).toNat = 192 * (t.val + 1) := by decide +kernel
theorem more_iff : ∀ t : Fin chunkLoop.trips, more t = 1#1 ↔ t.val < 10 := by decide +kernel
theorem rowIn_eq : ∀ u : Fin rowLoop.trips, (rowIn u).toNat = 32 * u.val := by decide +kernel
theorem rowOf_eq : ∀ (t : Fin chunkLoop.trips) (u : Fin rowLoop.trips), (rowOf t u).toNat = 192 * t.val + 32 * u.val := by
  decide +kernel
theorem trips_chunk : chunkLoop.trips = 11 := by decide
theorem trips_row : rowLoop.trips = 6 := by decide

theorem squeezes_buf : S1x192x6144.Squeezes S192x6144 := by decide
theorem squeezes_sem : S1.Squeezes S_ := by decide

/-- A whole buffer of the staging pair. -/
def bufOff (b : BitVec 32) : Fin 3 → Nat := ![b.toNat, 0, 0]
theorem bufOff_inb (b : BitVec 32) (hb : b.toNat + 1 ≤ 2) : ∀ a, bufOff b a + S1x192x6144.size a ≤ S2x192x6144.size a := by
  intro a
  fin_cases a
  · exact hb
  · show 0 + 192 ≤ 192; omega
  · show 0 + 6144 ≤ 6144; omega
abbrev bufRect (b : BitVec 32) (hb : b.toNat + 1 ≤ 2) : Rect S2x192x6144 :=
  Rect.unit (s := S2x192x6144) (bufOff b) S1x192x6144.size (bufOff_inb b hb)
theorem bufRect_words (p : Nat) (hp : p ∣ 192) (b : BitVec 32) (hb : b.toNat + 1 ≤ 2) : (bufRect b hb).WholeWords p :=
  .inl (.inr ⟨Nat.le_of_ble_eq_true rfl, rfl, .inl ⟨Dvd.intro 0 rfl, hp⟩⟩)

/-- The rows of a chunk in the array. -/
def chunkOff (w : BitVec 32) : Fin 2 → Nat := ![w.toNat, 0]
theorem chunkOff_inb (w : BitVec 32) (hw : w.toNat + 192 ≤ 2112) : ∀ a, chunkOff w a + S192x6144.size a ≤ S2112x6144.size a := by
  intro a
  fin_cases a
  · exact hw
  · show 0 + 6144 ≤ 6144; omega
abbrev chunkRect (w : BitVec 32) (hw : w.toNat + 192 ≤ 2112) : Rect S2112x6144 :=
  Rect.unit (s := S2112x6144) (chunkOff w) S192x6144.size (chunkOff_inb w hw)
theorem chunkRect_words (p : Nat) (hp : p ∣ 192) (w : BitVec 32) (hw : w.toNat + 192 ≤ 2112) (h : 192 ∣ w.toNat) :
    (chunkRect w hw).WholeWords p :=
  .inl (.inr ⟨Nat.le_of_ble_eq_true rfl, rfl, .inl ⟨hp.trans h, hp⟩⟩)

/-- The semaphore of a buffer. -/
def semOff (b : BitVec 32) : Fin 1 → Nat := ![b.toNat]
theorem semOff_inb (b : BitVec 32) (hb : b.toNat + 1 ≤ 2) : ∀ a, semOff b a + S1.size a ≤ S2.size a := by
  intro a; fin_cases a; exact hb

/-- A decoded tile: row group `u` of chunk `t`, column tile `n`; the same tile in its staging buffer; and the scales. -/
def waOff (t u n : Nat) : Fin 2 → Nat := ![(rowOf t u).toNat, 128 * (n % 48)]
def wbOff (u n : Nat) : Fin 2 → Nat := ![(rowIn u).toNat, 128 * (n % 48)]
def wsOff (t u : Nat) : Fin 2 → Nat := ![(rowOf t u).toNat, 0]
def wsOff' (t u : Nat) : Fin 2 → Nat := ![(rowOf t u).toNat, 128]

theorem waOff_inb (t : Fin chunkLoop.trips) (u : Fin rowLoop.trips) (n : Nat) :
    ∀ a, waOff t u n a + S32x128.size a ≤ S2112x6144.size a := by
  intro a
  have ht := t.isLt; have hu := u.isLt; replace ht := ht.trans_eq trips_chunk; replace hu := hu.trans_eq trips_row
  have h2 : n % 48 < 48 := Nat.mod_lt _ (by decide)
  have he := rowOf_eq t u
  fin_cases a
  · show (rowOf t u).toNat + 32 ≤ 2112; omega
  · show 128 * (n % 48) + 128 ≤ 6144; omega
theorem wbOff_inb (u : Fin rowLoop.trips) (n : Nat) : ∀ a, wbOff u n a + S32x128.size a ≤ S192x6144.size a := by
  intro a
  have hu := u.isLt.trans_eq trips_row
  have h2 : n % 48 < 48 := Nat.mod_lt _ (by decide)
  have he := rowIn_eq u
  fin_cases a
  · show (rowIn u).toNat + 32 ≤ 192; omega
  · show 128 * (n % 48) + 128 ≤ 6144; omega
theorem wsOff_inb (t : Fin chunkLoop.trips) (u : Fin rowLoop.trips) : ∀ a, wsOff t u a + S32x128.size a ≤ S2112x192.size a := by
  intro a
  have ht := t.isLt; have hu := u.isLt; replace ht := ht.trans_eq trips_chunk; replace hu := hu.trans_eq trips_row
  have he := rowOf_eq t u
  fin_cases a
  · show (rowOf t u).toNat + 32 ≤ 2112; omega
  · show 0 + 128 ≤ 192; omega
theorem wsOff'_inb (t : Fin chunkLoop.trips) (u : Fin rowLoop.trips) : ∀ a, wsOff' t u a + S32x64.size a ≤ S2112x192.size a := by
  intro a
  have ht := t.isLt; have hu := u.isLt; replace ht := ht.trans_eq trips_chunk; replace hu := hu.trans_eq trips_row
  have he := rowOf_eq t u
  fin_cases a
  · show (rowOf t u).toNat + 32 ≤ 2112; omega
  · show 128 + 64 ≤ 192; omega

abbrev waRect (t : Fin chunkLoop.trips) (u : Fin rowLoop.trips) (n : Nat) : Rect S2112x6144 :=
  Rect.unit (s := S2112x6144) (waOff t u n) S32x128.size (waOff_inb t u n)
abbrev wbRect (u : Fin rowLoop.trips) (n : Nat) : Rect S192x6144 :=
  Rect.unit (s := S192x6144) (wbOff u n) S32x128.size (wbOff_inb u n)
abbrev wsRect (t : Fin chunkLoop.trips) (u : Fin rowLoop.trips) : Rect S2112x192 :=
  Rect.unit (s := S2112x192) (wsOff t u) S32x128.size (wsOff_inb t u)
abbrev wsRect' (t : Fin chunkLoop.trips) (u : Fin rowLoop.trips) : Rect S2112x192 :=
  Rect.unit (s := S2112x192) (wsOff' t u) S32x64.size (wsOff'_inb t u)

theorem waRect_packed (p : Nat) (hp : p ∣ 32) (t : Fin chunkLoop.trips) (u : Fin rowLoop.trips) (n : Nat) :
    (waRect t u n).PackedRows p := by
  refine .inr ⟨Nat.le_of_ble_eq_true rfl, rfl, .inl ⟨?_, hp⟩⟩
  show p ∣ (rowOf t u).toNat
  rw [rowOf_eq]
  exact hp.trans ⟨6 * t.val + u.val, by omega⟩

/-- The scale codes of a row group's first 32 tiles, and of its last 16 twice over. -/
def wcodes (v : Vec F S32x128 .i8) : IVec S32x128 32 := extui 32 (v : IVec S32x128 8) eight_lt
def wcodes' (v : Vec F S32x64 .i8) : IVec S32x128 32 :=
  concatenate S32x128 1 [⟨S32x64, extui 32 (v : IVec S32x64 8) eight_lt⟩, ⟨S32x64, extui 32 (v : IVec S32x64 8) eight_lt⟩] concats_half

/-- The lanes of a weight tile: lane `c` reads code `4 n + c / 32`. -/
def wlanes (e : IVec S32x128 32) (n : BitVec 32) : IVec S32x128 32 :=
  lanes e (addi (broadcast S32x128 n) (shrsi lane (broadcast S32x128 5#32)))

/-- A decoded tile. -/
def decTile (e : IVec S32x128 32) (v : FVec F S32x128 .fp8e4m3) : FVec F S32x128 .bf16 :=
  shapeCast S32x128 (mulf (extf .bf16 v fp8_lt_bf16) (pow2 e)) cast_tile

section Prog

variable {nD : Nat} {τ : Topo} {sig : RefSig} {Λ : Labels}
variable (w : Memref sig .tc .hbm S2112x6144 .fp8e4m3) (hw : w.IsWhole)
  (ws : Memref sig .tc .vmem S2112x192 .i8)
  (xa : Memref sig .tc .vmem S2x256x6144 .bf16) (hxa : xa.IsWhole)
  (wa : Memref sig .tc .vmem S2112x6144 .bf16) (hwa : wa.IsWhole)
  (wb : Memref sig .tc .vmem S2x192x6144 .fp8e4m3) (hwb : wb.IsWhole)
  (sem : DmaSems sig S2)

/-- One buffer of the staging pair, one chunk of the array, one semaphore. -/
abbrev bufM (b : BitVec 32) (hb : b.toNat + 1 ≤ 2) : Memref sig .tc .vmem S192x6144 .fp8e4m3 :=
  (wb.slice (bufRect b hb) (fun _ => rfl)).squeeze S192x6144 squeezes_buf
abbrev chunkM (v : BitVec 32) (hv : v.toNat + 192 ≤ 2112) : Memref sig .tc .hbm S192x6144 .fp8e4m3 :=
  w.slice (chunkRect v hv) (fun _ => rfl)
abbrev semM (b : BitVec 32) (hb : b.toNat + 1 ≤ 2) : DmaSems sig S_ :=
  (sem.slice (Rect.unit (s := S2) (semOff b) S1.size (semOff_inb b hb))).squeeze S_ squeezes_sem

/-- Start fetching the chunk at row `v` into buffer `b`. -/
def fetch (v b : BitVec 32) (hv : v.toNat + 192 ≤ 2112) (hv' : 192 ∣ v.toNat) (hb : b.toNat + 1 ≤ 2) :
    Prog (TpuEff nD τ sig (Elt F) Λ .tc) PUnit :=
  Prog.lift (.enqueueDma (chunkM w v hv) (.here (bufM wb b hb)) (.dma (semM sem b hb).sem)
    (hw.wordExact_slice rfl _ (chunkRect_words _ (by decide) v hv hv'))
    ((hwb.wordExact_slice rfl _ (bufRect_words _ (by decide) b hb)).reshape _ _) ⟨Or.inl rfl, trivial⟩)

/-- Wait for it. -/
def await (v b : BitVec 32) (hv : v.toNat + 192 ≤ 2112) (hv' : 192 ∣ v.toNat) (hb : b.toNat + 1 ≤ 2) :
    Prog (TpuEff nD τ sig (Elt F) Λ .tc) PUnit :=
  Prog.lift (.waitDma2 (semM sem b hb).sem (chunkM w v hv) (bufM wb b hb)
    (hw.wordExact_slice rfl _ (chunkRect_words _ (by decide) v hv hv'))
    ((hwb.wordExact_slice rfl _ (bufRect_words _ (by decide) b hb)).reshape _ _))

/-- Decode one tile. -/
def decOne (t : Fin chunkLoop.trips) (u : Fin rowLoop.trips) (t0 : Nat) (e : IVec S32x128 32) (n : Nat) :
    Prog (TpuEff nD τ sig (Elt F) Λ .tc) PUnit := do
  let v ← Prog.lift (.load (bufM wb (bufW t) (bufW_lt t)) (wbRect u (t0 + n)).toLoadRect (View.loadsAt_vmem pos_tile))
  let _ ← Prog.lift (.load wa (waRect t u (t0 + n)).toLoadRect (View.loadsAt_vmem pos_tile))
  Prog.lift (.store wa (waRect t u (t0 + n)) (decTile (wlanes e (BitVec.ofNat 32 (4 * n))) v) Finset.univ
    (View.stores_vmem pos_tile (hwa.storeExact_slice rfl _ (waRect_packed _ (by decide) t u (t0 + n))) (fun _ => rfl)) (.inl rfl))

/-- Decode the tiles `n`, `n + 1`, … (`k` of them), then go on. -/
def decTiles {α : Type} (t : Fin chunkLoop.trips) (u : Fin rowLoop.trips) (t0 : Nat) (e : IVec S32x128 32) :
    (k n : Nat) → Prog (TpuEff nD τ sig (Elt F) Λ .tc) α → Prog (TpuEff nD τ sig (Elt F) Λ .tc) α
  | 0, _, next => next
  | k + 1, n, next => do
    decOne wa hwa wb t u t0 e n
    decTiles t u t0 e k (n + 1) next

/-- Decode one row group. -/
def decRows (t : Fin chunkLoop.trips) (u : Fin rowLoop.trips) : Prog (TpuEff nD τ sig (Elt F) Λ .tc) PUnit := do
  let e ← Prog.lift (.load ws (wsRect t u).toLoadRect (View.loadsAt_vmem pos_tile))
  decTiles wa hwa wb t u 0 (wcodes (F := F) e) 32 0 do
    let e' ← Prog.lift (.load ws (wsRect' t u).toLoadRect (View.loadsAt_vmem pos_half))
    decTiles wa hwa wb t u 32 (wcodes' (F := F) e') 16 0 (pure ⟨⟩)

/-- One chunk: start the next, wait for this one, decode it. -/
def chunkBody (t : Fin chunkLoop.trips) : Prog (TpuEff nD τ sig (Elt F) Λ .tc) PUnit := do
  if h : more t = 1#1 then do
    fetch w hw wb hwb sem (nextRow t) (otherW t) (by have := nextRow_eq t; have := (more_iff t).1 h; omega)
      (by rw [nextRow_eq t]; exact ⟨_, rfl⟩) (otherW_lt t)
    pure ⟨⟩
  else do
    pure ⟨⟩
  await w hw wb hwb sem (chunkRow t) (bufW t)
    (by have := chunkRow_eq t; have := t.isLt; have := trips_chunk; omega) (by rw [chunkRow_eq t]; exact ⟨_, rfl⟩) (bufW_lt t)
  Scf.Loop.for rowLoop rowLoop_ok ⟨⟩ fun u _ => decRows ws wa hwa wb t u
  pure ⟨⟩

/-- Whether this is the first grid point. -/
def first (s : Nat) : BitVec 1 :=
  Scalar.cmpi .ne (Scalar.extui (Scalar.cmpi .eq (BitVec.ofNat 32 s) 0#32)) 0#32

theorem pos_slot : 0 < S1x256x6144.numel := by decide
theorem cast_slot : S256x6144.ShapeCasts S1x256x6144 := by decide
theorem cast_slot' : S1x256x6144.ShapeCasts S256x6144 := by decide

/-- A whole slot of the double buffer. -/
def wholeSlotOff (t : BitVec 32) : Fin 3 → Nat := ![t.toNat, 0, 0]
theorem wholeSlotOff_inb (t : BitVec 32) (ht : t.toNat + 1 ≤ 2) : ∀ a, wholeSlotOff t a + S1x256x6144.size a ≤ S2x256x6144.size a := by
  intro a
  fin_cases a
  · exact ht
  · show 0 + 256 ≤ 256; omega
  · show 0 + 6144 ≤ 6144; omega
abbrev wholeSlotRect (t : BitVec 32) (ht : t.toNat + 1 ≤ 2) : Rect S2x256x6144 :=
  Rect.unit (s := S2x256x6144) (wholeSlotOff t) S1x256x6144.size (wholeSlotOff_inb t ht)
theorem wholeSlotRect_packed (p : Nat) (hp : p ∣ 256) (t : BitVec 32) (ht : t.toNat + 1 ≤ 2) : (wholeSlotRect t ht).PackedRows p :=
  .inr ⟨Nat.le_of_ble_eq_true rfl, rfl, .inl ⟨Dvd.intro 0 rfl, hp⟩⟩

/-- At the first grid point: fetch and decode the weights, and clear slot 1. -/
def prologue (s : Nat) : Prog (TpuEff nD τ sig (Elt F) Λ .tc) PUnit := do
  if _h : first s = 1#1 then do
    fetch w hw wb hwb sem 0#32 0#32 (by decide) (by decide) (by decide)
    Scf.Loop.for chunkLoop chunkLoop_ok ⟨⟩ fun t _ => chunkBody w hw ws wa hwa wb hwb sem t
    let _ ← Prog.lift (.load xa (wholeSlotRect 1#32 (by decide)).toLoadRect (View.loadsAt_vmem pos_slot))
    Prog.lift (.store xa (wholeSlotRect 1#32 (by decide))
      (shapeCast S1x256x6144 (broadcast S256x6144 (Scalar.ofBits .bf16 0x0000#16 : F .bf16)) cast_slot) Finset.univ
      (View.stores_vmem pos_slot (hxa.storeExact_slice rfl _ (wholeSlotRect_packed _ (by decide) 1#32 (by decide))) (fun _ => rfl)) (.inl rfl))
    pure ⟨⟩
  else do
    pure ⟨⟩
  pure ⟨⟩

end Prog

/-! ## The projections and the norms -/

theorem dots_q_wf : DotDims.WF S256x6144 S1536x6144 S256x1536 [1] [1] [0] [0] [] [] := by decide
theorem dots_kv_wf : DotDims.WF S256x6144 S512x6144 S256x512 [1] [1] [0] [0] [] [] := by decide
theorem dots_kpe_wf : DotDims.WF S64x6144 S256x6144 S64x256 [1] [1] [0] [0] [] [] := by decide

def dots_q : DotDims S256x6144 S1536x6144 S256x1536 where
  lhsContracting := [1]
  rhsContracting := [1]
  lhsNonContracting := [0]
  rhsNonContracting := [0]
  lhsBatch := []
  rhsBatch := []
  wf := dots_q_wf
def dots_kv : DotDims S256x6144 S512x6144 S256x512 where
  lhsContracting := [1]
  rhsContracting := [1]
  lhsNonContracting := [0]
  rhsNonContracting := [0]
  lhsBatch := []
  rhsBatch := []
  wf := dots_kv_wf
def dots_kpe : DotDims S64x6144 S256x6144 S64x256 where
  lhsContracting := [1]
  rhsContracting := [1]
  lhsNonContracting := [0]
  rhsNonContracting := [0]
  lhsBatch := []
  rhsBatch := []
  wf := dots_kpe_wf

theorem cast_q : S1x1536.ShapeCasts S1x1536 := by decide
theorem cast_kv : S1x512.ShapeCasts S1x512 := by decide
theorem red_q : S256x1536.Reduces [1] S256 := by decide
theorem red_kv : S256x512.Reduces [1] S256 := by decide
theorem cast_row : S256.ShapeCasts S256x1 := by decide
theorem bc_row_q : S256x1.Broadcasts S256x1536 := by decide
theorem bc_row_kv : S256x1.Broadcasts S256x512 := by decide
theorem bc_g_q : S1x1536.Broadcasts S256x1536 := by decide
theorem bc_g_kv : S1x512.Broadcasts S256x512 := by decide
theorem tr_kpe : S64x256.Transposes [1, 0] S256x64 := by decide

/-- The root mean square's reciprocal, from the row sums of squares and the reciprocal of the length. -/
def rms (c : F .f32) (ss : FVec F S256 .f32) : FVec F S256x1 .f32 :=
  rsqrt (addf (mulf (shapeCast S256x1 ss cast_row) (broadcast S256x1 c)) (broadcast S256x1 (Scalar.ofBits .f32 0x358637BD#32)))

def qDot (x : FVec F S256x6144 .bf16) (w : FVec F S1536x6144 .bf16) : FVec F S256x1536 .f32 :=
  matmul dots_q none x w (constant S256x1536 .f32 0x00000000#32)
def kvDot (x : FVec F S256x6144 .bf16) (w : FVec F S512x6144 .bf16) : FVec F S256x512 .f32 :=
  matmul dots_kv none x w (constant S256x512 .f32 0x00000000#32)

/-- The three results of one block. -/
def qOut (c : F .f32) (x : FVec F S256x6144 .bf16) (w : FVec F S1536x6144 .bf16) (g : Vec F S1x1536 .f32) : FVec F S256x1536 .bf16 :=
  truncf .bf16 (mulf (mulf (qDot x w)
    (broadcastTo S256x1536 (rms c (multiReduction .add [1] S256 (mulf (qDot x w) (qDot x w)) 0x00000000#32 red_q (.inl rfl) rfl)) bc_row_q))
    (broadcastTo S256x1536 (shapeCast S1x1536 (g : FVec F S1x1536 .f32) cast_q) bc_g_q)) bf16_lt_f32
def kvOut (x : FVec F S256x6144 .bf16) (w : FVec F S512x6144 .bf16) (g : Vec F S1x512 .f32) : FVec F S256x512 .bf16 :=
  truncf .bf16 (mulf (mulf (kvDot x w)
    (broadcastTo S256x512 (rms (Scalar.ofBits .f32 0x3B000000#32)
      (multiReduction .add [1] S256 (mulf (kvDot x w) (kvDot x w)) 0x00000000#32 red_kv (.inl rfl) rfl)) bc_row_kv))
    (broadcastTo S256x512 (shapeCast S1x512 (g : FVec F S1x512 .f32) cast_kv) bc_g_kv)) bf16_lt_f32
def kpeOut (x : FVec F S256x6144 .bf16) (w : FVec F S64x6144 .bf16) : FVec F S256x64 .bf16 :=
  truncf .bf16 (transpose S256x64 [1, 0] (matmul dots_kpe none w x (constant S64x256 .f32 0x00000000#32)) tr_kpe) bf16_lt_f32

theorem inb_wq : ∀ a, (![0, 0] : Fin 2 → Nat) a + S1536x6144.size a ≤ S2112x6144.size a := by decide
theorem inb_wkv : ∀ a, (![1536, 0] : Fin 2 → Nat) a + S512x6144.size a ≤ S2112x6144.size a := by decide
theorem inb_wkpe : ∀ a, (![2048, 0] : Fin 2 → Nat) a + S64x6144.size a ≤ S2112x6144.size a := by decide
theorem inb_gq : ∀ a, (![0, 0] : Fin 2 → Nat) a + S1x1536.size a ≤ S1x1536.size a := by decide
theorem inb_gkv : ∀ a, (![0, 0] : Fin 2 → Nat) a + S1x512.size a ≤ S1x512.size a := by decide
theorem inb_q : ∀ a, (![0, 0] : Fin 2 → Nat) a + S256x1536.size a ≤ S256x1536.size a := by decide
theorem inb_kv : ∀ a, (![0, 0] : Fin 2 → Nat) a + S256x512.size a ≤ S256x512.size a := by decide
theorem inb_kpe : ∀ a, (![0, 0] : Fin 2 → Nat) a + S256x64.size a ≤ S256x64.size a := by decide

abbrev wqRect : Rect S2112x6144 := Rect.unit (s := S2112x6144) ![0, 0] S1536x6144.size inb_wq
abbrev wkvRect : Rect S2112x6144 := Rect.unit (s := S2112x6144) ![1536, 0] S512x6144.size inb_wkv
abbrev wkpeRect : Rect S2112x6144 := Rect.unit (s := S2112x6144) ![2048, 0] S64x6144.size inb_wkpe
abbrev gqRect : Rect S1x1536 := Rect.unit (s := S1x1536) ![0, 0] S1x1536.size inb_gq
abbrev gkvRect : Rect S1x512 := Rect.unit (s := S1x512) ![0, 0] S1x512.size inb_gkv
abbrev qRect : Rect S256x1536 := Rect.unit (s := S256x1536) ![0, 0] S256x1536.size inb_q
abbrev kvRect : Rect S256x512 := Rect.unit (s := S256x512) ![0, 0] S256x512.size inb_kv
abbrev kpeRect : Rect S256x64 := Rect.unit (s := S256x64) ![0, 0] S256x64.size inb_kpe

theorem pos_wq : 0 < S1536x6144.numel := by decide
theorem pos_wkv : 0 < S512x6144.numel := by decide
theorem pos_wkpe : 0 < S64x6144.numel := by decide
theorem pos_gq : 0 < S1x1536.numel := by decide
theorem pos_gkv : 0 < S1x512.numel := by decide
theorem pos_q : 0 < S256x1536.numel := by decide
theorem pos_kv : 0 < S256x512.numel := by decide
theorem pos_kpe : 0 < S256x64.numel := by decide
theorem qRect_packed : qRect.PackedRows (EltTy.packing .bf16) := by decide
theorem kvRect_packed : kvRect.PackedRows (EltTy.packing .bf16) := by decide
theorem kpeRect_packed : kpeRect.PackedRows (EltTy.packing .bf16) := by decide

/-- The slot filled at the grid point before. -/
def prevSlot (s : Nat) : BitVec 32 := Scalar.subi 1#32 (curSlot s)

theorem curSlot_eq (s : Nat) : curSlot s = 0#32 ∨ curSlot s = 1#32 := by
  have h := curSlot_lt s
  rcases Nat.lt_or_ge (curSlot s).toNat 1 with h0 | h0
  · exact .inl (BitVec.eq_of_toNat_eq (by show _ = 0; omega))
  · exact .inr (BitVec.eq_of_toNat_eq (by show _ = 1; omega))

theorem prevSlot_lt (s : Nat) : (prevSlot s).toNat + 1 ≤ 2 := by
  unfold prevSlot
  rcases curSlot_eq s with h | h <;> rw [h] <;> decide

section Prog

variable {nD : Nat} {τ : Topo} {sig : RefSig} {Λ : Labels}
variable (cq : F .f32)
  (gq : Memref sig .tc .vmem S1x1536 .f32) (gkv : Memref sig .tc .vmem S1x512 .f32)
  (q : Memref sig .tc .vmem S256x1536 .bf16) (hq : q.IsWhole)
  (kv : Memref sig .tc .vmem S256x512 .bf16) (hkv : kv.IsWhole)
  (kpe : Memref sig .tc .vmem S256x64 .bf16) (hkpe : kpe.IsWhole)
  (xa : Memref sig .tc .vmem S2x256x6144 .bf16) (wa : Memref sig .tc .vmem S2112x6144 .bf16)

/-- The block quantised at the grid point before, projected and normalised. -/
def epilogue (s : Nat) : Prog (TpuEff nD τ sig (Elt F) Λ .tc) PUnit := do
  let xs : Vec F S1x256x6144 .bf16 ← Prog.lift (.load xa (wholeSlotRect (prevSlot s) (prevSlot_lt s)).toLoadRect (View.loadsAt_vmem pos_slot))
  let x : FVec F S256x6144 .bf16 := shapeCast S256x6144 (xs : FVec F S1x256x6144 .bf16) cast_slot'
  let wq : Vec F S1536x6144 .bf16 ← Prog.lift (.load wa wqRect.toLoadRect (View.loadsAt_vmem pos_wq))
  let g : Vec F S1x1536 .f32 ← Prog.lift (.load gq gqRect.toLoadRect (View.loadsAt_vmem pos_gq))
  let _ ← Prog.lift (.load q qRect.toLoadRect (View.loadsAt_vmem pos_q))
  Prog.lift (.store q qRect (qOut cq x wq g) Finset.univ
    (View.stores_vmem pos_q (hq.storeExact_slice rfl _ qRect_packed) (fun _ => rfl)) (.inl rfl))
  let wkv : Vec F S512x6144 .bf16 ← Prog.lift (.load wa wkvRect.toLoadRect (View.loadsAt_vmem pos_wkv))
  let g' : Vec F S1x512 .f32 ← Prog.lift (.load gkv gkvRect.toLoadRect (View.loadsAt_vmem pos_gkv))
  let _ ← Prog.lift (.load kv kvRect.toLoadRect (View.loadsAt_vmem pos_kv))
  Prog.lift (.store kv kvRect (kvOut x wkv g') Finset.univ
    (View.stores_vmem pos_kv (hkv.storeExact_slice rfl _ kvRect_packed) (fun _ => rfl)) (.inl rfl))
  let wkpe : Vec F S64x6144 .bf16 ← Prog.lift (.load wa wkpeRect.toLoadRect (View.loadsAt_vmem pos_wkpe))
  let _ ← Prog.lift (.load kpe kpeRect.toLoadRect (View.loadsAt_vmem pos_kpe))
  Prog.lift (.store kpe kpeRect (kpeOut x wkpe) Finset.univ
    (View.stores_vmem pos_kpe (hkpe.storeExact_slice rfl _ kpeRect_packed) (fun _ => rfl)) (.inl rfl))
  pure ⟨⟩

end Prog

end Cert.Proof
-- ==== Proof.Owns.lean ====
/-
  Loads and stores of an owned buffer, by its values: a load reads the values on a rectangle, a store replaces them
  there. `mix D f X` is `X` with the elements of `D` already at their final values `f`; storing final values on a
  rectangle adds that rectangle to `D`.
-/
module

public import proofs.«01_k».proof.Proof.Clean
public import Idealize.ShloMosaic.Lib.Memref
public import Idealize.ShloMosaic.Lib.Tactic
public import Idealize.ShloMosaic.Lib.Transfers
public import Idealize.ShloMosaic.Lib.Pipeline.Frame

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Values done so far -/

open Classical in
/-- `X` with the elements of `D` at `f`. -/
def mix {ι α : Type} (D : ι → Prop) (f X : ι → α) : ι → α := fun j => if D j then f j else X j

theorem mix_congr {ι α : Type} {D D' : ι → Prop} (f X : ι → α) (h : ∀ j, D j ↔ D' j) : mix D f X = mix D' f X := by
  rw [show D = D' from funext fun j => propext (h j)]

theorem mix_none {ι α : Type} {D : ι → Prop} (f X : ι → α) (h : ∀ j, ¬ D j) : mix D f X = X :=
  funext fun j => if_neg (h j)

theorem mix_all {ι α : Type} {D : ι → Prop} (f X : ι → α) (h : ∀ j, D j) : mix D f X = f :=
  funext fun j => if_pos (h j)

/-- Putting the final values on a rectangle. -/
theorem overlay_mix {s : Shape} {α : Type} (r : Rect s) {D D' : s.Idx → Prop} (f X : s.Idx → α) (w : r.shape.Idx → α)
    (hw : ∀ i, w i = f (r.emb i)) (h : ∀ j, D' j ↔ D j ∨ j ∈ r.set) : r.overlay (mix D f X) w = mix D' f X := by
  funext j
  by_cases hj : j ∈ r.set
  · obtain ⟨i, rfl⟩ := r.exists_idx_of_mem hj
    change r.overlay _ _ (r.emb i) = mix _ _ _ (r.emb i)
    rw [Rect.overlay_emb, hw]
    exact (if_pos ((h _).2 (.inr hj))).symm
  · rw [Rect.overlay_of_not_mem _ _ _ hj, mix, mix]
    by_cases hD : D j
    · rw [if_pos hD, if_pos ((h _).2 (.inl hD))]
    · rw [if_neg hD, if_neg (fun h' => ((h _).1 h').elim hD hj)]

/-! ## The rules -/

section Rules

variable {F : FTy → Type} [FloatOps F]
variable {nD : Nat} {τ : Topo} {sig : RefSig} {Λ : Labels}

/-- Assertions over the machine, with the transfers' counters beside the pipeline's rounds. -/
abbrev Asrt (F : FTy → Type) [FloatOps F] (nD : Nat) (τ : Topo) (sig : RefSig) : Type :=
  sProp (MT nD τ sig Unit (Elt F) ℕ (Pipeline.UD sig nD τ) ℕ)

variable (defs : Defs nD τ sig (Elt F) Λ) (𝒱 : Variants) (c : Dev nD) (bd : Option 𝒱.V)
variable {α : Type}

/-- The program's weakest precondition on core `c`. -/
abbrev run (p : Prog (TpuEff nD τ sig (Elt F) Λ .tc) α) (Q : α → Asrt F nD τ sig) : Asrt F nD τ sig :=
  wp frame (wpE defs 𝒱 (c : Thread nD τ) bd) Set.univ p Q

variable {s : Shape} {e : EltTy} {Q : α → Asrt F nD τ sig}

theorem run_load (m : Memref sig .tc .vmem s e) (r : Rect s) {hl : m.view.LoadsAt r.toLoadRect} (q : PosShare TreeShare)
    (X : s.Idx → Elt F e) (k : (r.shape.Idx → Elt F e) → Prog (TpuEff nD τ sig (Elt F) Λ .tc) α) :
    (owns (c : Thread nD τ) m q X : Asrt F nD τ sig)
      ⊢ iprop((owns (c : Thread nD τ) m q X -∗ run defs 𝒱 c bd (k fun j => X (r.emb j)) Q)
        -∗ run defs 𝒱 c bd (Prog.lift (.load m r.toLoadRect hl) >>= k) Q) := by
  have hs : (m.access r).set ⊆ m.view.set := View.set_slice_subset _ r
  have h (f) := wp_load_rect (defs := defs) 𝒱 (c : Thread nD τ) bd (Γ := .empty) Set.univ (m := m) (r := r) (hl := hl) (k := k)
    (q := q) (Q := Q) (f := f) hs
  unfold owns
  iintro ⟨%f, %hf, H⟩ Hk
  subst hf
  iapply (h f) $$ H
  iintro H
  iapply Hk
  iexists f; isplitr; · ipureintro; rfl
  iexact H

theorem run_store (m : Memref sig .tc .vmem s e) (r : Rect s) (w : r.shape.Idx → Elt F e)
    {hx : (m.access r).Stores Finset.univ} {hm : (Finset.univ : Finset r.shape.Idx) = Finset.univ ∨ ∀ a, r.stride a = 1}
    (X : s.Idx → Elt F e) (k : PUnit → Prog (TpuEff nD τ sig (Elt F) Λ .tc) α) :
    (owns (c : Thread nD τ) m fullShare X : Asrt F nD τ sig)
      ⊢ iprop((owns (c : Thread nD τ) m fullShare (r.overlay X w) -∗ run defs 𝒱 c bd (k ⟨⟩) Q)
        -∗ run defs 𝒱 c bd (Prog.lift (.store m r w Finset.univ hx hm) >>= k) Q) := by
  have hs : (m.access r).setOn Finset.univ ⊆ m.view.set := View.set_slice_subset _ r
  have h (f) := wp_store (defs := defs) 𝒱 (c : Thread nD τ) bd (Γ := .empty) Set.univ (m := m) (r := r) (w := w) (hx := hx) (hm := hm)
    (k := k) (Q := Q) (f := f) hs
  unfold owns
  iintro ⟨%f, %hf, H⟩ Hk
  subst hf
  iapply (h f) $$ H
  iintro H
  iapply Hk
  iexists _; isplitr; swap; · iexact H
  ipureintro
  funext j
  by_cases hj : j ∈ r.set
  · obtain ⟨i, rfl⟩ := r.exists_idx_of_mem hj
    change m.view.read _ _ (r.emb i) = r.overlay _ _ (r.emb i)
    rw [Rect.overlay_emb]
    exact View.read_slice_write_emb r f w (Finset.mem_univ i)
  · rw [Rect.overlay_of_not_mem _ _ _ hj]
    exact View.read_slice_write_of_not_mem r f w Finset.univ (by rwa [Rect.map_emb_univ])

theorem run_pure (a : α) (Q : α → Asrt F nD τ sig) : Q a ⊢ run defs 𝒱 c bd (pure a) Q := by
  unfold run
  rw [wp_pure]
  iintro H
  imodintro
  iexact H

end Rules

end Cert.Proof
-- ==== Proof.Quant.lean ====
/-
  The quantiser: what it leaves in the codes, in the scales and in its slot of the double buffer, as functions of the
  block of activations, and the proof that it leaves exactly that. One lemma per piece of the program — a tree of group
  maxima, a tile, a run of tiles, a segment, a run of row groups —, each by recursion along the program's.
-/
module

public import proofs.«01_k».proof.Proof.Owns
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the quantiser computes -/

/-- A tile of the block. -/
def tile (X : S256x6144.Idx → Elt F .bf16) (r n : Nat) : Vec F S32x128 .bf16 := fun i => X ((tileRect r n).emb i)

/-- The maxima of `maxTree`. -/
def maxVal (X : S256x6144.Idx → Elt F .bf16) (r t0 : Nat) : (k l n : Nat) → FVec F S32x128 .f32
  | 0, _, n => absTile (tile X r (t0 + n))
  | k + 1, l, n => fly (BitVec.ofNat 32 (2 ^ l)) (maxVal X r t0 k (l + 1) n) (maxVal X r t0 k (l + 1) (n + 2 ^ l))

/-- The exponent codes of the two segments of row group `r`. -/
def exps₀ (X : S256x6144.Idx → Elt F .bf16) (r : Nat) : IVec S32x128 32 := expCode (maxVal X r 0 5 0 0)
def exps₁ (X : S256x6144.Idx → Elt F .bf16) (r : Nat) : IVec S32x128 32 := expCode (fly₁ 16#32 (maxVal X r 32 4 0 0))

/-- The reciprocal scales' exponent codes of a tile, its codes, and its codes scaled. -/
def tileInv (X : S256x6144.Idx → Elt F .bf16) (r n : Nat) : IVec S32x128 32 :=
  segLanes (subi (broadcast S32x128 254#32) (if n < 32 then exps₀ X r else exps₁ X r)) (BitVec.ofNat 32 (n % 32))
def tileCodes (X : S256x6144.Idx → Elt F .bf16) (r n : Nat) : FVec F S32x128 .fp8e4m3 := codesTile (tileInv X r n) (tile X r n)
def tileScaled (X : S256x6144.Idx → Elt F .bf16) (r n : Nat) : FVec F S32x128 .bf16 := scaledTile (tileInv X r n) (tileCodes X r n)

/-- The scales of row group `r`, of the first 32 tiles and of the last 16. -/
def tileScales (X : S256x6144.Idx → Elt F .bf16) (r : Nat) : IVec S32x128 8 := trunci 8 (codeOrder (exps₀ X r)) eight_lt
def tileScales' (X : S256x6144.Idx → Elt F .bf16) (r : Nat) : IVec S32x64 8 :=
  trunci 8 (extractStridedSlice S32x64 ![0, 0] (codeOrder (exps₁ X r)) slices_half) eight_lt

/-- An index inside a tile. -/
def inTile (a b : Nat) : S32x128.Idx :=
  fun x => match x with | 0 => ⟨a % 32, Nat.mod_lt _ (by decide)⟩ | 1 => ⟨b % 128, Nat.mod_lt _ (by decide)⟩
def inHalf (a b : Nat) : S32x64.Idx :=
  fun x => match x with | 0 => ⟨a % 32, Nat.mod_lt _ (by decide)⟩ | 1 => ⟨b % 64, Nat.mod_lt _ (by decide)⟩

/-- The three results of the quantiser on a block. -/
def codesOf (X : S256x6144.Idx → Elt F .bf16) : S256x6144.Idx → Elt F .fp8e4m3 :=
  fun j => tileCodes X ((j 0).val / 32) ((j 1).val / 128) (inTile (j 0).val (j 1).val)
def scaledOf (X : S256x6144.Idx → Elt F .bf16) (a b : Nat) : Elt F .bf16 := tileScaled X (a / 32) (b / 128) (inTile a b)
def scalesOf (X : S256x6144.Idx → Elt F .bf16) : S256x192.Idx → Elt F .i8 :=
  fun j => if (j 1).val < 128 then tileScales X ((j 0).val / 32) (inTile (j 0).val (j 1).val)
    else tileScales' X ((j 0).val / 32) (inHalf (j 0).val ((j 1).val - 128))
def xaOf (X : S256x6144.Idx → Elt F .bf16) : S2x256x6144.Idx → Elt F .bf16 := fun j => scaledOf X (j 1).val (j 2).val

/-! ## How far the quantiser has come -/

/-- The tiles before tile `n` of row group `r`. -/
def before (r n a b : Nat) : Prop := a / 32 < r ∨ (a / 32 = r ∧ b / 128 < n)
def codesDone (r n : Nat) (j : S256x6144.Idx) : Prop := before r n (j 0).val (j 1).val
def xaDone (s r n : Nat) (j : S2x256x6144.Idx) : Prop := (j 0).val = (curSlot s).toNat ∧ before r n (j 1).val (j 2).val
def scalesDone (r b : Nat) (j : S256x192.Idx) : Prop := before r b (j 0).val (j 1).val

theorem mem_unit {s : Shape} {off size : Fin s.rank → Nat} (inb : ∀ a, off a + size a ≤ s.size a) (j : s.Idx) :
    j ∈ (Rect.unit (s := s) off size inb).set ↔ ∀ a, off a ≤ (j a).val ∧ (j a).val < off a + size a := by
  constructor
  · intro h a
    obtain ⟨i, rfl⟩ := (Rect.unit (s := s) off size inb).toLoadRect.exists_idx_of_mem h
    have e : ((Rect.unit (s := s) off size inb).idx i a).val = off a + 1 * (i a).val := rfl
    have := (i a).isLt
    have hs : (Rect.unit (s := s) off size inb).shape.size a = size a := rfl
    omega
  · intro h
    rw [← Rect.map_emb_univ, Finset.mem_map]
    refine ⟨fun a => ⟨(j a).val - off a, by have := h a; show _ < size a; omega⟩, Finset.mem_univ _, funext fun a => Fin.ext ?_⟩
    show off a + 1 * ((j a).val - off a) = (j a).val
    have := h a; omega

theorem mem_tile (r n : Nat) (hr : r < 8) (hn : n < 48) (j : S256x6144.Idx) :
    j ∈ (tileRect r n).set ↔ (j 0).val / 32 = r ∧ (j 1).val / 128 = n := by
  rw [mem_unit]
  constructor
  · intro h
    have h0 : 32 * (r % 8) ≤ (j 0).val ∧ (j 0).val < 32 * (r % 8) + 32 := h 0
    have h1 : 128 * (n % 48) ≤ (j 1).val ∧ (j 1).val < 128 * (n % 48) + 128 := h 1
    omega
  · intro h a
    fin_cases a
    · show 32 * (r % 8) ≤ (j 0).val ∧ (j 0).val < 32 * (r % 8) + 32; omega
    · show 128 * (n % 48) ≤ (j 1).val ∧ (j 1).val < 128 * (n % 48) + 128; omega

theorem mem_slot (s r n : Nat) (hr : r < 8) (hn : n < 48) (j : S2x256x6144.Idx) :
    j ∈ (slotRect s r n).set ↔ (j 0).val = (curSlot s).toNat ∧ (j 1).val / 32 = r ∧ (j 2).val / 128 = n := by
  rw [mem_unit]
  constructor
  · intro h
    have h0 : (curSlot s).toNat ≤ (j 0).val ∧ (j 0).val < (curSlot s).toNat + 1 := h 0
    have h1 : 32 * (r % 8) ≤ (j 1).val ∧ (j 1).val < 32 * (r % 8) + 32 := h 1
    have h2 : 128 * (n % 48) ≤ (j 2).val ∧ (j 2).val < 128 * (n % 48) + 128 := h 2
    omega
  · intro h a
    fin_cases a
    · show (curSlot s).toNat ≤ (j 0).val ∧ (j 0).val < (curSlot s).toNat + 1; omega
    · show 32 * (r % 8) ≤ (j 1).val ∧ (j 1).val < 32 * (r % 8) + 32; omega
    · show 128 * (n % 48) ≤ (j 2).val ∧ (j 2).val < 128 * (n % 48) + 128; omega

theorem mem_scale (r : Nat) (hr : r < 8) (j : S256x192.Idx) :
    j ∈ (scaleRect r).set ↔ (j 0).val / 32 = r ∧ (j 1).val / 128 = 0 := by
  rw [mem_unit]
  have hj : (j 1).val < 192 := (j 1).isLt
  constructor
  · intro h
    have h0 : 32 * (r % 8) ≤ (j 0).val ∧ (j 0).val < 32 * (r % 8) + 32 := h 0
    have h1 : 0 ≤ (j 1).val ∧ (j 1).val < 0 + 128 := h 1
    omega
  · intro h a
    fin_cases a
    · show 32 * (r % 8) ≤ (j 0).val ∧ (j 0).val < 32 * (r % 8) + 32; omega
    · show 0 ≤ (j 1).val ∧ (j 1).val < 0 + 128; omega

theorem mem_scale' (r : Nat) (hr : r < 8) (j : S256x192.Idx) :
    j ∈ (scaleRect' r).set ↔ (j 0).val / 32 = r ∧ (j 1).val / 128 = 1 := by
  rw [mem_unit]
  have hj : (j 1).val < 192 := (j 1).isLt
  constructor
  · intro h
    have h0 : 32 * (r % 8) ≤ (j 0).val ∧ (j 0).val < 32 * (r % 8) + 32 := h 0
    have h1 : 128 ≤ (j 1).val ∧ (j 1).val < 128 + 64 := h 1
    omega
  · intro h a
    fin_cases a
    · show 32 * (r % 8) ≤ (j 0).val ∧ (j 0).val < 32 * (r % 8) + 32; omega
    · show 128 ≤ (j 1).val ∧ (j 1).val < 128 + 64; omega

/-! ## The values stored are the values due -/

theorem codesOf_tile (X : S256x6144.Idx → Elt F .bf16) (r n : Nat) (hr : r < 8) (hn : n < 48) (i : S32x128.Idx) :
    codesOf X ((tileRect r n).emb i) = tileCodes X r n i := by
  have h0 : (((tileRect r n).emb i) 0).val = 32 * (r % 8) + 1 * (i 0).val := rfl
  have h1 : (((tileRect r n).emb i) 1).val = 128 * (n % 48) + 1 * (i 1).val := rfl
  have i0 : (i 0).val < 32 := (i 0).isLt
  have i1 : (i 1).val < 128 := (i 1).isLt
  unfold codesOf
  rw [h0, h1, show (32 * (r % 8) + 1 * (i 0).val) / 32 = r by omega, show (128 * (n % 48) + 1 * (i 1).val) / 128 = n by omega]
  refine congrArg _ (funext fun a => Fin.ext ?_)
  fin_cases a
  · show (32 * (r % 8) + 1 * (i 0).val) % 32 = (i 0).val; omega
  · show (128 * (n % 48) + 1 * (i 1).val) % 128 = (i 1).val; omega

theorem xaOf_tile (X : S256x6144.Idx → Elt F .bf16) (s r n : Nat) (hr : r < 8) (hn : n < 48) (i : S1x32x128.Idx) :
    xaOf X ((slotRect s r n).emb i) = shapeCast S1x32x128 (tileScaled X r n) cast_tile3 i := by
  have h1 : (((slotRect s r n).emb i) 1).val = 32 * (r % 8) + 1 * (i 1).val := rfl
  have h2 : (((slotRect s r n).emb i) 2).val = 128 * (n % 48) + 1 * (i 2).val := rfl
  have i0 : (i 0).val < 1 := (i 0).isLt
  have i1 : (i 1).val < 32 := (i 1).isLt
  have i2 : (i 2).val < 128 := (i 2).isLt
  unfold xaOf scaledOf
  rw [h1, h2, show (32 * (r % 8) + 1 * (i 1).val) / 32 = r by omega, show (128 * (n % 48) + 1 * (i 2).val) / 128 = n by omega]
  refine Eq.trans (congrArg (tileScaled X r n) (funext fun a => Fin.ext ?_))
    (shapeCast_addUnit_apply ![32, 128] (tileScaled X r n) cast_tile3 i).symm
  fin_cases a
  · show (32 * (r % 8) + 1 * (i 1).val) % 32 = (i 1).val; omega
  · show (128 * (n % 48) + 1 * (i 2).val) % 128 = (i 2).val; omega

theorem scalesOf_tile (X : S256x6144.Idx → Elt F .bf16) (r : Nat) (hr : r < 8) (i : S32x128.Idx) :
    scalesOf X ((scaleRect r).emb i) = tileScales X r i := by
  have h0 : (((scaleRect r).emb i) 0).val = 32 * (r % 8) + 1 * (i 0).val := rfl
  have h1 : (((scaleRect r).emb i) 1).val = 0 + 1 * (i 1).val := rfl
  have i0 : (i 0).val < 32 := (i 0).isLt
  have i1 : (i 1).val < 128 := (i 1).isLt
  unfold scalesOf
  rw [h0, h1, if_pos (by omega), show (32 * (r % 8) + 1 * (i 0).val) / 32 = r by omega]
  refine congrArg _ (funext fun a => Fin.ext ?_)
  fin_cases a
  · show (32 * (r % 8) + 1 * (i 0).val) % 32 = (i 0).val; omega
  · show (0 + 1 * (i 1).val) % 128 = (i 1).val; omega

theorem scalesOf_tile' (X : S256x6144.Idx → Elt F .bf16) (r : Nat) (hr : r < 8) (i : S32x64.Idx) :
    scalesOf X ((scaleRect' r).emb i) = tileScales' X r i := by
  have h0 : (((scaleRect' r).emb i) 0).val = 32 * (r % 8) + 1 * (i 0).val := rfl
  have h1 : (((scaleRect' r).emb i) 1).val = 128 + 1 * (i 1).val := rfl
  have i0 : (i 0).val < 32 := (i 0).isLt
  have i1 : (i 1).val < 64 := (i 1).isLt
  unfold scalesOf
  rw [h0, h1, if_neg (by omega), show (32 * (r % 8) + 1 * (i 0).val) / 32 = r by omega]
  refine congrArg _ (funext fun a => Fin.ext ?_)
  fin_cases a
  · show (32 * (r % 8) + 1 * (i 0).val) % 32 = (i 0).val; omega
  · show (128 + 1 * (i 1).val - 128) % 64 = (i 1).val; omega

/-! ## The program -/

section Prog

variable {nD : Nat} {τ : Topo} {sig : RefSig} {Λ : Labels}
variable (defs : Defs nD τ sig (Elt F) Λ) (𝒱 : Variants) (c : Dev nD) (bd : Option 𝒱.V)
variable {α : Type} {Q : α → Asrt F nD τ sig}
variable (x : Memref sig .tc .vmem S256x6144 .bf16)
  (codes : Memref sig .tc .vmem S256x6144 .fp8e4m3) (hcodes : codes.IsWhole)
  (scales : Memref sig .tc .vmem S256x192 .i8) (hscales : scales.IsWhole)
  (xa : Memref sig .tc .vmem S2x256x6144 .bf16) (hxa : xa.IsWhole)
variable (q : PosShare TreeShare) (X : S256x6144.Idx → Elt F .bf16)

theorem run_maxTree (r t0 : Nat) : ∀ (k l n : Nat) (K : FVec F S32x128 .f32 → Prog (TpuEff nD τ sig (Elt F) Λ .tc) α),
    (owns (c : Thread nD τ) x q X : Asrt F nD τ sig)
      ⊢ iprop((owns (c : Thread nD τ) x q X -∗ run defs 𝒱 c bd (K (maxVal X r t0 k l n)) Q)
        -∗ run defs 𝒱 c bd (maxTree x r t0 k l n >>= K) Q)
  | 0, l, n, K => by
    unfold maxTree loadTile
    simp only [bind_assoc, pure_bind]
    exact run_load defs 𝒱 c bd x (tileRect r (t0 + n)) q X (fun v => K (absTile v))
  | k + 1, l, n, K => by
    unfold maxTree
    rw [bind_assoc]
    iintro H Hk
    iapply (run_maxTree r t0 k (l + 1) n _) $$ H
    iintro H
    rw [bind_assoc]
    iapply (run_maxTree r t0 k (l + 1) (n + 2 ^ l) _) $$ H
    iintro H
    rw [pure_bind]
    iapply Hk; iexact H

/-- The three buffers while the quantiser is at tile `n` of row group `r`: `b` segments of the group's scales stored. -/
abbrev quantAt (C₀ : S256x6144.Idx → Elt F .fp8e4m3) (S₀ : S256x192.Idx → Elt F .i8) (A₀ : S2x256x6144.Idx → Elt F .bf16)
    (s r b n : Nat) : Asrt F nD τ sig :=
  iprop(owns (c : Thread nD τ) x q X
    ∗ owns (c : Thread nD τ) codes fullShare (mix (codesDone r n) (codesOf X) C₀)
    ∗ owns (c : Thread nD τ) scales fullShare (mix (scalesDone r b) (scalesOf X) S₀)
    ∗ owns (c : Thread nD τ) xa fullShare (mix (xaDone s r n) (xaOf X) A₀))

variable (C₀ : S256x6144.Idx → Elt F .fp8e4m3) (S₀ : S256x192.Idx → Elt F .i8) (A₀ : S2x256x6144.Idx → Elt F .bf16)

theorem run_tile (s r b n : Nat) (hr : r < 8) (t0 m : Nat) (hn : n = t0 + m) (hn' : n < 48) (inv : IVec S32x128 32)
    (hinv : segLanes inv (BitVec.ofNat 32 m) = tileInv X r n) (K : PUnit → Prog (TpuEff nD τ sig (Elt F) Λ .tc) α) :
    quantAt c x codes scales xa q X C₀ S₀ A₀ s r b n
      ⊢ iprop((quantAt c x codes scales xa q X C₀ S₀ A₀ s r b (n + 1) -∗ run defs 𝒱 c bd (K ⟨⟩) Q)
        -∗ run defs 𝒱 c bd (quantTile x codes hcodes xa hxa s r t0 inv m >>= K) Q) := by
  subst hn
  have hC : (tileRect r (t0 + m)).overlay (mix (codesDone r (t0 + m)) (codesOf X) C₀) (tileCodes X r (t0 + m))
      = mix (codesDone r (t0 + m + 1)) (codesOf X) C₀ :=
    overlay_mix _ _ _ _ (fun i => (codesOf_tile X r (t0 + m) hr hn' i).symm) (fun j => by
      rw [mem_tile r (t0 + m) hr hn']; unfold codesDone before; omega)
  have hA : (slotRect s r (t0 + m)).overlay (mix (xaDone s r (t0 + m)) (xaOf X) A₀) (shapeCast S1x32x128 (tileScaled X r (t0 + m)) cast_tile3)
      = mix (xaDone s r (t0 + m + 1)) (xaOf X) A₀ :=
    overlay_mix _ _ _ _ (fun i => (xaOf_tile X s r (t0 + m) hr hn' i).symm) (fun j => by
      rw [mem_slot s r (t0 + m) hr hn']; unfold xaDone before; omega)
  unfold quantTile loadTile
  simp only [bind_assoc, hinv]
  iintro ⟨Hx, HC, HS, HA⟩ Hk
  iapply (run_load defs 𝒱 c bd x (tileRect r (t0 + m)) q X _) $$ Hx
  iintro Hx
  iapply (run_load defs 𝒱 c bd codes (tileRect r (t0 + m)) fullShare _ _) $$ HC
  iintro HC
  iapply (run_store defs 𝒱 c bd codes (tileRect r (t0 + m)) _ _ _) $$ HC
  iintro HC
  iapply (run_load defs 𝒱 c bd xa (slotRect s r (t0 + m)) fullShare _ _) $$ HA
  iintro HA
  iapply (run_store defs 𝒱 c bd xa (slotRect s r (t0 + m)) _ _ _) $$ HA
  iintro HA
  iapply Hk
  isplitl [Hx]; · iexact Hx
  isplitl [HC]
  · rw [← hC]; iexact HC
  isplitl [HS]; · iexact HS
  rw [← hA]; iexact HA

theorem run_tiles (s r b : Nat) (hr : r < 8) (t0 : Nat) (inv : IVec S32x128 32) (next : Prog (TpuEff nD τ sig (Elt F) Λ .tc) α) :
    ∀ (k m : Nat), t0 + m + k ≤ 48 →
      (∀ m', m ≤ m' → m' < m + k → segLanes inv (BitVec.ofNat 32 m') = tileInv X r (t0 + m')) →
      quantAt c x codes scales xa q X C₀ S₀ A₀ s r b (t0 + m)
        ⊢ iprop((quantAt c x codes scales xa q X C₀ S₀ A₀ s r b (t0 + m + k) -∗ run defs 𝒱 c bd next Q)
          -∗ run defs 𝒱 c bd (quantTiles x codes hcodes xa hxa s r t0 inv k m next) Q)
  | 0, m, _, _ => by
    unfold quantTiles
    iintro H Hk
    iapply Hk; iexact H
  | k + 1, m, h, hi => by
    unfold quantTiles
    iintro H Hk
    iapply (run_tile defs 𝒱 c bd x codes hcodes scales xa hxa q X C₀ S₀ A₀ s r b (t0 + m) hr t0 m rfl (by omega) inv
      (hi m le_rfl (by omega)) _) $$ H
    iintro H
    have ih := run_tiles s r b hr t0 inv next k (m + 1) (by omega) (fun m' h1 h2 => hi m' (by omega) (by omega))
    rw [show t0 + (m + 1) = t0 + m + 1 by omega, show t0 + m + 1 + k = t0 + m + (k + 1) by omega] at ih
    iapply ih $$ H
    iexact Hk

theorem run_seg (s r : Nat) (hr : r < 8) (next : Prog (TpuEff nD τ sig (Elt F) Λ .tc) α) :
    quantAt c x codes scales xa q X C₀ S₀ A₀ s r 0 0
      ⊢ iprop((quantAt c x codes scales xa q X C₀ S₀ A₀ s r 1 32 -∗ run defs 𝒱 c bd next Q)
        -∗ run defs 𝒱 c bd (quantSeg x codes hcodes scales hscales xa hxa s r next) Q) := by
  have hS : (scaleRect r).overlay (mix (scalesDone r 0) (scalesOf X) S₀) (tileScales X r) = mix (scalesDone r 1) (scalesOf X) S₀ :=
    overlay_mix _ _ _ _ (fun i => (scalesOf_tile X r hr i).symm) (fun j => by
      rw [mem_scale r hr]; unfold scalesDone before; omega)
  unfold quantSeg
  iintro ⟨Hx, HC, HS, HA⟩ Hk
  iapply (run_maxTree defs 𝒱 c bd x q X r 0 5 0 0 _) $$ Hx
  iintro Hx
  iapply (run_load defs 𝒱 c bd scales (scaleRect r) fullShare _ _) $$ HS
  iintro HS
  iapply (run_store defs 𝒱 c bd scales (scaleRect r) _ _ _) $$ HS
  iintro HS
  iapply (run_tiles defs 𝒱 c bd x codes hcodes scales xa hxa q X C₀ S₀ A₀ s r 1 hr 0 _ next 32 0 (by omega) (fun m' _ h2 => by
    unfold tileInv
    rw [if_pos (by omega), show (0 + m') % 32 = m' by omega]; rfl)) $$ [Hx HC HS HA]
  · isplitl [Hx]; · iexact Hx
    isplitl [HC]; · iexact HC
    isplitl [HS]
    · rw [← hS]; iexact HS
    iexact HA
  iexact Hk

theorem run_seg' (s r : Nat) (hr : r < 8) (next : Prog (TpuEff nD τ sig (Elt F) Λ .tc) α) :
    quantAt c x codes scales xa q X C₀ S₀ A₀ s r 1 32
      ⊢ iprop((quantAt c x codes scales xa q X C₀ S₀ A₀ s (r + 1) 0 0 -∗ run defs 𝒱 c bd next Q)
        -∗ run defs 𝒱 c bd (quantSeg' x codes hcodes scales hscales xa hxa s r next) Q) := by
  have hS : (scaleRect' r).overlay (mix (scalesDone r 1) (scalesOf X) S₀) (tileScales' X r) = mix (scalesDone r 2) (scalesOf X) S₀ :=
    overlay_mix _ _ _ _ (fun i => (scalesOf_tile' X r hr i).symm) (fun j => by
      rw [mem_scale' r hr]; unfold scalesDone before; omega)
  have eC : mix (codesDone r 48) (codesOf X) C₀ = mix (codesDone (r + 1) 0) (codesOf X) C₀ := mix_congr _ _ fun j => by
    have : (j 1).val < 6144 := (j 1).isLt
    unfold codesDone before; omega
  have eS : mix (scalesDone r 2) (scalesOf X) S₀ = mix (scalesDone (r + 1) 0) (scalesOf X) S₀ := mix_congr _ _ fun j => by
    have : (j 1).val < 192 := (j 1).isLt
    unfold scalesDone before; omega
  have eA : mix (xaDone s r 48) (xaOf X) A₀ = mix (xaDone s (r + 1) 0) (xaOf X) A₀ := mix_congr _ _ fun j => by
    have : (j 2).val < 6144 := (j 2).isLt
    unfold xaDone before; omega
  unfold quantSeg'
  iintro ⟨Hx, HC, HS, HA⟩ Hk
  iapply (run_maxTree defs 𝒱 c bd x q X r 32 4 0 0 _) $$ Hx
  iintro Hx
  iapply (run_load defs 𝒱 c bd scales (scaleRect' r) fullShare _ _) $$ HS
  iintro HS
  iapply (run_store defs 𝒱 c bd scales (scaleRect' r) _ _ _) $$ HS
  iintro HS
  iapply (run_tiles defs 𝒱 c bd x codes hcodes scales xa hxa q X C₀ S₀ A₀ s r 2 hr 32 _ next 16 0 (by omega) (fun m' _ h2 => by
    unfold tileInv
    rw [if_neg (by omega), show (32 + m') % 32 = m' by omega]; rfl)) $$ [Hx HC HS HA]
  · isplitl [Hx]; · iexact Hx
    isplitl [HC]; · iexact HC
    isplitl [HS]
    · rw [← hS]; iexact HS
    iexact HA
  unfold quantAt
  rw [← eC, ← eS, ← eA]
  iexact Hk

theorem run_rows (s : Nat) (next : Prog (TpuEff nD τ sig (Elt F) Λ .tc) α) : ∀ (k r : Nat), r + k ≤ 8 →
    (quantAt c x codes scales xa q X C₀ S₀ A₀ s r 0 0
      ⊢ iprop((quantAt c x codes scales xa q X C₀ S₀ A₀ s (r + k) 0 0 -∗ run defs 𝒱 c bd next Q)
        -∗ run defs 𝒱 c bd (quantRows x codes hcodes scales hscales xa hxa s k r next) Q))
  | 0, r, _ => by
    unfold quantRows
    iintro H Hk
    iapply Hk; iexact H
  | k + 1, r, h => by
    unfold quantRows
    iintro H Hk
    iapply (run_seg defs 𝒱 c bd x codes hcodes scales hscales xa hxa q X C₀ S₀ A₀ s r (by omega) _) $$ H
    iintro H
    iapply (run_seg' defs 𝒱 c bd x codes hcodes scales hscales xa hxa q X C₀ S₀ A₀ s r (by omega) _) $$ H
    iintro H
    have ih := run_rows s next k (r + 1) (by omega)
    rw [show r + 1 + k = r + (k + 1) by omega] at ih
    iapply ih $$ H
    iexact Hk

/-- The slot of grid point `s`. -/
def inSlot (s : Nat) (j : S2x256x6144.Idx) : Prop := (j 0).val = (curSlot s).toNat

/-- The quantiser: the codes and the scales of the block, and its scaled codes in slot `s`. -/
theorem run_quant (s : Nat) (next : Prog (TpuEff nD τ sig (Elt F) Λ .tc) α) :
    iprop(owns (c : Thread nD τ) x q X ∗ owns (c : Thread nD τ) codes fullShare C₀ ∗ owns (c : Thread nD τ) scales fullShare S₀
        ∗ owns (c : Thread nD τ) xa fullShare A₀)
      ⊢ iprop((iprop(owns (c : Thread nD τ) x q X ∗ owns (c : Thread nD τ) codes fullShare (codesOf X)
            ∗ owns (c : Thread nD τ) scales fullShare (scalesOf X)
            ∗ owns (c : Thread nD τ) xa fullShare (mix (inSlot s) (xaOf X) A₀)) -∗ run defs 𝒱 c bd next Q)
        -∗ run defs 𝒱 c bd (quantRows x codes hcodes scales hscales xa hxa s 8 0 next) Q) := by
  have h := run_rows defs 𝒱 c bd x codes hcodes scales hscales xa hxa q X C₀ S₀ A₀ s next (Q := Q) 8 0 le_rfl
  unfold quantAt at h
  rw [mix_none (D := codesDone 0 0) _ _ (fun j => by unfold codesDone before; omega),
    mix_none (D := scalesDone 0 0) _ _ (fun j => by unfold scalesDone before; omega),
    mix_none (D := xaDone s 0 0) _ _ (fun j => by unfold xaDone before; omega),
    mix_all (D := codesDone (0 + 8) 0) _ _ (fun j => by have : (j 0).val < 256 := (j 0).isLt; unfold codesDone before; omega),
    mix_all (D := scalesDone (0 + 8) 0) _ _ (fun j => by have : (j 0).val < 256 := (j 0).isLt; unfold scalesDone before; omega),
    mix_congr (D := xaDone s (0 + 8) 0) (D' := inSlot s) _ _ (fun j => by
      have : (j 1).val < 256 := (j 1).isLt; unfold xaDone before inSlot; omega)] at h
  exact h

end Prog

end Cert.Proof
-- ==== Proof.Weights.lean ====
/-
  The weights: what the decoding of a chunk leaves in the decoded array, as a function of the coded weights and their
  scale codes, and the proof that it leaves exactly that.
-/
module

public import proofs.«01_k».proof.Proof.Quant

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the decoding computes -/

def inW (a b : Nat) : S2112x6144.Idx :=
  fun x => match x with | 0 => ⟨a % 2112, Nat.mod_lt _ (by decide)⟩ | 1 => ⟨b % 6144, Nat.mod_lt _ (by decide)⟩
def inWs (a b : Nat) : S2112x192.Idx :=
  fun x => match x with | 0 => ⟨a % 2112, Nat.mod_lt _ (by decide)⟩ | 1 => ⟨b % 192, Nat.mod_lt _ (by decide)⟩

/-- Tile `n` of row group `T`, and the two segments of the group's scale codes. -/
def wTile (W : S2112x6144.Idx → Elt F .fp8e4m3) (T n : Nat) : FVec F S32x128 .fp8e4m3 :=
  fun i => W (inW (32 * T + (i 0).val) (128 * n + (i 1).val))
def wsTile (S : S2112x192.Idx → Elt F .i8) (T : Nat) : Vec F S32x128 .i8 := fun i => S (inWs (32 * T + (i 0).val) (i 1).val)
def wsTile' (S : S2112x192.Idx → Elt F .i8) (T : Nat) : Vec F S32x64 .i8 := fun i => S (inWs (32 * T + (i 0).val) (128 + (i 1).val))

/-- The scale codes of the lanes of a tile. -/
def wExp (S : S2112x192.Idx → Elt F .i8) (T n : Nat) : IVec S32x128 32 :=
  if n < 32 then wlanes (wcodes (F := F) (wsTile S T)) (BitVec.ofNat 32 (4 * n))
  else wlanes (wcodes' (F := F) (wsTile' S T)) (BitVec.ofNat 32 (4 * (n - 32)))

/-- The decoded weights. -/
def waOf (W : S2112x6144.Idx → Elt F .fp8e4m3) (S : S2112x192.Idx → Elt F .i8) : S2112x6144.Idx → Elt F .bf16 :=
  fun j => decTile (wExp S ((j 0).val / 32) ((j 1).val / 128)) (wTile W ((j 0).val / 32) ((j 1).val / 128))
    (inTile (j 0).val (j 1).val)

/-- The rows of chunk `t`. -/
def chunkOf (W : S2112x6144.Idx → Elt F .fp8e4m3) (t : Nat) : S192x6144.Idx → Elt F .fp8e4m3 :=
  fun j => W (inW (192 * t + (j 0).val) (j 1).val)

/-! ## How far it has come -/

def waDone (T n : Nat) (j : S2112x6144.Idx) : Prop := before T n (j 0).val (j 1).val

section Facts

variable (t : Fin chunkLoop.trips) (u : Fin rowLoop.trips)

theorem mem_wa (n : Nat) (hn : n < 48) (j : S2112x6144.Idx) :
    j ∈ (waRect t u n).set ↔ (j 0).val / 32 = 6 * t.val + u.val ∧ (j 1).val / 128 = n := by
  have he := rowOf_eq t u
  rw [mem_unit]
  constructor
  · intro h
    have h0 : (rowOf t u).toNat ≤ (j 0).val ∧ (j 0).val < (rowOf t u).toNat + 32 := h 0
    have h1 : 128 * (n % 48) ≤ (j 1).val ∧ (j 1).val < 128 * (n % 48) + 128 := h 1
    omega
  · intro h a
    fin_cases a
    · show (rowOf t u).toNat ≤ (j 0).val ∧ (j 0).val < (rowOf t u).toNat + 32; omega
    · show 128 * (n % 48) ≤ (j 1).val ∧ (j 1).val < 128 * (n % 48) + 128; omega

variable (W : S2112x6144.Idx → Elt F .fp8e4m3) (S : S2112x192.Idx → Elt F .i8)

theorem waOf_tile (n : Nat) (hn : n < 48) (i : S32x128.Idx) :
    waOf W S ((waRect t u n).emb i) = decTile (wExp S (6 * t.val + u.val) n) (wTile W (6 * t.val + u.val) n) i := by
  have he := rowOf_eq t u
  have h0 : (((waRect t u n).emb i) 0).val = (rowOf t u).toNat + 1 * (i 0).val := rfl
  have h1 : (((waRect t u n).emb i) 1).val = 128 * (n % 48) + 1 * (i 1).val := rfl
  have i0 : (i 0).val < 32 := (i 0).isLt
  have i1 : (i 1).val < 128 := (i 1).isLt
  unfold waOf
  rw [h0, h1, show ((rowOf t u).toNat + 1 * (i 0).val) / 32 = 6 * t.val + u.val by omega,
    show (128 * (n % 48) + 1 * (i 1).val) / 128 = n by omega]
  refine congrArg _ (funext fun a => Fin.ext ?_)
  fin_cases a
  · show ((rowOf t u).toNat + 1 * (i 0).val) % 32 = (i 0).val; omega
  · show (128 * (n % 48) + 1 * (i 1).val) % 128 = (i 1).val; omega

theorem chunkOf_tile (n : Nat) (hn : n < 48) : (fun i => chunkOf W t.val ((wbRect u n).emb i)) = wTile W (6 * t.val + u.val) n := by
  funext i
  have he := rowIn_eq u
  unfold chunkOf wTile
  have h0 : (((wbRect u n).emb i) 0).val = (rowIn u).toNat + 1 * (i 0).val := rfl
  have h1 : (((wbRect u n).emb i) 1).val = 128 * (n % 48) + 1 * (i 1).val := rfl
  rw [h0, h1, show 192 * t.val + ((rowIn u).toNat + 1 * (i 0).val) = 32 * (6 * t.val + u.val) + (i 0).val by omega,
    show 128 * (n % 48) + 1 * (i 1).val = 128 * n + (i 1).val by omega]

theorem wsTile_eq : (fun i => S ((wsRect t u).emb i)) = wsTile S (6 * t.val + u.val) := by
  funext i
  have he := rowOf_eq t u
  have ht := t.isLt.trans_eq trips_chunk
  have hu := u.isLt.trans_eq trips_row
  have i0 : (i 0).val < 32 := (i 0).isLt
  have i1 : (i 1).val < 128 := (i 1).isLt
  refine congrArg S (funext fun a => Fin.ext ?_)
  fin_cases a
  · show (rowOf t u).toNat + 1 * (i 0).val = (32 * (6 * t.val + u.val) + (i 0).val) % 2112; omega
  · show 0 + 1 * (i 1).val = (i 1).val % 192; omega

theorem wsTile'_eq : (fun i => S ((wsRect' t u).emb i)) = wsTile' S (6 * t.val + u.val) := by
  funext i
  have he := rowOf_eq t u
  have ht := t.isLt.trans_eq trips_chunk
  have hu := u.isLt.trans_eq trips_row
  have i0 : (i 0).val < 32 := (i 0).isLt
  have i1 : (i 1).val < 64 := (i 1).isLt
  refine congrArg S (funext fun a => Fin.ext ?_)
  fin_cases a
  · show (rowOf t u).toNat + 1 * (i 0).val = (32 * (6 * t.val + u.val) + (i 0).val) % 2112; omega
  · show 128 + 1 * (i 1).val = (128 + (i 1).val) % 192; omega

end Facts

/-! ## The program -/

section Prog

variable {nD : Nat} {τ : Topo} {sig : RefSig} {Λ : Labels}
variable (defs : Defs nD τ sig (Elt F) Λ) (𝒱 : Variants) (c : Dev nD) (bd : Option 𝒱.V)
variable {α : Type} {Q : α → Asrt F nD τ sig}
variable (ws : Memref sig .tc .vmem S2112x192 .i8)
  (wa : Memref sig .tc .vmem S2112x6144 .bf16) (hwa : wa.IsWhole)
  (wb : Memref sig .tc .vmem S2x192x6144 .fp8e4m3)
variable (q : PosShare TreeShare) (W : S2112x6144.Idx → Elt F .fp8e4m3) (S : S2112x192.Idx → Elt F .i8)
  (D₀ : S2112x6144.Idx → Elt F .bf16)
variable (t : Fin chunkLoop.trips) (u : Fin rowLoop.trips)

/-- The chunk's buffer and the decoded array while the decoding is at tile `n` of row group `T`. -/
abbrev decAt (T n : Nat) : Asrt F nD τ sig :=
  iprop(owns (c : Thread nD τ) (bufM wb (bufW t) (bufW_lt t)) fullShare (chunkOf W t.val)
    ∗ owns (c : Thread nD τ) wa fullShare (mix (waDone T n) (waOf W S) D₀))

theorem run_decTile (t0 m n : Nat) (hn : n = t0 + m) (hn' : n < 48) (e : IVec S32x128 32)
    (he : wlanes e (BitVec.ofNat 32 (4 * m)) = wExp S (6 * t.val + u.val) n)
    (K : PUnit → Prog (TpuEff nD τ sig (Elt F) Λ .tc) α) :
    decAt c wa wb W S D₀ t (6 * t.val + u.val) n
      ⊢ iprop((decAt c wa wb W S D₀ t (6 * t.val + u.val) (n + 1) -∗ run defs 𝒱 c bd (K ⟨⟩) Q)
        -∗ run defs 𝒱 c bd (decOne wa hwa wb t u t0 e m >>= K) Q) := by
  subst hn
  have hA : (waRect t u (t0 + m)).overlay (mix (waDone (6 * t.val + u.val) (t0 + m)) (waOf W S) D₀)
      (decTile (wExp S (6 * t.val + u.val) (t0 + m)) (wTile W (6 * t.val + u.val) (t0 + m)))
      = mix (waDone (6 * t.val + u.val) (t0 + m + 1)) (waOf W S) D₀ :=
    overlay_mix _ _ _ _ (fun i => (waOf_tile t u W S (t0 + m) hn' i).symm) (fun j => by
      rw [mem_wa t u (t0 + m) hn']; unfold waDone before; omega)
  unfold decOne
  simp only [bind_assoc, he]
  iintro ⟨HB, HA⟩ Hk
  iapply (run_load defs 𝒱 c bd (bufM wb (bufW t) (bufW_lt t)) (wbRect u (t0 + m)) fullShare _ _) $$ HB
  iintro HB
  rw [chunkOf_tile t u W (t0 + m) hn']
  iapply (run_load defs 𝒱 c bd wa (waRect t u (t0 + m)) fullShare _ _) $$ HA
  iintro HA
  iapply (run_store defs 𝒱 c bd wa (waRect t u (t0 + m)) _ _ _) $$ HA
  iintro HA
  iapply Hk
  isplitl [HB]; · iexact HB
  rw [← hA]; iexact HA

theorem run_decTiles (t0 : Nat) (e : IVec S32x128 32) (next : Prog (TpuEff nD τ sig (Elt F) Λ .tc) α) :
    ∀ (k m : Nat), t0 + m + k ≤ 48 →
      (∀ m', m ≤ m' → m' < m + k → wlanes e (BitVec.ofNat 32 (4 * m')) = wExp S (6 * t.val + u.val) (t0 + m')) →
      decAt c wa wb W S D₀ t (6 * t.val + u.val) (t0 + m)
        ⊢ iprop((decAt c wa wb W S D₀ t (6 * t.val + u.val) (t0 + m + k) -∗ run defs 𝒱 c bd next Q)
          -∗ run defs 𝒱 c bd (decTiles wa hwa wb t u t0 e k m next) Q)
  | 0, m, _, _ => by
    unfold decTiles
    iintro H Hk
    iapply Hk; iexact H
  | k + 1, m, h, hi => by
    unfold decTiles
    iintro H Hk
    iapply (run_decTile defs 𝒱 c bd wa hwa wb W S D₀ t u t0 m (t0 + m) rfl (by omega) e (hi m le_rfl (by omega)) _) $$ H
    iintro H
    have ih := run_decTiles t0 e next k (m + 1) (by omega) (fun m' h1 h2 => hi m' (by omega) (by omega))
    rw [show t0 + (m + 1) = t0 + m + 1 by omega, show t0 + m + 1 + k = t0 + m + (k + 1) by omega] at ih
    iapply ih $$ H
    iexact Hk

/-- A row group. -/
theorem run_decRows (K : PUnit → Asrt F nD τ sig) :
    iprop(owns (c : Thread nD τ) ws q S ∗ decAt c wa wb W S D₀ t (6 * t.val + u.val) 0)
      ⊢ iprop((iprop(owns (c : Thread nD τ) ws q S ∗ decAt c wa wb W S D₀ t (6 * t.val + (u.val + 1)) 0) -∗ K ⟨⟩)
        -∗ run defs 𝒱 c bd (decRows ws wa hwa wb t u) K) := by
  have eA : mix (waDone (6 * t.val + u.val) 48) (waOf W S) D₀ = mix (waDone (6 * t.val + (u.val + 1)) 0) (waOf W S) D₀ :=
    mix_congr _ _ fun j => by
      have : (j 1).val < 6144 := (j 1).isLt
      unfold waDone before; omega
  unfold decRows
  iintro ⟨HS, H⟩ Hk
  iapply (run_load defs 𝒱 c bd ws (wsRect t u) q S _) $$ HS
  iintro HS
  rw [wsTile_eq t u S]
  iapply (run_decTiles defs 𝒱 c bd wa hwa wb W S D₀ t u 0 _ _ 32 0 (by omega) (fun m' _ h2 => by
    unfold wExp
    rw [if_pos (by omega), show 0 + m' = m' by omega])) $$ H
  iintro H
  iapply (run_load defs 𝒱 c bd ws (wsRect' t u) q S _) $$ HS
  iintro HS
  rw [wsTile'_eq t u S]
  iapply (run_decTiles defs 𝒱 c bd wa hwa wb W S D₀ t u 32 _ _ 16 0 (by omega) (fun m' _ h2 => by
    unfold wExp
    rw [if_neg (by omega), show 32 + m' - 32 = m' by omega])) $$ H
  iintro ⟨HB, HA⟩
  iapply (run_pure defs 𝒱 c bd)
  iapply Hk
  isplitl [HS]; · iexact HS
  isplitl [HB]; · iexact HB
  rw [← eA]; iexact HA

/-- The six row groups of a chunk. -/
theorem run_decChunk {K : PUnit → Prog (TpuEff nD τ sig (Elt F) Λ .tc) α} :
    iprop(owns (c : Thread nD τ) ws q S ∗ decAt c wa wb W S D₀ t (6 * t.val) 0)
      ⊢ iprop((iprop(owns (c : Thread nD τ) ws q S ∗ decAt c wa wb W S D₀ t (6 * (t.val + 1)) 0) -∗ run defs 𝒱 c bd (K ⟨⟩) Q)
        -∗ run defs 𝒱 c bd (Scf.Loop.for rowLoop rowLoop_ok ⟨⟩ (fun u _ => decRows ws wa hwa wb t u) >>= K) Q) := by
  have h := Scf.wp_for_bind frame (wpE defs 𝒱 (c : Thread nD τ) bd) Set.univ rowLoop.lb rowLoop.ub rowLoop.st rowLoop_ok
    (PUnit.unit : PUnit.{1}) (fun u _ => decRows ws wa hwa wb t u)
    (fun u _ => iprop(owns (c : Thread nD τ) ws q S ∗ decAt c wa wb W S D₀ t (6 * t.val + u) 0))
    (fun u _ => by
      iintro H
      iapply (run_decRows defs 𝒱 c bd ws wa hwa wb q W S D₀ t u _) $$ H
      iintro H
      iexact H) (kk := K) (Q := Q)
  iintro H Hk
  iapply h $$ H
  iintro %a H
  iapply Hk
  iexact H

end Prog

end Cert.Proof
-- ==== Proof.Fetch.lean ====
/-
  The prologue of the first grid point: the weights are fetched in eleven chunks, the next one under way in the other
  staging buffer while this one is decoded, and the second slot of the double buffer is cleared.

  A chunk under way holds half of the array's share, its buffer and its semaphore; a buffer at rest holds the same at
  known places. The loop's invariant at trip `t`: chunk `t` is under way in buffer `t` modulo 2, the other buffer is at
  rest, and the row groups before `6 t` are decoded.
-/
module

public import proofs.«01_k».proof.Proof.Weights

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffer and the first row of chunk `k`, as words, and the share of the array its copy reads at. -/
def bufN (k : Nat) : BitVec 32 := BitVec.ofNat 32 (k % 2)
def rowN (k : Nat) : BitVec 32 := BitVec.ofNat 32 (192 * (k % 11))
def shareN (k : Nat) : PosShare TreeShare := if k % 2 = 0 then fullShare.left else fullShare.right

theorem bufN_lt (k : Nat) : (bufN k).toNat + 1 ≤ 2 := by
  unfold bufN; rw [BitVec.toNat_ofNat]; omega
theorem rowN_eq (k : Nat) : (rowN k).toNat = 192 * (k % 11) := by
  unfold rowN; rw [BitVec.toNat_ofNat]; omega
theorem rowN_lt (k : Nat) : (rowN k).toNat + 192 ≤ 2112 := by rw [rowN_eq]; omega
theorem bufN_add_two (k : Nat) : bufN (k + 2) = bufN k := by unfold bufN; rw [Nat.add_mod_right]
theorem shareN_add_two (k : Nat) : shareN (k + 2) = shareN k := by unfold shareN; rw [Nat.add_mod_right]

theorem bufW_eq : ∀ t : Fin chunkLoop.trips, bufW t = bufN t := by decide +kernel
theorem otherW_eq : ∀ t : Fin chunkLoop.trips, otherW t = bufN (t + 1) := by decide +kernel
theorem chunkRow_eq' : ∀ t : Fin chunkLoop.trips, chunkRow t = rowN t := by decide +kernel
theorem nextRow_eq' : ∀ t : Fin chunkLoop.trips, more t = 1#1 → nextRow t = rowN (t + 1) := by decide +kernel

section Prog

variable {nD : Nat} {τ : Topo} {sig : RefSig} {Λ : Labels}
variable (defs : Defs nD τ sig (Elt F) Λ) (𝒱 : Variants) (c : Dev nD) (bd : Option 𝒱.V)
variable {α : Type} {Q : α → Asrt F nD τ sig}
variable (w : Memref sig .tc .hbm S2112x6144 .fp8e4m3) (hw : w.IsWhole)
  (ws : Memref sig .tc .vmem S2112x192 .i8)
  (xa : Memref sig .tc .vmem S2x256x6144 .bf16) (hxa : xa.IsWhole)
  (wa : Memref sig .tc .vmem S2112x6144 .bf16) (hwa : wa.IsWhole)
  (wb : Memref sig .tc .vmem S2x192x6144 .fp8e4m3) (hwb : wb.IsWhole)
  (sem : DmaSems sig S2)
variable (fw : Buf (Elt F) (w.view.loc (c : Thread nD τ)))

/-- The memrefs of chunk `k`. -/
abbrev bufK (k : Nat) : Memref sig .tc .vmem S192x6144 .fp8e4m3 := bufM wb (bufN k) (bufN_lt k)
abbrev chunkK (k : Nat) : Memref sig .tc .hbm S192x6144 .fp8e4m3 := chunkM w (rowN k) (rowN_lt k)
abbrev semK (k : Nat) : DmaSem sig := (semM sem (bufN k) (bufN_lt k)).sem

/-- A buffer at rest: its share of the array, itself at any contents, its semaphore at zero. -/
def rest (b : BitVec 32) (hb : b.toNat + 1 ≤ 2) (q : PosShare TreeShare) : Asrt F nD τ sig :=
  iprop((w.view.loc (c : Thread nD τ) ↦[w.view.set]{q} fw)
    ∗ (∃ f, (bufM wb b hb).view.loc (c : Thread nD τ) ↦[(bufM wb b hb).view.set]{fullShare} f)
    ∗ semVal ((c : Thread nD τ), SemLoc.dma (semM sem b hb).sem) 0)
def idle (k : Nat) : Asrt F nD τ sig := rest c w wb sem fw (bufN k) (bufN_lt k) (shareN k)

/-- Chunk `k` under way. -/
def flying (k : Nat) : Asrt F nD τ sig :=
  iprop(Transfers.Flight countersEmb (c : Thread nD τ) (.dma (semK sem k)) () (bufK wb k).view.dmaCredit
      iprop(owns (c : Thread nD τ) (bufK wb k) fullShare (chunkOf (w.view.read (Elt F) fw) k)
        ∗ (w.view.loc (c : Thread nD τ) ↦[(chunkK w k).view.set]{shareN k} fw))
    ∗ (w.view.loc (c : Thread nD τ) ↦[w.view.set \ (chunkK w k).view.set]{shareN k} fw))

/-- Chunk `k` arrived. -/
def arrived (k : Nat) : Asrt F nD τ sig :=
  iprop((w.view.loc (c : Thread nD τ) ↦[w.view.set]{shareN k} fw)
    ∗ owns (c : Thread nD τ) (bufK wb k) fullShare (chunkOf (w.view.read (Elt F) fw) k)
    ∗ semVal ((c : Thread nD τ), SemLoc.dma (semK sem k)) 0)

theorem idle_add_two (k : Nat) : idle c w wb sem fw (k + 2) = idle c w wb sem fw k := by
  unfold idle
  rw [shareN_add_two]
  have h : ∀ b hb, b = bufN k → rest c w wb sem fw b hb (shareN k) = rest c w wb sem fw (bufN k) (bufN_lt k) (shareN k) := by
    rintro _ _ rfl; rfl
  exact h _ _ (bufN_add_two k)

theorem arrived_idle (k : Nat) : arrived c w wb sem fw k ⊢ idle c w wb sem fw k := by
  unfold arrived idle rest owns
  iintro ⟨Hw, ⟨%f, -, Hb⟩, Hs⟩
  isplitl [Hw]; · iexact Hw
  isplitl [Hb]; · iexists f; iexact Hb
  iexact Hs

/-- What a chunk reads of the array. -/
theorem chunkK_read (k : Nat) (hk : k < 11) : (chunkK w k).view.read (Elt F) fw = chunkOf (w.view.read (Elt F) fw) k := by
  funext j
  have j0 : (j 0).val < 192 := (j 0).isLt
  have j1 : (j 1).val < 6144 := (j 1).isLt
  refine congrArg (w.view.read (Elt F) fw) (funext fun a => Fin.ext ?_)
  have he := rowN_eq k
  fin_cases a
  · show (rowN k).toNat + 1 * (j 0).val = (192 * k + (j 0).val) % 2112; omega
  · show 0 + 1 * (j 1).val = (j 1).val % 6144; omega

theorem run_fetch (k : Nat) (hk : k < 11) (v b : BitVec 32) (ev : v = rowN k) (eb : b = bufN k) (hv hv' hb)
    (K : PUnit → Prog (TpuEff nD τ sig (Elt F) Λ .tc) α) :
    idle c w wb sem fw k
      ⊢ iprop((flying c w wb sem fw k -∗ run defs 𝒱 c bd (K ⟨⟩) Q)
        -∗ run defs 𝒱 c bd (fetch w hw wb hwb sem v b hv hv' hb >>= K) Q) := by
  subst ev eb
  have hsub : (chunkK w k).view.set ⊆ w.view.set := View.set_slice_subset _ _
  have h (f) := Transfers.wp_dmaLocal (defs := defs) countersEmb 𝒱 (c : Thread nD τ) bd (src := chunkK w k) (via := .same)
    (dst := bufK wb k) (sm := .dma (semK sem k))
    (hsrc := hw.wordExact_slice rfl _ (chunkRect_words _ (by decide) _ hv hv'))
    (hdst := (hwb.wordExact_slice rfl _ (bufRect_words _ (by decide) _ hb)).reshape _ _) (hsem := ⟨Or.inl rfl, trivial⟩)
    (k := K) (Q := Q) (q := shareN k) (fs := fw) (fd := f) () (bufK wb k).view.dmaCredit rfl
    (View.dmaCredit_pos _ (by decide)) (Finset.Subset.refl _)
  unfold idle rest
  iintro ⟨Hw, ⟨%f, Hb⟩, Hs⟩ Hk
  ihave Hw' := (pointsTo_split_subset hsub).1 $$ Hw
  icases Hw' with ⟨Hw, Hrest⟩
  iapply (h f) $$ [Hw Hb Hs]
  · isplitl [Hw]; · iexact Hw
    isplitl [Hb]; · iexact Hb
    iexact Hs
  iintro Hf
  iapply Hk
  unfold flying
  isplitl [Hf]
  · iapply (Transfers.Flight_mono countersEmb (c : Thread nD τ) ?_) $$ Hf
    iintro ⟨Hb, Hw⟩
    isplitl [Hb]
    · unfold owns
      iexists _; isplitr; swap; · iexact Hb
      ipureintro
      rw [← chunkK_read c w fw k hk]
      exact View.read_write_univ _ _
    iexact Hw
  iexact Hrest

theorem run_await (k : Nat) (v b : BitVec 32) (ev : v = rowN k) (eb : b = bufN k) (hv hv' hb) (V : Waits sig Unit)
    (K : PUnit → Prog (TpuEff nD τ sig (Elt F) Λ .tc) α) :
    iprop(flying c w wb sem fw k ∗ owes (c : Thread nD τ) 0 V)
      ⊢ iprop((iprop(arrived c w wb sem fw k ∗ (∃ V', owes (c : Thread nD τ) 0 V')) -∗ run defs 𝒱 c bd (K ⟨⟩) Q)
        -∗ run defs 𝒱 c bd (await w hw wb hwb sem v b hv hv' hb >>= K) Q) := by
  subst ev eb
  have hsub : (chunkK w k).view.set ⊆ w.view.set := View.set_slice_subset _ _
  have h := Transfers.wp_waitLocal (defs := defs) countersEmb 𝒱 (c : Thread nD τ) bd (srcw := chunkK w k)
    (dstw := bufK wb k) (sem := semK sem k)
    (hsrc := hw.wordExact_slice rfl _ (chunkRect_words _ (by decide) _ hv hv'))
    (hdst := (hwb.wordExact_slice rfl _ (bufRect_words _ (by decide) _ hb)).reshape _ _)
    (k := K) (Q := Q) () (N := (bufK wb k).view.dmaCredit) rfl
    (D := iprop(owns (c : Thread nD τ) (bufK wb k) fullShare (chunkOf (w.view.read (Elt F) fw) k)
        ∗ (w.view.loc (c : Thread nD τ) ↦[(chunkK w k).view.set]{shareN k} fw))) (W := V)
  unfold flying
  iintro ⟨⟨Hf, Hrest⟩, HO⟩ Hk
  iapply h $$ [Hf HO]
  · isplitl [Hf]; · iexact Hf
    iexact HO
  iintro ⟨⟨Hb, Hw⟩, Hs, HO⟩
  iapply Hk
  isplitr [HO]
  · unfold arrived
    isplitl [Hw Hrest]
    · iapply (pointsTo_split_subset hsub).2
      isplitl [Hw]; · iexact Hw
      iexact Hrest
    isplitl [Hb]; · iexact Hb
    iexact Hs
  iexists _; iexact HO

/-- The loop's invariant at trip `t`. -/
def fetchAt (q : PosShare TreeShare) (S : S2112x192.Idx → Elt F .i8) (D₀ : S2112x6144.Idx → Elt F .bf16) (t : Nat) :
    Asrt F nD τ sig :=
  iprop((if t < 11 then flying c w wb sem fw t else idle c w wb sem fw t) ∗ idle c w wb sem fw (t + 1)
    ∗ owns (c : Thread nD τ) ws q S
    ∗ owns (c : Thread nD τ) wa fullShare (mix (waDone (6 * t) 0) (waOf (w.view.read (Elt F) fw) S) D₀)
    ∗ (∃ V, owes (c : Thread nD τ) 0 V))

variable (q : PosShare TreeShare) (S : S2112x192.Idx → Elt F .i8) (D₀ : S2112x6144.Idx → Elt F .bf16)

/-- From the wait on. -/
theorem run_decode (t : Fin chunkLoop.trips) (hv hv' hb) (Q : PUnit → Asrt F nD τ sig) :
    iprop(flying c w wb sem fw t ∗ owns (c : Thread nD τ) ws q S
        ∗ owns (c : Thread nD τ) wa fullShare (mix (waDone (6 * t.val) 0) (waOf (w.view.read (Elt F) fw) S) D₀)
        ∗ (∃ V, owes (c : Thread nD τ) 0 V))
      ⊢ iprop((iprop(idle c w wb sem fw t ∗ owns (c : Thread nD τ) ws q S
            ∗ owns (c : Thread nD τ) wa fullShare (mix (waDone (6 * (t.val + 1)) 0) (waOf (w.view.read (Elt F) fw) S) D₀)
            ∗ (∃ V, owes (c : Thread nD τ) 0 V)) -∗ Q ⟨⟩)
        -∗ run defs 𝒱 c bd (await w hw wb hwb sem (chunkRow t) (bufW t) hv hv' hb >>= fun _ =>
          Scf.Loop.for rowLoop rowLoop_ok ⟨⟩ (fun u _ => decRows ws wa hwa wb t u) >>= fun _ => pure ⟨⟩) Q) := by
  have eb : ∀ b hb, b = bufN t → (owns (c : Thread nD τ) (bufM wb b hb) fullShare (chunkOf (w.view.read (Elt F) fw) t.val) : Asrt F nD τ sig)
      = owns (c : Thread nD τ) (bufK wb t) fullShare (chunkOf (w.view.read (Elt F) fw) t.val) := by rintro _ _ rfl; rfl
  iintro ⟨Hf, HS, HA, ⟨%V, HO⟩⟩ Hk
  iapply (run_await defs 𝒱 c bd w hw wb hwb sem fw t.val (chunkRow t) (bufW t) (chunkRow_eq' t) (bufW_eq t) hv hv' hb V _) $$ [Hf HO]
  · isplitl [Hf]; · iexact Hf
    iexact HO
  unfold arrived
  iintro ⟨⟨Hw, Hb, Hs⟩, HO⟩
  iapply (run_decChunk defs 𝒱 c bd ws wa hwa wb q (w.view.read (Elt F) fw) S D₀ t) $$ [HS Hb HA]
  · isplitl [HS]; · iexact HS
    unfold decAt
    rw [eb _ _ (bufW_eq t)]
    isplitl [Hb]; · iexact Hb
    iexact HA
  unfold decAt
  rw [eb _ _ (bufW_eq t)]
  iintro ⟨HS, Hb, HA⟩
  iapply (run_pure defs 𝒱 c bd)
  iapply Hk
  isplitl [Hw Hb Hs]
  · iapply (arrived_idle c w wb sem fw t)
    unfold arrived
    isplitl [Hw]; · iexact Hw
    isplitl [Hb]; · iexact Hb
    iexact Hs
  isplitl [HS]; · iexact HS
  isplitl [HA]; · iexact HA
  iexact HO

theorem run_chunk (t : Fin chunkLoop.trips) :
    fetchAt c w ws wa wb sem fw q S D₀ t.val
      ⊢ run defs 𝒱 c bd (chunkBody w hw ws wa hwa wb hwb sem t) (fun _ => fetchAt c w ws wa wb sem fw q S D₀ (t.val + 1)) := by
  have ht := t.isLt.trans_eq trips_chunk
  unfold fetchAt chunkBody
  rw [if_pos ht]
  iintro ⟨Hf, Hi, HS, HA, HO⟩
  by_cases hm : more t = 1#1
  · have h10 := (more_iff t).1 hm
    rw [dif_pos hm, if_pos (show t.val + 1 < 11 by omega)]
    simp only [bind_assoc, pure_bind]
    iapply (run_fetch defs 𝒱 c bd w hw wb hwb sem fw (t.val + 1) (by omega) (nextRow t) (otherW t) (nextRow_eq' t hm) (otherW_eq t) _ _ _ _) $$ Hi
    iintro Hi
    iapply (run_decode defs 𝒱 c bd w hw ws wa hwa wb hwb sem fw q S D₀ t _ _ _ _) $$ [Hf HS HA HO]
    · isplitl [Hf]; · iexact Hf
      isplitl [HS]; · iexact HS
      isplitl [HA]; · iexact HA
      iexact HO
    iintro ⟨Hf, HS, HA, HO⟩
    isplitl [Hi]; · iexact Hi
    isplitl [Hf]
    · rw [show t.val + 1 + 1 = t.val + 2 from rfl, idle_add_two]; iexact Hf
    isplitl [HS]; · iexact HS
    isplitl [HA]; · iexact HA
    iexact HO
  · have h10 : ¬ t.val < 10 := fun h => hm ((more_iff t).2 h)
    rw [dif_neg hm, if_neg (show ¬ t.val + 1 < 11 by omega)]
    simp only [pure_bind]
    iapply (run_decode defs 𝒱 c bd w hw ws wa hwa wb hwb sem fw q S D₀ t _ _ _ _) $$ [Hf HS HA HO]
    · isplitl [Hf]; · iexact Hf
      isplitl [HS]; · iexact HS
      isplitl [HA]; · iexact HA
      iexact HO
    iintro ⟨Hf, HS, HA, HO⟩
    isplitl [Hi]; · iexact Hi
    isplitl [Hf]
    · rw [show t.val + 1 + 1 = t.val + 2 from rfl, idle_add_two]; iexact Hf
    isplitl [HS]; · iexact HS
    isplitl [HA]; · iexact HA
    iexact HO

/-- All eleven chunks. -/
theorem run_chunks (K : PUnit → Prog (TpuEff nD τ sig (Elt F) Λ .tc) α) :
    iprop(idle c w wb sem fw 0 ∗ idle c w wb sem fw 1 ∗ owns (c : Thread nD τ) ws q S ∗ owns (c : Thread nD τ) wa fullShare D₀
        ∗ (∃ V, owes (c : Thread nD τ) 0 V))
      ⊢ iprop((iprop(idle c w wb sem fw 0 ∗ idle c w wb sem fw 1 ∗ owns (c : Thread nD τ) ws q S
            ∗ owns (c : Thread nD τ) wa fullShare (waOf (w.view.read (Elt F) fw) S) ∗ (∃ V, owes (c : Thread nD τ) 0 V))
          -∗ run defs 𝒱 c bd (K ⟨⟩) Q)
        -∗ run defs 𝒱 c bd (fetch w hw wb hwb sem 0#32 0#32 (by decide) (by decide) (by decide) >>= fun _ =>
          Scf.Loop.for chunkLoop chunkLoop_ok ⟨⟩ (fun t _ => chunkBody w hw ws wa hwa wb hwb sem t) >>= K) Q) := by
  have h := Scf.wp_for_bind frame (wpE defs 𝒱 (c : Thread nD τ) bd) Set.univ chunkLoop.lb chunkLoop.ub chunkLoop.st chunkLoop_ok
    (PUnit.unit : PUnit.{1}) (fun t _ => chunkBody w hw ws wa hwa wb hwb sem t)
    (fun t _ => fetchAt c w ws wa wb sem fw q S D₀ t)
    (fun t _ => run_chunk defs 𝒱 c bd w hw ws wa hwa wb hwb sem fw q S D₀ t) (kk := K) (Q := Q)
  have e0 : mix (waDone (6 * 0) 0) (waOf (w.view.read (Elt F) fw) S) D₀ = D₀ :=
    mix_none _ _ fun j => by unfold waDone before; omega
  have e11 : mix (waDone (6 * 11) 0) (waOf (w.view.read (Elt F) fw) S) D₀ = waOf (w.view.read (Elt F) fw) S :=
    mix_all _ _ fun j => by have : (j 0).val < 2112 := (j 0).isLt; unfold waDone before; omega
  have i12 : idle c w wb sem fw (11 + 1) = idle c w wb sem fw 0 := by
    rw [idle_add_two (k := 10), idle_add_two (k := 8), idle_add_two (k := 6), idle_add_two (k := 4), idle_add_two (k := 2),
      idle_add_two (k := 0)]
  have i11 : idle c w wb sem fw 11 = idle c w wb sem fw 1 := by
    rw [idle_add_two (k := 9), idle_add_two (k := 7), idle_add_two (k := 5), idle_add_two (k := 3), idle_add_two (k := 1)]
  have hI : fetchAt c w ws wa wb sem fw q S D₀ chunkLoop.trips = fetchAt c w ws wa wb sem fw q S D₀ 11 := by rw [trips_chunk]
  change fetchAt c w ws wa wb sem fw q S D₀ 0
    ⊢ iprop((∀ a : PUnit, fetchAt c w ws wa wb sem fw q S D₀ chunkLoop.trips -∗ run defs 𝒱 c bd (K a) Q) -∗ _) at h
  rw [hI] at h
  unfold fetchAt at h
  rw [if_pos (by decide), if_neg (by decide), e0, e11, i12, i11] at h
  iintro ⟨H0, H1, HS, HA, HO⟩ Hk
  iapply (run_fetch defs 𝒱 c bd w hw wb hwb sem fw 0 (by decide) 0#32 0#32 (by decide) (by decide) _ _ _ _) $$ H0
  iintro H0
  iapply h $$ [H0 H1 HS HA HO]
  · isplitl [H0]; · iexact H0
    isplitl [H1]; · iexact H1
    isplitl [HS]; · iexact HS
    isplitl [HA]; · iexact HA
    iexact HO
  iintro %a ⟨H1, H0, HS, HA, HO⟩
  iapply Hk
  isplitl [H0]; · iexact H0
  isplitl [H1]; · iexact H1
  isplitl [HS]; · iexact HS
  isplitl [HA]; · iexact HA
  iexact HO

/-! ## The two buffers at rest, from the whole staging buffer, the whole array and the two semaphores -/

theorem bufs_disjoint : Disjoint (α := Finset wb.view.ty.Idx) (bufK wb 0).view.set (bufK wb 1).view.set := by
  change Disjoint (α := Finset wb.view.ty.Idx) ((wb.view.slice (bufRect (bufN 0) (bufN_lt 0))).reshape S192x6144 squeezes_buf.numel_eq).set ((wb.view.slice (bufRect (bufN 1) (bufN_lt 1))).reshape S192x6144 squeezes_buf.numel_eq).set
  rw [View.set_reshape, View.set_reshape]
  refine Disjoint.mono (View.set_slice wb.view _).le (View.set_slice wb.view _).le ?_
  rw [Finset.disjoint_map, Finset.disjoint_left]
  intro j h0 h1
  have a0 := (mem_unit (bufOff_inb (bufN 0) (bufN_lt 0)) j).1 h0 0
  have a1 := (mem_unit (bufOff_inb (bufN 1) (bufN_lt 1)) j).1 h1 0
  have b0 : (bufN 0).toNat ≤ (j 0).val ∧ (j 0).val < (bufN 0).toNat + 1 := a0
  have b1 : (bufN 1).toNat ≤ (j 0).val ∧ (j 0).val < (bufN 1).toNat + 1 := a1
  have c0 : (bufN 0).toNat = 0 := rfl
  have c1 : (bufN 1).toNat = 1 := rfl
  omega

theorem buf_subset (k : Nat) : (bufK wb k).view.set ⊆ wb.view.set := by
  change ((wb.view.slice (bufRect (bufN k) (bufN_lt k))).reshape S192x6144 squeezes_buf.numel_eq).set ⊆ _
  rw [View.set_reshape]
  exact View.set_slice_subset _ _

/-- What the two buffers leave of the staging buffer. -/
def leftover : Asrt F nD τ sig :=
  iprop(∃ f, wb.view.loc (c : Thread nD τ) ↦[(wb.view.set \ (bufK wb 0).view.set) \ (bufK wb 1).view.set]{fullShare} f)

/-- The staging buffer at any contents, the array, and the two semaphores at zero. -/
def staging : Asrt F nD τ sig :=
  iprop((∃ f, wb.view.loc (c : Thread nD τ) ↦[wb.view.set]{fullShare} f)
    ∗ (w.view.loc (c : Thread nD τ) ↦[w.view.set]{fullShare} fw)
    ∗ semVal ((c : Thread nD τ), SemLoc.dma (semK sem 0)) 0 ∗ semVal ((c : Thread nD τ), SemLoc.dma (semK sem 1)) 0)

theorem buf1_subset : (bufK wb 1).view.set ⊆ wb.view.set \ (bufK wb 0).view.set :=
  Finset.subset_sdiff.2 ⟨buf_subset wb 1, (bufs_disjoint wb).symm⟩

theorem staging_split : staging c w wb sem fw ⊢ iprop(idle c w wb sem fw 0 ∗ idle c w wb sem fw 1 ∗ leftover c wb) := by
  unfold staging idle rest leftover
  iintro ⟨⟨%f, Hb⟩, Hw, H0, H1⟩
  ihave Hb' := (pointsTo_split_subset (buf_subset wb 0)).1 $$ Hb
  icases Hb' with ⟨Hb0, Hb⟩
  ihave Hb' := (pointsTo_split_subset (buf1_subset wb)).1 $$ Hb
  icases Hb' with ⟨Hb1, Hb⟩
  ihave Hw' := (pointsTo_share (PosShare.mem_left_op_right fullShare)).1 $$ Hw
  icases Hw' with ⟨Hw0, Hw1⟩
  isplitl [Hw0 Hb0 H0]
  · isplitl [Hw0]; · iexact Hw0
    isplitl [Hb0]; · iexists f; iexact Hb0
    iexact H0
  isplitl [Hw1 Hb1 H1]
  · isplitl [Hw1]; · iexact Hw1
    isplitl [Hb1]; · iexists f; iexact Hb1
    iexact H1
  iexists f; iexact Hb

theorem staging_join : iprop(idle c w wb sem fw 0 ∗ idle c w wb sem fw 1 ∗ leftover c wb) ⊢ staging c w wb sem fw := by
  unfold staging idle rest leftover
  iintro ⟨⟨Hw0, ⟨%f0, Hb0⟩, H0⟩, ⟨Hw1, ⟨%f1, Hb1⟩, H1⟩, ⟨%f, Hb⟩⟩
  isplitl [Hb0 Hb1 Hb]
  · ihave Hb' := (pointsTo_join_subset (ℓ := wb.view.loc (c : Thread nD τ)) (I := (bufK wb 1).view.set) (S := wb.view.set \ (bufK wb 0).view.set) (buf1_subset wb)) $$ [Hb1 Hb]
    · isplitl [Hb1]; · iexact Hb1
      iexact Hb
    ihave Hb'' := (pointsTo_join_subset (ℓ := wb.view.loc (c : Thread nD τ)) (I := (bufK wb 0).view.set) (S := wb.view.set) (buf_subset wb 0)) $$ [Hb0 Hb']
    · isplitl [Hb0]; · iexact Hb0
      iexact Hb'
    iexists _; iexact Hb''
  isplitl [Hw0 Hw1]
  · iapply (pointsTo_share (PosShare.mem_left_op_right fullShare)).2
    isplitl [Hw0]; · iexact Hw0
    iexact Hw1
  isplitl [H0]; · iexact H0
  iexact H1

/-- The double buffer with its second slot cleared. -/
def cleared (A : S2x256x6144.Idx → Elt F .bf16) : S2x256x6144.Idx → Elt F .bf16 :=
  (wholeSlotRect 1#32 (by decide)).overlay A
    (shapeCast S1x256x6144 (broadcast S256x6144 (Scalar.ofBits .bf16 0x0000#16 : F .bf16)) cast_slot)

/-- The prologue at the first grid point. -/
theorem run_prologue_first (A : S2x256x6144.Idx → Elt F .bf16) (s : Nat) (hs : first s = 1#1)
    (K : PUnit → Prog (TpuEff nD τ sig (Elt F) Λ .tc) α) :
    iprop(staging c w wb sem fw ∗ owns (c : Thread nD τ) ws q S ∗ owns (c : Thread nD τ) wa fullShare D₀
        ∗ owns (c : Thread nD τ) xa fullShare A ∗ (∃ V, owes (c : Thread nD τ) 0 V))
      ⊢ iprop((iprop(staging c w wb sem fw ∗ owns (c : Thread nD τ) ws q S
            ∗ owns (c : Thread nD τ) wa fullShare (waOf (w.view.read (Elt F) fw) S)
            ∗ owns (c : Thread nD τ) xa fullShare (cleared A) ∗ (∃ V, owes (c : Thread nD τ) 0 V))
          -∗ run defs 𝒱 c bd (K ⟨⟩) Q)
        -∗ run defs 𝒱 c bd (prologue w hw ws xa hxa wa hwa wb hwb sem s >>= K) Q) := by
  unfold prologue
  rw [dif_pos hs]
  simp only [bind_assoc, pure_bind]
  iintro ⟨Hst, HS, HD, HA, HO⟩ Hk
  ihave Hst' := (staging_split c w wb sem fw) $$ Hst
  icases Hst' with ⟨H0, H1, Hl⟩
  iapply (run_chunks defs 𝒱 c bd w hw ws wa hwa wb hwb sem fw q S D₀ _) $$ [H0 H1 HS HD HO]
  · isplitl [H0]; · iexact H0
    isplitl [H1]; · iexact H1
    isplitl [HS]; · iexact HS
    isplitl [HD]; · iexact HD
    iexact HO
  iintro ⟨H0, H1, HS, HD, HO⟩
  iapply (run_load defs 𝒱 c bd xa (wholeSlotRect 1#32 _) fullShare A _) $$ HA
  iintro HA
  iapply (run_store defs 𝒱 c bd xa (wholeSlotRect 1#32 _) _ A _) $$ HA
  iintro HA
  iapply Hk
  isplitl [H0 H1 Hl]
  · iapply (staging_join c w wb sem fw)
    isplitl [H0]; · iexact H0
    isplitl [H1]; · iexact H1
    iexact Hl
  isplitl [HS]; · iexact HS
  isplitl [HD]; · iexact HD
  isplitl [HA]; · iexact HA
  iexact HO

/-- At every later grid point it does nothing. -/
theorem prologue_later (s : Nat) (hs : ¬ first s = 1#1) (K : PUnit → Prog (TpuEff nD τ sig (Elt F) Λ .tc) α) :
    (prologue w hw ws xa hxa wa hwa wb hwb sem s >>= K) = K ⟨⟩ := by
  unfold prologue
  rw [dif_neg hs]
  simp only [pure_bind]

end Prog

end Cert.Proof
-- ==== Proof.Epilogue.lean ====
/-
  The projections: what the last part of the body stores in the three result blocks, as functions of the double buffer
  and the decoded weights, and the proof that it stores exactly that.
-/
module

public import proofs.«01_k».proof.Proof.Owns
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A slot of the double buffer as a block. -/
def slotOf (A : S2x256x6144.Idx → Elt F .bf16) (b : BitVec 32) (hb : b.toNat + 1 ≤ 2) : FVec F S256x6144 .bf16 :=
  shapeCast S256x6144 ((fun j => A ((wholeSlotRect b hb).emb j)) : FVec F S1x256x6144 .bf16) cast_slot'

/-- The three results of grid point `s` from the double buffer, the weights and the norms' weights. -/
def qBlock (cq : F .f32) (A : S2x256x6144.Idx → Elt F .bf16) (W : S2112x6144.Idx → Elt F .bf16) (G : S1x1536.Idx → Elt F .f32)
    (s : Nat) : S256x1536.Idx → Elt F .bf16 :=
  qOut cq (slotOf A (prevSlot s) (prevSlot_lt s)) (fun j => W (wqRect.emb j)) G
def kvBlock (A : S2x256x6144.Idx → Elt F .bf16) (W : S2112x6144.Idx → Elt F .bf16) (G : S1x512.Idx → Elt F .f32)
    (s : Nat) : S256x512.Idx → Elt F .bf16 :=
  kvOut (slotOf A (prevSlot s) (prevSlot_lt s)) (fun j => W (wkvRect.emb j)) G
def kpeBlock (A : S2x256x6144.Idx → Elt F .bf16) (W : S2112x6144.Idx → Elt F .bf16) (s : Nat) : S256x64.Idx → Elt F .bf16 :=
  kpeOut (slotOf A (prevSlot s) (prevSlot_lt s)) (fun j => W (wkpeRect.emb j))

/-- The rectangle of all of a two-axis array places every index at itself. -/
theorem emb_all (d : Fin 2 → Nat) (h) (j : (Rect.unit (s := ⟨2, d⟩) ![0, 0] d h).shape.Idx) :
    (Rect.unit (s := ⟨2, d⟩) ![0, 0] d h).emb j = j := by
  funext a
  refine Fin.ext ?_
  fin_cases a
  · show 0 + 1 * (j 0).val = (j 0).val; omega
  · show 0 + 1 * (j 1).val = (j 1).val; omega

theorem overlay_all {α : Type} (d : Fin 2 → Nat) (h) (X w : (⟨2, d⟩ : Shape).Idx → α) :
    (Rect.unit (s := ⟨2, d⟩) ![0, 0] d h).overlay X w = w := by
  funext j
  have e := emb_all d h j
  have o := Rect.overlay_emb (Rect.unit (s := ⟨2, d⟩) ![0, 0] d h) X w j
  rw [e] at o
  exact o

section Prog

variable {nD : Nat} {τ : Topo} {sig : RefSig} {Λ : Labels}
variable (defs : Defs nD τ sig (Elt F) Λ) (𝒱 : Variants) (c : Dev nD) (bd : Option 𝒱.V)

variable (cq : F .f32)
  (gq : Memref sig .tc .vmem S1x1536 .f32) (gkv : Memref sig .tc .vmem S1x512 .f32)
  (q : Memref sig .tc .vmem S256x1536 .bf16) (hq : q.IsWhole)
  (kv : Memref sig .tc .vmem S256x512 .bf16) (hkv : kv.IsWhole)
  (kpe : Memref sig .tc .vmem S256x64 .bf16) (hkpe : kpe.IsWhole)
  (xa : Memref sig .tc .vmem S2x256x6144 .bf16) (wa : Memref sig .tc .vmem S2112x6144 .bf16)
variable {Q : PUnit → Asrt F nD τ sig}

theorem run_epilogue (q₁ q₂ : PosShare TreeShare) (A : S2x256x6144.Idx → Elt F .bf16) (W : S2112x6144.Idx → Elt F .bf16)
    (G : S1x1536.Idx → Elt F .f32) (G' : S1x512.Idx → Elt F .f32) (Q₀ : S256x1536.Idx → Elt F .bf16)
    (K₀ : S256x512.Idx → Elt F .bf16) (P₀ : S256x64.Idx → Elt F .bf16) (s : Nat) :
    iprop(owns (c : Thread nD τ) xa fullShare A ∗ owns (c : Thread nD τ) wa fullShare W
        ∗ owns (c : Thread nD τ) gq q₁ G ∗ owns (c : Thread nD τ) gkv q₂ G'
        ∗ owns (c : Thread nD τ) q fullShare Q₀ ∗ owns (c : Thread nD τ) kv fullShare K₀ ∗ owns (c : Thread nD τ) kpe fullShare P₀)
      ⊢ iprop((iprop(owns (c : Thread nD τ) xa fullShare A ∗ owns (c : Thread nD τ) wa fullShare W
            ∗ owns (c : Thread nD τ) gq q₁ G ∗ owns (c : Thread nD τ) gkv q₂ G'
            ∗ owns (c : Thread nD τ) q fullShare (qBlock cq A W G s) ∗ owns (c : Thread nD τ) kv fullShare (kvBlock A W G' s)
            ∗ owns (c : Thread nD τ) kpe fullShare (kpeBlock A W s)) -∗ Q ⟨⟩)
        -∗ run defs 𝒱 c bd (epilogue cq gq gkv q hq kv hkv kpe hkpe xa wa s) Q) := by
  have eG : (fun j => G (gqRect.emb j)) = G := funext fun j => congrArg G (emb_all _ inb_gq j)
  have eG' : (fun j => G' (gkvRect.emb j)) = G' := funext fun j => congrArg G' (emb_all _ inb_gkv j)
  have eQ : qRect.overlay Q₀ (qBlock cq A W G s) = qBlock cq A W G s := overlay_all ![256, 1536] inb_q _ _
  have eK : kvRect.overlay K₀ (kvBlock A W G' s) = kvBlock A W G' s := overlay_all ![256, 512] inb_kv _ _
  have eP : kpeRect.overlay P₀ (kpeBlock A W s) = kpeBlock A W s := overlay_all ![256, 64] inb_kpe _ _
  unfold epilogue
  iintro ⟨HA, HW, HG, HG', HQ, HK, HP⟩ Hk
  iapply (run_load defs 𝒱 c bd xa (wholeSlotRect (prevSlot s) (prevSlot_lt s)) fullShare A _) $$ HA
  iintro HA
  iapply (run_load defs 𝒱 c bd wa wqRect fullShare W _) $$ HW
  iintro HW
  iapply (run_load defs 𝒱 c bd gq gqRect q₁ G _) $$ HG
  iintro HG
  rw [eG]
  iapply (run_load defs 𝒱 c bd q qRect fullShare Q₀ _) $$ HQ
  iintro HQ
  iapply (run_store defs 𝒱 c bd q qRect _ Q₀ _) $$ HQ
  iintro HQ
  iapply (run_load defs 𝒱 c bd wa wkvRect fullShare W _) $$ HW
  iintro HW
  iapply (run_load defs 𝒱 c bd gkv gkvRect q₂ G' _) $$ HG'
  iintro HG'
  rw [eG']
  iapply (run_load defs 𝒱 c bd kv kvRect fullShare K₀ _) $$ HK
  iintro HK
  iapply (run_store defs 𝒱 c bd kv kvRect _ K₀ _) $$ HK
  iintro HK
  iapply (run_load defs 𝒱 c bd wa wkpeRect fullShare W _) $$ HW
  iintro HW
  iapply (run_load defs 𝒱 c bd kpe kpeRect fullShare P₀ _) $$ HP
  iintro HP
  iapply (run_store defs 𝒱 c bd kpe kpeRect _ P₀ _) $$ HP
  iintro HP
  iapply (run_pure defs 𝒱 c bd)
  iapply Hk
  isplitl [HA]; · iexact HA
  isplitl [HW]; · iexact HW
  isplitl [HG]; · iexact HG
  isplitl [HG']; · iexact HG'
  isplitl [HQ]
  · rw [← eQ]; iexact HQ
  isplitl [HK]
  · rw [← eK]; iexact HK
  rw [← eP]; iexact HP

end Prog

end Cert.Proof
-- ==== Proof.Step.lean ====
/-
  One grid point of the kernel: the prologue at the first point, the quantiser on the current block, the projections of
  the block before. The double buffer is described by one slot, the one the next grid point reads.
-/
module

public import proofs.«01_k».proof.Proof.Fetch
public import proofs.«01_k».proof.Proof.Epilogue

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A block quantised and scaled back, and the block of zeros. -/
def scaledBlock (X : S256x6144.Idx → Elt F .bf16) : FVec F S256x6144 .bf16 := fun j => scaledOf X (j 0).val (j 1).val
def zeroBlock : FVec F S256x6144 .bf16 := broadcast S256x6144 (Scalar.ofBits .bf16 0x0000#16 : F .bf16)

/-- The three results of a block `P`. -/
def qRes (cq : F .f32) (P : FVec F S256x6144 .bf16) (W : S2112x6144.Idx → Elt F .bf16) (G : S1x1536.Idx → Elt F .f32) :
    S256x1536.Idx → Elt F .bf16 := qOut cq P (fun j => W (wqRect.emb j)) G
def kvRes (P : FVec F S256x6144 .bf16) (W : S2112x6144.Idx → Elt F .bf16) (G : S1x512.Idx → Elt F .f32) :
    S256x512.Idx → Elt F .bf16 := kvOut P (fun j => W (wkvRect.emb j)) G
def kpeRes (P : FVec F S256x6144 .bf16) (W : S2112x6144.Idx → Elt F .bf16) : S256x64.Idx → Elt F .bf16 :=
  kpeOut P (fun j => W (wkpeRect.emb j))

/-! ## The slots -/

theorem slot_toNat_cur (s : Nat) : (prevSlot s).toNat ≠ (curSlot s).toNat := by
  unfold prevSlot
  rcases curSlot_eq s with h | h <;> rw [h] <;> decide

/-- An index of a slot, at its only position along the first axis. -/
def inBlock (j : S256x6144.Idx) : S1x256x6144.Idx := Fin.cons ⟨0, Nat.one_pos⟩ j

theorem slotOf_apply (A : S2x256x6144.Idx → Elt F .bf16) (b : BitVec 32) (hb) (j : S256x6144.Idx) :
    slotOf A b hb j = A ((wholeSlotRect b hb).emb (inBlock j)) :=
  shapeCast_dropUnit_apply ![256, 6144] _ cast_slot' j

theorem emb_slot (b : BitVec 32) (hb) (j : S256x6144.Idx) : (((wholeSlotRect b hb).emb (inBlock j)) 0).val = b.toNat := by
  show b.toNat + 1 * 0 = b.toNat; omega
theorem emb_slot₁ (b : BitVec 32) (hb) (j : S256x6144.Idx) : (((wholeSlotRect b hb).emb (inBlock j)) 1).val = (j 0).val := by
  show 0 + 1 * (j 0).val = (j 0).val; omega
theorem emb_slot₂ (b : BitVec 32) (hb) (j : S256x6144.Idx) : (((wholeSlotRect b hb).emb (inBlock j)) 2).val = (j 1).val := by
  show 0 + 1 * (j 1).val = (j 1).val; omega

theorem slotOf_cur (X : S256x6144.Idx → Elt F .bf16) (A : S2x256x6144.Idx → Elt F .bf16) (s : Nat) (b : BitVec 32) (hb)
    (h : b = curSlot s) : slotOf (mix (inSlot s) (xaOf X) A) b hb = scaledBlock X := by
  subst h
  funext j
  rw [slotOf_apply]
  refine (if_pos (emb_slot _ hb j)).trans ?_
  unfold xaOf scaledBlock
  rw [emb_slot₁, emb_slot₂]

theorem slotOf_prev (X : S256x6144.Idx → Elt F .bf16) (A : S2x256x6144.Idx → Elt F .bf16) (s : Nat) :
    slotOf (mix (inSlot s) (xaOf X) A) (prevSlot s) (prevSlot_lt s) = slotOf A (prevSlot s) (prevSlot_lt s) := by
  funext j
  rw [slotOf_apply, slotOf_apply]
  exact if_neg fun h => slot_toNat_cur s ((emb_slot (prevSlot s) (prevSlot_lt s) j).symm.trans h)

theorem slotOf_cleared (A : S2x256x6144.Idx → Elt F .bf16) (b : BitVec 32) (hb) (h : b = 1#32) :
    slotOf (cleared A) b hb = zeroBlock := by
  subst h
  funext j
  rw [slotOf_apply]
  unfold cleared
  rw [Rect.overlay_emb]
  exact (shapeCast_addUnit_apply ![256, 6144] zeroBlock cast_slot (inBlock j)).trans rfl

section Prog

variable {nD : Nat} {τ : Topo} {sig : RefSig} {Λ : Labels}
variable (defs : Defs nD τ sig (Elt F) Λ) (𝒱 : Variants) (c : Dev nD) (bd : Option 𝒱.V)
variable {Q : PUnit → Asrt F nD τ sig}
variable (cq : F .f32)
  (x : Memref sig .tc .vmem S256x6144 .bf16)
  (w : Memref sig .tc .hbm S2112x6144 .fp8e4m3) (hw : w.IsWhole)
  (ws : Memref sig .tc .vmem S2112x192 .i8)
  (gq : Memref sig .tc .vmem S1x1536 .f32) (gkv : Memref sig .tc .vmem S1x512 .f32)
  (q : Memref sig .tc .vmem S256x1536 .bf16) (hq : q.IsWhole)
  (kv : Memref sig .tc .vmem S256x512 .bf16) (hkv : kv.IsWhole)
  (kpe : Memref sig .tc .vmem S256x64 .bf16) (hkpe : kpe.IsWhole)
  (codes : Memref sig .tc .vmem S256x6144 .fp8e4m3) (hcodes : codes.IsWhole)
  (scales : Memref sig .tc .vmem S256x192 .i8) (hscales : scales.IsWhole)
  (xa : Memref sig .tc .vmem S2x256x6144 .bf16) (hxa : xa.IsWhole)
  (wa : Memref sig .tc .vmem S2112x6144 .bf16) (hwa : wa.IsWhole)
  (wb : Memref sig .tc .vmem S2x192x6144 .fp8e4m3) (hwb : wb.IsWhole)
  (sem : DmaSems sig S2)

/-- The body at grid point `s`. -/
def step (s : Nat) : Prog (TpuEff nD τ sig (Elt F) Λ .tc) PUnit :=
  Prog.bind (prologue w hw ws xa hxa wa hwa wb hwb sem s) fun _ =>
    quantRows x codes hcodes scales hscales xa hxa s 8 0 (epilogue cq gq gkv q hq kv hkv kpe hkpe xa wa s)

variable (fw : Buf (Elt F) (w.view.loc (c : Thread nD τ)))
  (X : S256x6144.Idx → Elt F .bf16) (S : S2112x192.Idx → Elt F .i8) (G : S1x1536.Idx → Elt F .f32) (G' : S1x512.Idx → Elt F .f32)

/-- What the body reads and leaves as it is. -/
def inputs : Asrt F nD τ sig :=
  iprop(owns (c : Thread nD τ) x fullShare X ∗ owns (c : Thread nD τ) ws fullShare S
    ∗ owns (c : Thread nD τ) gq fullShare G ∗ owns (c : Thread nD τ) gkv fullShare G')

/-- The five result blocks at anything, and what the body leaves there when `P` is the block before. -/
def blank : Asrt F nD τ sig :=
  iprop((∃ d, owns (c : Thread nD τ) q fullShare d) ∗ (∃ d, owns (c : Thread nD τ) kv fullShare d)
    ∗ (∃ d, owns (c : Thread nD τ) kpe fullShare d) ∗ (∃ d, owns (c : Thread nD τ) codes fullShare d)
    ∗ (∃ d, owns (c : Thread nD τ) scales fullShare d))
def outputs (P : FVec F S256x6144 .bf16) (W : S2112x6144.Idx → Elt F .bf16) : Asrt F nD τ sig :=
  iprop(owns (c : Thread nD τ) q fullShare (qRes cq P W G) ∗ owns (c : Thread nD τ) kv fullShare (kvRes P W G')
    ∗ owns (c : Thread nD τ) kpe fullShare (kpeRes P W) ∗ owns (c : Thread nD τ) codes fullShare (codesOf X)
    ∗ owns (c : Thread nD τ) scales fullShare (scalesOf X))

/-- From the quantiser on. -/
theorem run_main_part (s : Nat) (A : S2x256x6144.Idx → Elt F .bf16) (W : S2112x6144.Idx → Elt F .bf16)
    (P : FVec F S256x6144 .bf16) (hP : slotOf A (prevSlot s) (prevSlot_lt s) = P) :
    iprop(inputs c x ws gq gkv X S G G' ∗ blank c q kv kpe codes scales ∗ owns (c : Thread nD τ) wa fullShare W
        ∗ owns (c : Thread nD τ) xa fullShare A)
      ⊢ iprop((iprop(inputs c x ws gq gkv X S G G' ∗ outputs c cq q kv kpe codes scales X G G' P W
            ∗ owns (c : Thread nD τ) wa fullShare W
            ∗ owns (c : Thread nD τ) xa fullShare (mix (inSlot s) (xaOf X) A)) -∗ Q ⟨⟩)
        -∗ run defs 𝒱 c bd (quantRows x codes hcodes scales hscales xa hxa s 8 0
          (epilogue cq gq gkv q hq kv hkv kpe hkpe xa wa s)) Q) := by
  have e1 : qBlock cq (mix (inSlot s) (xaOf X) A) W G s = qRes cq P W G := by
    unfold qBlock qRes; rw [slotOf_prev, hP]
  have e2 : kvBlock (mix (inSlot s) (xaOf X) A) W G' s = kvRes P W G' := by
    unfold kvBlock kvRes; rw [slotOf_prev, hP]
  have e3 : kpeBlock (mix (inSlot s) (xaOf X) A) W s = kpeRes P W := by
    unfold kpeBlock kpeRes; rw [slotOf_prev, hP]
  unfold inputs blank outputs
  iintro ⟨⟨HX, HS, HG, HG'⟩, ⟨⟨%d1, Hq⟩, ⟨%d2, Hkv⟩, ⟨%d3, Hkpe⟩, ⟨%d4, Hc⟩, ⟨%d5, Hs⟩⟩, HW, HA⟩ Hk
  iapply (run_quant defs 𝒱 c bd x codes hcodes scales hscales xa hxa fullShare X d4 d5 A s _) $$ [HX Hc Hs HA]
  · isplitl [HX]; · iexact HX
    isplitl [Hc]; · iexact Hc
    isplitl [Hs]; · iexact Hs
    iexact HA
  iintro ⟨HX, Hc, Hs, HA⟩
  iapply (run_epilogue defs 𝒱 c bd cq gq gkv q hq kv hkv kpe hkpe xa wa fullShare fullShare
    (mix (inSlot s) (xaOf X) A) W G G' d1 d2 d3 s) $$ [HA HW HG HG' Hq Hkv Hkpe]
  · isplitl [HA]; · iexact HA
    isplitl [HW]; · iexact HW
    isplitl [HG]; · iexact HG
    isplitl [HG']; · iexact HG'
    isplitl [Hq]; · iexact Hq
    isplitl [Hkv]; · iexact Hkv
    iexact Hkpe
  rw [e1, e2, e3]
  iintro ⟨HA, HW, HG, HG', Hq, Hkv, Hkpe⟩
  iapply Hk
  isplitl [HX HS HG HG']
  · isplitl [HX]; · iexact HX
    isplitl [HS]; · iexact HS
    isplitl [HG]; · iexact HG
    iexact HG'
  isplitl [Hq Hkv Hkpe Hc Hs]
  · isplitl [Hq]; · iexact Hq
    isplitl [Hkv]; · iexact Hkv
    isplitl [Hkpe]; · iexact Hkpe
    isplitl [Hc]; · iexact Hc
    iexact Hs
  isplitl [HW]; · iexact HW
  iexact HA

/-- The kernel's own state after a grid point that quantised `X` in slot `b`: the weights decoded, the slot filled. -/
def kept (b : BitVec 32) (hb : b.toNat + 1 ≤ 2) (P : FVec F S256x6144 .bf16) : Asrt F nD τ sig :=
  iprop(staging c w wb sem fw ∗ owns (c : Thread nD τ) wa fullShare (waOf (w.view.read (Elt F) fw) S)
    ∗ (∃ A, ⌜slotOf A b hb = P⌝ ∗ owns (c : Thread nD τ) xa fullShare A))

/-- The first grid point. -/
theorem run_first (s : Nat) (hs : first s = 1#1) (h1 : prevSlot s = 1#32) (b : BitVec 32) (hb) (eb : b = curSlot s) :
    iprop(inputs c x ws gq gkv X S G G' ∗ blank c q kv kpe codes scales ∗ staging c w wb sem fw
        ∗ (∃ d, owns (c : Thread nD τ) wa fullShare d) ∗ (∃ d, owns (c : Thread nD τ) xa fullShare d)
        ∗ (∃ V, owes (c : Thread nD τ) 0 V))
      ⊢ iprop((iprop(inputs c x ws gq gkv X S G G'
            ∗ outputs c cq q kv kpe codes scales X G G' zeroBlock (waOf (w.view.read (Elt F) fw) S)
            ∗ kept c w xa wa wb sem fw S b hb (scaledBlock X) ∗ (∃ V, owes (c : Thread nD τ) 0 V)) -∗ Q ⟨⟩)
        -∗ run defs 𝒱 c bd (step cq x w hw ws gq gkv q hq kv hkv kpe hkpe codes hcodes scales hscales xa hxa wa hwa wb hwb sem s) Q) := by
  unfold step kept
  iintro ⟨Hin, Hout, Hst, ⟨%D, HD⟩, ⟨%A, HA⟩, HO⟩ Hk
  unfold inputs
  icases Hin with ⟨HX, HS, HG, HG'⟩
  iapply (run_prologue_first defs 𝒱 c bd w hw ws xa hxa wa hwa wb hwb sem fw fullShare S D A s hs _) $$ [Hst HS HD HA HO]
  · isplitl [Hst]; · iexact Hst
    isplitl [HS]; · iexact HS
    isplitl [HD]; · iexact HD
    isplitl [HA]; · iexact HA
    iexact HO
  iintro ⟨Hst, HS, HD, HA, HO⟩
  iapply (run_main_part defs 𝒱 c bd cq x ws gq gkv q hq kv hkv kpe hkpe codes hcodes scales hscales xa hxa wa X S G G' s
    (cleared A) (waOf (w.view.read (Elt F) fw) S) zeroBlock (slotOf_cleared A _ _ h1)) $$ [HX HS HG HG' Hout HD HA]
  · isplitl [HX HS HG HG']
    · unfold inputs
      isplitl [HX]; · iexact HX
      isplitl [HS]; · iexact HS
      isplitl [HG]; · iexact HG
      iexact HG'
    isplitl [Hout]; · iexact Hout
    isplitl [HD]; · iexact HD
    iexact HA
  iintro ⟨Hin, Hout, HD, HA⟩
  iapply Hk
  isplitl [Hin]
  · unfold inputs; iexact Hin
  isplitl [Hout]; · iexact Hout
  isplitr [HO]; swap; · iexact HO
  isplitl [Hst]; · iexact Hst
  isplitl [HD]; · iexact HD
  iexists _; isplitr; swap; · iexact HA
  ipureintro
  exact slotOf_cur X _ s b hb eb

/-- A later grid point. -/
theorem run_later (s : Nat) (hs : ¬ first s = 1#1) (P : FVec F S256x6144 .bf16) (b : BitVec 32) (hb) (eb : b = curSlot s)
    (b' : BitVec 32) (hb') (eb' : b' = prevSlot s) :
    iprop(inputs c x ws gq gkv X S G G' ∗ blank c q kv kpe codes scales ∗ kept c w xa wa wb sem fw S b' hb' P)
      ⊢ iprop((iprop(inputs c x ws gq gkv X S G G'
            ∗ outputs c cq q kv kpe codes scales X G G' P (waOf (w.view.read (Elt F) fw) S)
            ∗ kept c w xa wa wb sem fw S b hb (scaledBlock X)) -∗ Q ⟨⟩)
        -∗ run defs 𝒱 c bd (step cq x w hw ws gq gkv q hq kv hkv kpe hkpe codes hcodes scales hscales xa hxa wa hwa wb hwb sem s) Q) := by
  subst eb'
  have e := prologue_later (nD := nD) (τ := τ) (Λ := Λ) w hw ws xa hxa wa hwa wb hwb sem s hs (fun _ =>
    quantRows x codes hcodes scales hscales xa hxa s 8 0 (epilogue cq gq gkv q hq kv hkv kpe hkpe xa wa s))
  unfold step
  change _ ⊢ iprop(_ -∗ run defs 𝒱 c bd (_ >>= _) Q)
  rw [e]
  unfold kept
  iintro ⟨Hin, Hout, Hst, HD, ⟨%A, %hA, HA⟩⟩ Hk
  iapply (run_main_part defs 𝒱 c bd cq x ws gq gkv q hq kv hkv kpe hkpe codes hcodes scales hscales xa hxa wa X S G G' s
    A (waOf (w.view.read (Elt F) fw) S) P hA) $$ [Hin Hout HD HA]
  · isplitl [Hin]; · iexact Hin
    isplitl [Hout]; · iexact Hout
    isplitl [HD]; · iexact HD
    iexact HA
  iintro ⟨Hin, Hout, HD, HA⟩
  iapply Hk
  isplitl [Hin]; · iexact Hin
  isplitl [Hout]; · iexact Hout
  isplitl [Hst]; · iexact Hst
  isplitl [HD]; · iexact HD
  iexists _; isplitr; swap; · iexact HA
  ipureintro
  exact slotOf_cur X _ s b hb eb

end Prog

end Cert.Proof
-- ==== Proof.KernelLaunch.lean ====
/-
  The kernel's launch: the printed body is `step`, so one grid point is `run_first` or `run_later`; between two points the
  double buffer holds the block just quantised, the one the next point projects. From it, the run of the whole program:
  every result window's contents after every point, the arguments as they were, every semaphore at zero.
-/
module

public import proofs.«01_k».proof.Proof.Step
public import proofs.«01_k».proof.Proof.Gen.Kernel.Frame
public import Idealize.ShloMosaic.Lib.Pipeline.Frame
public import Idealize.ShloMosaic.Lib.Tactic

@[expose] public section

noncomputable section

namespace Cert.Kernel.Launch

open Cert.Kernel Cert.Kernel.Gen Cert.Proof
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## The printed body -/

section Body

variable (i : grid0.Coords) (arg1 : Memref sig .tc .vmem S256x6144 .bf16) (harg1 : arg1.IsWhole) (arg2 : Memref sig .tc .hbm S2112x6144 .fp8e4m3) (harg2 : arg2.IsWhole) (arg3 : Memref sig .tc .vmem S2112x192 .i8) (harg3 : arg3.IsWhole) (arg4 : Memref sig .tc .vmem S1x1536 .f32) (harg4 : arg4.IsWhole) (arg5 : Memref sig .tc .vmem S1x512 .f32) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x6144 .fp8e4m3) (harg9 : arg9.IsWhole) (arg10 : Memref sig .tc .vmem S256x192 .i8) (harg10 : arg10.IsWhole) (arg11 : Memref sig .tc .vmem S2x256x6144 .bf16) (harg11 : arg11.IsWhole) (arg12 : Memref sig .tc .vmem S2112x6144 .bf16) (harg12 : arg12.IsWhole) (arg13 : Memref sig .tc .vmem S2x192x6144 .fp8e4m3) (harg13 : arg13.IsWhole) (arg14 : DmaSems sig S2)

theorem prologue_eq : k0_part31 (F := F) i arg1 harg1 arg2 harg2 arg3 harg3 arg4 harg4 arg5 harg5 arg6 harg6 arg7 harg7 arg8 harg8 arg9 harg9 arg10 harg10 arg11 harg11 arg12 harg12 arg13 harg13 arg14
    = prologue arg2 harg2 arg3 arg11 harg11 arg12 harg12 arg13 harg13 arg14 (i 0).val := by
  sl_kernel_rfl

/-- The reciprocal of the length of a row of the first result. -/
def invRank : F .f32 := Scalar.ofBits .f32 0x3A2AAAAB#32

theorem body_eq : cc0_mla_wa_mxfp8 (F := F) i arg1 harg1 arg2 harg2 arg3 harg3 arg4 harg4 arg5 harg5 arg6 harg6 arg7 harg7 arg8 harg8 arg9 harg9 arg10 harg10 arg11 harg11 arg12 harg12 arg13 harg13 arg14
    = step invRank arg1 arg2 harg2 arg3 arg4 arg5 arg6 harg6 arg7 harg7 arg8 harg8 arg9 harg9 arg10 harg10 arg11 harg11
        arg12 harg12 arg13 harg13 arg14 (i 0).val := by
  unfold step invRank
  rw [← prologue_eq i arg1 harg1 arg2 harg2 arg3 harg3 arg4 harg4 arg5 harg5 arg6 harg6 arg7 harg7 arg8 harg8 arg9 harg9 arg10 harg10 arg11 harg11 arg12 harg12 arg13 harg13 arg14]
  unfold cc0_mla_wa_mxfp8 k0_part579 k0_part30
  refine (bind_assoc _ _ _).trans ?_
  refine (pure_bind _ _).trans ?_
  refine (bind_assoc _ _ _).trans ?_
  refine congrArg (Prog.bind (k0_part31 i arg1 harg1 arg2 harg2 arg3 harg3 arg4 harg4 arg5 harg5 arg6 harg6 arg7 harg7 arg8 harg8 arg9 harg9 arg10 harg10 arg11 harg11 arg12 harg12 arg13 harg13 arg14)) (funext fun _ => ?_)
  sl_kernel_rfl

end Body

variable [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The kernel's own buffers and semaphores -/

abbrev xaM : Memref sig .tc .vmem S2x256x6144 .bf16 := Memref.whole cc0_scratch0
abbrev waM : Memref sig .tc .vmem S2112x6144 .bf16 := Memref.whole cc0_scratch1
abbrev wbM : Memref sig .tc .vmem S2x192x6144 .fp8e4m3 := Memref.whole cc0_scratch2
abbrev wM : Memref sig .tc .hbm S2112x6144 .fp8e4m3 := Memref.whole main_arg1

abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The weight array, left in HBM. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg1) ↦{fullShare} V m c main_arg1) := by
  rw [BI.bigSep_eq_bigSepL_of_eq [main_arg1] (by decide) (by decide)]; rfl

/-- Between points nothing of the kernel's own is named: its buffers at anything, its semaphores at zero. -/
theorem PhiD0_eq (c : Dev nD) :
    (Pipeline.ΦD osem0 spec0 H0 (V m) c : sProp 𝕄)
      = iprop(iprop((∃ d, owns (c : Thread nD τ) xaM fullShare d) ∗ (∃ d, owns (c : Thread nD τ) waM fullShare d)
            ∗ (∃ f, ((c : Thread nD τ).loc cc0_scratch2) ↦{fullShare} f)) ∗ (∃ r, prngReg c r)
          ∗ iprop(semVal ((c : Thread nD τ), SemLoc.dma 15) 0 ∗ semVal ((c : Thread nD τ), SemLoc.dma 16) 0)
          ∗ iprop(((c : Thread nD τ).loc main_arg1) ↦{fullShare} V m c main_arg1)) := by
  rw [Pipeline.ΦD_eq, scopedRest0_eq, ownSems00_eq, hbmPts0_eq]; simp only [xaM, waM, owns_whole]; try rfl

theorem staging_eq (c : Dev nD) :
    (staging c wM wbM cc0_scratch3 (V m c main_arg1) : sProp 𝕄)
      = iprop((∃ f, ((c : Thread nD τ).loc cc0_scratch2) ↦{fullShare} f)
          ∗ (((c : Thread nD τ).loc main_arg1) ↦{fullShare} V m c main_arg1)
          ∗ semVal ((c : Thread nD τ), SemLoc.dma 15) 0 ∗ semVal ((c : Thread nD τ), SemLoc.dma 16) 0) := by
  unfold staging
  simp only [wM, wbM, Memref.view_whole, View.set_whole]
  rfl

/-! ## What the run leaves -/

/-- The scales of the weights, the gains, as the body reads them. -/
def wsIn (c : Dev nD) : S2112x192.Idx → Elt F .i8 := iblk m c 1 ⟨0, by decide⟩
def gqIn (c : Dev nD) : S1x1536.Idx → Elt F .f32 := iblk m c 2 ⟨0, by decide⟩
def gkvIn (c : Dev nD) : S1x512.Idx → Elt F .f32 := iblk m c 3 ⟨0, by decide⟩
/-- The weights decoded. -/
def wIn (c : Dev nD) : S2112x6144.Idx → Elt F .bf16 := waOf (wM.view.read (Elt F) (V m c main_arg1)) (wsIn m c)

/-- The block point `n` projects: the one the point before quantised; zeros at the first point. -/
def held (c : Dev nD) : Nat → FVec F S256x6144 .bf16
  | 0 => zeroBlock
  | n + 1 => if h : n < cfg0.N then scaledBlock (iblk m c 0 ⟨n, h⟩) else zeroBlock

theorem ws_const (c : Dev nD) (t : Fin cfg0.N) : iblk m c 1 t = wsIn m c := rfl
theorem gq_const (c : Dev nD) (t : Fin cfg0.N) : iblk m c 2 t = gqIn m c := rfl
theorem gkv_const (c : Dev nD) (t : Fin cfg0.N) : iblk m c 3 t = gkvIn m c := rfl

/-- What a window's buffer holds after point `t`. -/
def after (c : Dev nD) (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => qRes invRank (held m c t.val) (wIn m c) (gqIn m c)
  | 5 => kvRes (held m c t.val) (wIn m c) (gkvIn m c)
  | 6 => kpeRes (held m c t.val) (wIn m c)
  | 7 => codesOf (iblk m c 0 t)
  | 8 => scalesOf (iblk m c 0 t)

/-- The kernel's own state before point `n`. -/
def state (c : Dev nD) (n : Nat) : sProp 𝕄 :=
  if n = 0 then Pipeline.ΦD osem0 spec0 H0 (V m) c
  else iprop(kept c wM xaM waM wbM cc0_scratch3 (V m c main_arg1) (wsIn m c) (prevSlot n) (prevSlot_lt n) (held m c n)
    ∗ (∃ r, prngReg c r))

def dats (_ : Fin 1) (c : Dev nD) : Dat τ (Elt F) Unit ℕ (Pipeline.UD sig nD τ) ℕ cfg0 c where
  A w := V m c (Pipeline.arrRef spec0 w)
  after w t := after m c w t
  Φ t := state m c t.val
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  have ha : ∀ t, (dats m 0 c).after 0 t = iblk m c 0 t := fun _ => rfl
  ((dats m 0 c).before_in_eq_fetched 0 rfl (fun _ => rfl) (fun _ _ _ => rfl)
    (fun t => by rw [ha]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  have ha : ∀ t, (dats m 0 c).after 1 t = iblk m c 1 t := fun _ => rfl
  ((dats m 0 c).before_in_eq_fetched 1 rfl (fun _ => rfl) (fun _ _ _ => rfl)
    (fun t => by rw [ha]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  have ha : ∀ t, (dats m 0 c).after 2 t = iblk m c 2 t := fun _ => rfl
  ((dats m 0 c).before_in_eq_fetched 2 rfl (fun _ => rfl) (fun _ _ _ => rfl)
    (fun t => by rw [ha]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  have ha : ∀ t, (dats m 0 c).after 3 t = iblk m c 3 t := fun _ => rfl
  ((dats m 0 c).before_in_eq_fetched 3 rfl (fun _ => rfl) (fun _ _ _ => rfl)
    (fun t => by rw [ha]; unfold Dat.blockOf iblk; rw [A_eq]; try rfl) t d).trans
    (by unfold Dat.fetched Dat.blockOf iblk; rw [A_eq]; try rfl)
theorem after0_eq (c : Dev nD) (t : Fin cfg0.N) : (dats m 0 c).after 0 t = iblk m c 0 t := rfl
theorem after1_eq (c : Dev nD) (t : Fin cfg0.N) : (dats m 0 c).after 1 t = wsIn m c := rfl
theorem after2_eq (c : Dev nD) (t : Fin cfg0.N) : (dats m 0 c).after 2 t = gqIn m c := rfl
theorem after3_eq (c : Dev nD) (t : Fin cfg0.N) : (dats m 0 c).after 3 t = gkvIn m c := rfl
theorem after4_eq (c : Dev nD) (t : Fin cfg0.N) : (dats m 0 c).after 4 t = qRes invRank (held m c t.val) (wIn m c) (gqIn m c) := rfl
theorem after5_eq (c : Dev nD) (t : Fin cfg0.N) : (dats m 0 c).after 5 t = kvRes (held m c t.val) (wIn m c) (gkvIn m c) := rfl
theorem after6_eq (c : Dev nD) (t : Fin cfg0.N) : (dats m 0 c).after 6 t = kpeRes (held m c t.val) (wIn m c) := rfl
theorem after7_eq (c : Dev nD) (t : Fin cfg0.N) : (dats m 0 c).after 7 t = codesOf (iblk m c 0 t) := rfl
theorem after8_eq (c : Dev nD) (t : Fin cfg0.N) : (dats m 0 c).after 8 t = scalesOf (iblk m c 0 t) := rfl

/-! ## The body -/

theorem coords_val : ∀ t : Fin cfg0.N, ((grid0.coords t) 0).val = t.val :=
  (by decide : ∀ t : Fin grid0.N, ((grid0.coords t) 0).val = t.val)
theorem first_zero : first 0 = 1#1 := by decide
theorem not_first : ∀ n : Fin 61, n.val ≠ 0 → ¬ first n.val = 1#1 := by decide
theorem prev_succ : ∀ n : Fin 61, prevSlot (n.val + 1) = curSlot n.val := by decide

theorem held_succ (c : Dev nD) (t : Fin cfg0.N) : held m c (t.val + 1) = scaledBlock (iblk m c 0 t) := dif_pos t.isLt

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body at point `t`, as `step`. -/
theorem bodyAt_eq (t : Fin cfg0.N) : bodyAt0 (F := F) t
    = step invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
        t.val := by
  rw [← coords_val t]
  exact body_eq (grid0.coords t) (win0_0.stage (cfg0.slots t 0)) (hstage0_0 ((cfg0.slots t 0).cast nbuf0_0)) wM (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    xaM (Memref.isWhole_whole _) waM (Memref.isWhole_whole _) wbM (Memref.isWhole_whole _) cc0_scratch3

/-- The nine windows the body reads and writes, in the order of `inputs`, `blank` and `outputs`. -/
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  rw [show (dats m 0 c).Φ t.castSucc = state m c t.val from rfl, show (dats m 0 c).Φ t.succ = state m c (t.val + 1) from rfl,
    show (dats m 0 c).owesAt () t.succ = (dats m 0 c).owesAt () t.castSucc from rfl]
  have e : state m c (t.val + 1) = iprop(kept c wM xaM waM wbM cc0_scratch3 (V m c main_arg1) (wsIn m c)
      (prevSlot (t.val + 1)) (prevSlot_lt _) (scaledBlock (iblk m c 0 t)) ∗ (∃ r, prngReg c r)) := by
    unfold state; rw [if_neg (Nat.succ_ne_zero _), held_succ]
  rw [e]
  simp only [before0, before1, before2, before3]
  by_cases h0 : t.val = 0
  · rw [show state m c t.val = Pipeline.ΦD osem0 spec0 H0 (V m) c by unfold state; exact if_pos h0, PhiD0_eq]
    unfold Dat.owesAt Pipeline.owesWithin
    rw [show (dats m 0 c).owed t.castSucc = 0 from rfl]
    iintro ⟨⟨⟨HA, HD, HB⟩, Hg, ⟨Hs0, Hs1⟩, Hw⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first (defs₀ (F := F)) Variants.none c none invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
      (V m c main_arg1) (iblk m c 0 t) (wsIn m c) (gqIn m c) (gkvIn m c) t.val (by rw [h0]; exact first_zero)
      (by rw [h0]; decide) (prevSlot (t.val + 1)) (prevSlot_lt _) (prev_succ t)) $$ [HA HD HB Hs0 Hs1 Hw HO H0 H1 H2 H3 H4 H5 H6 H7 H8]
    · unfold inputs blank
      rw [staging_eq]
      isplitl [H0 H1 H2 H3]
      · isplitl [H0]; · iexact H0
        isplitl [H1]; · iexact H1
        isplitl [H2]; · iexact H2
        iexact H3
      isplitl [H4 H5 H6 H7 H8]
      · isplitl [H4]; · iexists _; iexact H4
        isplitl [H5]; · iexists _; iexact H5
        isplitl [H6]; · iexists _; iexact H6
        isplitl [H7]; · iexists _; iexact H7
        iexists _; iexact H8
      isplitl [HB Hs0 Hs1 Hw]
      · isplitl [HB]; · iexact HB
        isplitl [Hw]; · iexact Hw
        isplitl [Hs0]; · iexact Hs0
        iexact Hs1
      isplitl [HD]; · iexact HD
      isplitl [HA]; · iexact HA
      iexists _; iexact HO
    iintro ⟨Hin, Hout, HK, ⟨%W', HO⟩⟩
    unfold inputs outputs
    icases Hin with ⟨H0, H1, H2, H3⟩
    icases Hout with ⟨H4, H5, H6, H7, H8⟩
    have eh : held m c t.val = zeroBlock := by rw [h0]; rfl
    rw [after0_eq, after1_eq, after2_eq, after3_eq, after4_eq, after5_eq, after6_eq, after7_eq, after8_eq]
    rw [eh]
    isplitl [HK Hg]
    · isplitl [HK]; · iexact HK
      iexact Hg
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show state m c t.val = iprop(kept c wM xaM waM wbM cc0_scratch3 (V m c main_arg1) (wsIn m c)
      (prevSlot t.val) (prevSlot_lt _) (held m c t.val) ∗ (∃ r, prngReg c r)) by unfold state; exact if_neg h0]
    iintro ⟨⟨HK, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later (defs₀ (F := F)) Variants.none c none invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
      (V m c main_arg1) (iblk m c 0 t) (wsIn m c) (gqIn m c) (gkvIn m c) t.val (not_first t h0)
      (held m c t.val) (prevSlot (t.val + 1)) (prevSlot_lt _) (prev_succ t) (prevSlot t.val) (prevSlot_lt _) rfl) $$ [HK H0 H1 H2 H3 H4 H5 H6 H7 H8]
    · unfold inputs blank
      isplitl [H0 H1 H2 H3]
      · isplitl [H0]; · iexact H0
        isplitl [H1]; · iexact H1
        isplitl [H2]; · iexact H2
        iexact H3
      isplitl [H4 H5 H6 H7 H8]
      · isplitl [H4]; · iexists _; iexact H4
        isplitl [H5]; · iexists _; iexact H5
        isplitl [H6]; · iexists _; iexact H6
        isplitl [H7]; · iexists _; iexact H7
        iexists _; iexact H8
      iexact HK
    iintro ⟨Hin, Hout, HK⟩
    unfold inputs outputs
    icases Hin with ⟨H0, H1, H2, H3⟩
    icases Hout with ⟨H4, H5, H6, H7, H8⟩
    rw [after0_eq, after1_eq, after2_eq, after3_eq, after4_eq, after5_eq, after6_eq, after7_eq, after8_eq]
    isplitl [HK Hg]
    · isplitl [HK]; · iexact HK
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- After the last point the kernel's own state is again one in which nothing is named. -/
theorem state_out (c : Dev nD) (n : Nat) (hn : n ≠ 0) : state m c n ⊢ Pipeline.ΦD osem0 spec0 H0 (V m) c := by
  rw [PhiD0_eq]
  unfold state kept
  rw [if_neg hn, staging_eq]
  iintro ⟨⟨⟨HB, Hw, Hs0, Hs1⟩, HD, ⟨%A, %hA, HA⟩⟩, Hg⟩
  isplitl [HA HD HB]
  · isplitl [HA]; · iexists _; iexact HA
    isplitl [HD]; · iexists _; iexact HD
    iexact HB
  isplitl [Hg]; · iexact Hg
  isplitl [Hs0 Hs1]
  · isplitl [Hs0]; · iexact Hs0
    iexact Hs1
  iexact Hw

set_option backward.isDefEq.respectTransparency.types false in
/-- The run of the program: the arrays at their final contents, every other array as it was, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun c => state_out m c 61 (by decide))

variable {m ρ}

/-- The arguments after the run. -/
theorem args_of {r : PUnit × MemSt nD τ sig (Elt F)} (h : Pipeline.FramePost cfgs (dats (F := F) m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel.Launch
-- ==== Proof.KernelIdealLaunch.lean ====
/-
  The kernel's launch: the printed body is `step`, so one grid point is `run_first` or `run_later`; between two points the
  double buffer holds the block just quantised, the one the next point projects. From it, the run of the whole program:
  every result window's contents after every point, the arguments as they were, every semaphore at zero.
-/
module

public import proofs.«01_k».proof.Proof.Step
public import proofs.«01_k».proof.Proof.Gen.KernelIdeal.Frame
public import Idealize.ShloMosaic.Lib.Pipeline.Frame
public import Idealize.ShloMosaic.Lib.Tactic

@[expose] public section

noncomputable section

namespace Cert.KernelIdeal.Launch

open Cert.KernelIdeal Cert.KernelIdeal.Gen Cert.Proof
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-! ## The printed body -/

section Body

variable (i : grid0.Coords) (arg1 : Memref sig .tc .vmem S256x6144 .bf16) (harg1 : arg1.IsWhole) (arg2 : Memref sig .tc .hbm S2112x6144 .fp8e4m3) (harg2 : arg2.IsWhole) (arg3 : Memref sig .tc .vmem S2112x192 .i8) (harg3 : arg3.IsWhole) (arg4 : Memref sig .tc .vmem S1x1536 .f32) (harg4 : arg4.IsWhole) (arg5 : Memref sig .tc .vmem S1x512 .f32) (harg5 : arg5.IsWhole) (arg6 : Memref sig .tc .vmem S256x1536 .bf16) (harg6 : arg6.IsWhole) (arg7 : Memref sig .tc .vmem S256x512 .bf16) (harg7 : arg7.IsWhole) (arg8 : Memref sig .tc .vmem S256x64 .bf16) (harg8 : arg8.IsWhole) (arg9 : Memref sig .tc .vmem S256x6144 .fp8e4m3) (harg9 : arg9.IsWhole) (arg10 : Memref sig .tc .vmem S256x192 .i8) (harg10 : arg10.IsWhole) (arg11 : Memref sig .tc .vmem S2x256x6144 .bf16) (harg11 : arg11.IsWhole) (arg12 : Memref sig .tc .vmem S2112x6144 .bf16) (harg12 : arg12.IsWhole) (arg13 : Memref sig .tc .vmem S2x192x6144 .fp8e4m3) (harg13 : arg13.IsWhole) (arg14 : DmaSems sig S2)

theorem prologue_eq : k0_part31 (F := F) i arg1 harg1 arg2 harg2 arg3 harg3 arg4 harg4 arg5 harg5 arg6 harg6 arg7 harg7 arg8 harg8 arg9 harg9 arg10 harg10 arg11 harg11 arg12 harg12 arg13 harg13 arg14
    = prologue arg2 harg2 arg3 arg11 harg11 arg12 harg12 arg13 harg13 arg14 (i 0).val := by
  sl_kernel_rfl

/-- The reciprocal of the length of a row of the first result. -/
def invRank : F .f32 := Named.named κ "inv_q_rank" 0x3A2AAAAB#32

theorem body_eq : cc0_mla_wa_mxfp8 (F := F) i arg1 harg1 arg2 harg2 arg3 harg3 arg4 harg4 arg5 harg5 arg6 harg6 arg7 harg7 arg8 harg8 arg9 harg9 arg10 harg10 arg11 harg11 arg12 harg12 arg13 harg13 arg14
    = step invRank arg1 arg2 harg2 arg3 arg4 arg5 arg6 harg6 arg7 harg7 arg8 harg8 arg9 harg9 arg10 harg10 arg11 harg11
        arg12 harg12 arg13 harg13 arg14 (i 0).val := by
  unfold step invRank
  rw [← prologue_eq i arg1 harg1 arg2 harg2 arg3 harg3 arg4 harg4 arg5 harg5 arg6 harg6 arg7 harg7 arg8 harg8 arg9 harg9 arg10 harg10 arg11 harg11 arg12 harg12 arg13 harg13 arg14]
  unfold cc0_mla_wa_mxfp8 k0_part579 k0_part30
  refine (bind_assoc _ _ _).trans ?_
  refine (pure_bind _ _).trans ?_
  refine (bind_assoc _ _ _).trans ?_
  refine congrArg (Prog.bind (k0_part31 i arg1 harg1 arg2 harg2 arg3 harg3 arg4 harg4 arg5 harg5 arg6 harg6 arg7 harg7 arg8 harg8 arg9 harg9 arg10 harg10 arg11 harg11 arg12 harg12 arg13 harg13 arg14)) (funext fun _ => ?_)
  sl_kernel_rfl

end Body

variable [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The kernel's own buffers and semaphores -/

abbrev xaM : Memref sig .tc .vmem S2x256x6144 .bf16 := Memref.whole cc0_scratch0
abbrev waM : Memref sig .tc .vmem S2112x6144 .bf16 := Memref.whole cc0_scratch1
abbrev wbM : Memref sig .tc .vmem S2x192x6144 .fp8e4m3 := Memref.whole cc0_scratch2
abbrev wM : Memref sig .tc .hbm S2112x6144 .fp8e4m3 := Memref.whole main_arg1

abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The weight array, left in HBM. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg1) ↦{fullShare} V m c main_arg1) := by
  rw [BI.bigSep_eq_bigSepL_of_eq [main_arg1] (by decide) (by decide)]; rfl

/-- Between points nothing of the kernel's own is named: its buffers at anything, its semaphores at zero. -/
theorem PhiD0_eq (c : Dev nD) :
    (Pipeline.ΦD osem0 spec0 H0 (V m) c : sProp 𝕄)
      = iprop(iprop((∃ d, owns (c : Thread nD τ) xaM fullShare d) ∗ (∃ d, owns (c : Thread nD τ) waM fullShare d)
            ∗ (∃ f, ((c : Thread nD τ).loc cc0_scratch2) ↦{fullShare} f)) ∗ (∃ r, prngReg c r)
          ∗ iprop(semVal ((c : Thread nD τ), SemLoc.dma 15) 0 ∗ semVal ((c : Thread nD τ), SemLoc.dma 16) 0)
          ∗ iprop(((c : Thread nD τ).loc main_arg1) ↦{fullShare} V m c main_arg1)) := by
  rw [Pipeline.ΦD_eq, scopedRest0_eq, ownSems00_eq, hbmPts0_eq]; simp only [xaM, waM, owns_whole]; try rfl

theorem staging_eq (c : Dev nD) :
    (staging c wM wbM cc0_scratch3 (V m c main_arg1) : sProp 𝕄)
      = iprop((∃ f, ((c : Thread nD τ).loc cc0_scratch2) ↦{fullShare} f)
          ∗ (((c : Thread nD τ).loc main_arg1) ↦{fullShare} V m c main_arg1)
          ∗ semVal ((c : Thread nD τ), SemLoc.dma 15) 0 ∗ semVal ((c : Thread nD τ), SemLoc.dma 16) 0) := by
  unfold staging
  simp only [wM, wbM, Memref.view_whole, View.set_whole]
  rfl

/-! ## What the run leaves -/

/-- The scales of the weights, the gains, as the body reads them. -/
def wsIn (c : Dev nD) : S2112x192.Idx → Elt F .i8 := iblk m c 1 ⟨0, by decide⟩
def gqIn (c : Dev nD) : S1x1536.Idx → Elt F .f32 := iblk m c 2 ⟨0, by decide⟩
def gkvIn (c : Dev nD) : S1x512.Idx → Elt F .f32 := iblk m c 3 ⟨0, by decide⟩
/-- The weights decoded. -/
def wIn (c : Dev nD) : S2112x6144.Idx → Elt F .bf16 := waOf (wM.view.read (Elt F) (V m c main_arg1)) (wsIn m c)

/-- The block point `n` projects: the one the point before quantised; zeros at the first point. -/
def held (c : Dev nD) : Nat → FVec F S256x6144 .bf16
  | 0 => zeroBlock
  | n + 1 => if h : n < cfg0.N then scaledBlock (iblk m c 0 ⟨n, h⟩) else zeroBlock

theorem ws_const (c : Dev nD) (t : Fin cfg0.N) : iblk m c 1 t = wsIn m c := rfl
theorem gq_const (c : Dev nD) (t : Fin cfg0.N) : iblk m c 2 t = gqIn m c := rfl
theorem gkv_const (c : Dev nD) (t : Fin cfg0.N) : iblk m c 3 t = gkvIn m c := rfl

/-- What a window's buffer holds after point `t`. -/
def after (c : Dev nD) (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => qRes invRank (held m c t.val) (wIn m c) (gqIn m c)
  | 5 => kvRes (held m c t.val) (wIn m c) (gkvIn m c)
  | 6 => kpeRes (held m c t.val) (wIn m c)
  | 7 => codesOf (iblk m c 0 t)
  | 8 => scalesOf (iblk m c 0 t)

/-- The kernel's own state before point `n`. -/
def state (c : Dev nD) (n : Nat) : sProp 𝕄 :=
  if n = 0 then Pipeline.ΦD osem0 spec0 H0 (V m) c
  else iprop(kept c wM xaM waM wbM cc0_scratch3 (V m c main_arg1) (wsIn m c) (prevSlot n) (prevSlot_lt n) (held m c n)
    ∗ (∃ r, prngReg c r))

def dats (_ : Fin 1) (c : Dev nD) : Dat τ (Elt F) Unit ℕ (Pipeline.UD sig nD τ) ℕ cfg0 c where
  A w := V m c (Pipeline.arrRef spec0 w)
  after w t := after m c w t
  Φ t := state m c t.val
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  have ha : ∀ t, (dats m 0 c).after 0 t = iblk m c 0 t := fun _ => rfl
  ((dats m 0 c).before_in_eq_fetched 0 rfl (fun _ => rfl) (fun _ _ _ => rfl)
    (fun t => by rw [ha]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  have ha : ∀ t, (dats m 0 c).after 1 t = iblk m c 1 t := fun _ => rfl
  ((dats m 0 c).before_in_eq_fetched 1 rfl (fun _ => rfl) (fun _ _ _ => rfl)
    (fun t => by rw [ha]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  have ha : ∀ t, (dats m 0 c).after 2 t = iblk m c 2 t := fun _ => rfl
  ((dats m 0 c).before_in_eq_fetched 2 rfl (fun _ => rfl) (fun _ _ _ => rfl)
    (fun t => by rw [ha]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  have ha : ∀ t, (dats m 0 c).after 3 t = iblk m c 3 t := fun _ => rfl
  ((dats m 0 c).before_in_eq_fetched 3 rfl (fun _ => rfl) (fun _ _ _ => rfl)
    (fun t => by rw [ha]; unfold Dat.blockOf iblk; rw [A_eq]; try rfl) t d).trans
    (by unfold Dat.fetched Dat.blockOf iblk; rw [A_eq]; try rfl)
theorem after0_eq (c : Dev nD) (t : Fin cfg0.N) : (dats m 0 c).after 0 t = iblk m c 0 t := rfl
theorem after1_eq (c : Dev nD) (t : Fin cfg0.N) : (dats m 0 c).after 1 t = wsIn m c := rfl
theorem after2_eq (c : Dev nD) (t : Fin cfg0.N) : (dats m 0 c).after 2 t = gqIn m c := rfl
theorem after3_eq (c : Dev nD) (t : Fin cfg0.N) : (dats m 0 c).after 3 t = gkvIn m c := rfl
theorem after4_eq (c : Dev nD) (t : Fin cfg0.N) : (dats m 0 c).after 4 t = qRes invRank (held m c t.val) (wIn m c) (gqIn m c) := rfl
theorem after5_eq (c : Dev nD) (t : Fin cfg0.N) : (dats m 0 c).after 5 t = kvRes (held m c t.val) (wIn m c) (gkvIn m c) := rfl
theorem after6_eq (c : Dev nD) (t : Fin cfg0.N) : (dats m 0 c).after 6 t = kpeRes (held m c t.val) (wIn m c) := rfl
theorem after7_eq (c : Dev nD) (t : Fin cfg0.N) : (dats m 0 c).after 7 t = codesOf (iblk m c 0 t) := rfl
theorem after8_eq (c : Dev nD) (t : Fin cfg0.N) : (dats m 0 c).after 8 t = scalesOf (iblk m c 0 t) := rfl

/-! ## The body -/

theorem coords_val : ∀ t : Fin cfg0.N, ((grid0.coords t) 0).val = t.val :=
  (by decide : ∀ t : Fin grid0.N, ((grid0.coords t) 0).val = t.val)
theorem first_zero : first 0 = 1#1 := by decide
theorem not_first : ∀ n : Fin 61, n.val ≠ 0 → ¬ first n.val = 1#1 := by decide
theorem prev_succ : ∀ n : Fin 61, prevSlot (n.val + 1) = curSlot n.val := by decide

theorem held_succ (c : Dev nD) (t : Fin cfg0.N) : held m c (t.val + 1) = scaledBlock (iblk m c 0 t) := dif_pos t.isLt

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body at point `t`, as `step`. -/
theorem bodyAt_eq (t : Fin cfg0.N) : bodyAt0 (F := F) t
    = step invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
        t.val := by
  rw [← coords_val t]
  exact body_eq (grid0.coords t) (win0_0.stage (cfg0.slots t 0)) (hstage0_0 ((cfg0.slots t 0).cast nbuf0_0)) wM (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    xaM (Memref.isWhole_whole _) waM (Memref.isWhole_whole _) wbM (Memref.isWhole_whole _) cc0_scratch3

/-- The nine windows the body reads and writes, in the order of `inputs`, `blank` and `outputs`. -/
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  rw [show (dats m 0 c).Φ t.castSucc = state m c t.val from rfl, show (dats m 0 c).Φ t.succ = state m c (t.val + 1) from rfl,
    show (dats m 0 c).owesAt () t.succ = (dats m 0 c).owesAt () t.castSucc from rfl]
  have e : state m c (t.val + 1) = iprop(kept c wM xaM waM wbM cc0_scratch3 (V m c main_arg1) (wsIn m c)
      (prevSlot (t.val + 1)) (prevSlot_lt _) (scaledBlock (iblk m c 0 t)) ∗ (∃ r, prngReg c r)) := by
    unfold state; rw [if_neg (Nat.succ_ne_zero _), held_succ]
  rw [e]
  simp only [before0, before1, before2, before3]
  by_cases h0 : t.val = 0
  · rw [show state m c t.val = Pipeline.ΦD osem0 spec0 H0 (V m) c by unfold state; exact if_pos h0, PhiD0_eq]
    unfold Dat.owesAt Pipeline.owesWithin
    rw [show (dats m 0 c).owed t.castSucc = 0 from rfl]
    iintro ⟨⟨⟨HA, HD, HB⟩, Hg, ⟨Hs0, Hs1⟩, Hw⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first (defs₀ (F := F)) Variants.none c none invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
      (V m c main_arg1) (iblk m c 0 t) (wsIn m c) (gqIn m c) (gkvIn m c) t.val (by rw [h0]; exact first_zero)
      (by rw [h0]; decide) (prevSlot (t.val + 1)) (prevSlot_lt _) (prev_succ t)) $$ [HA HD HB Hs0 Hs1 Hw HO H0 H1 H2 H3 H4 H5 H6 H7 H8]
    · unfold inputs blank
      rw [staging_eq]
      isplitl [H0 H1 H2 H3]
      · isplitl [H0]; · iexact H0
        isplitl [H1]; · iexact H1
        isplitl [H2]; · iexact H2
        iexact H3
      isplitl [H4 H5 H6 H7 H8]
      · isplitl [H4]; · iexists _; iexact H4
        isplitl [H5]; · iexists _; iexact H5
        isplitl [H6]; · iexists _; iexact H6
        isplitl [H7]; · iexists _; iexact H7
        iexists _; iexact H8
      isplitl [HB Hs0 Hs1 Hw]
      · isplitl [HB]; · iexact HB
        isplitl [Hw]; · iexact Hw
        isplitl [Hs0]; · iexact Hs0
        iexact Hs1
      isplitl [HD]; · iexact HD
      isplitl [HA]; · iexact HA
      iexists _; iexact HO
    iintro ⟨Hin, Hout, HK, ⟨%W', HO⟩⟩
    unfold inputs outputs
    icases Hin with ⟨H0, H1, H2, H3⟩
    icases Hout with ⟨H4, H5, H6, H7, H8⟩
    have eh : held m c t.val = zeroBlock := by rw [h0]; rfl
    rw [after0_eq, after1_eq, after2_eq, after3_eq, after4_eq, after5_eq, after6_eq, after7_eq, after8_eq]
    rw [eh]
    isplitl [HK Hg]
    · isplitl [HK]; · iexact HK
      iexact Hg
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show state m c t.val = iprop(kept c wM xaM waM wbM cc0_scratch3 (V m c main_arg1) (wsIn m c)
      (prevSlot t.val) (prevSlot_lt _) (held m c t.val) ∗ (∃ r, prngReg c r)) by unfold state; exact if_neg h0]
    iintro ⟨⟨HK, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later (defs₀ (F := F)) Variants.none c none invRank (win0_0.stage (cfg0.slots t 0)) wM (Memref.isWhole_whole _) (win0_1.stage (cfg0.slots t 1)) (win0_2.stage (cfg0.slots t 2)) (win0_3.stage (cfg0.slots t 3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) xaM (Memref.isWhole_whole _) waM (Memref.isWhole_whole _) wbM (Memref.isWhole_whole _) cc0_scratch3
      (V m c main_arg1) (iblk m c 0 t) (wsIn m c) (gqIn m c) (gkvIn m c) t.val (not_first t h0)
      (held m c t.val) (prevSlot (t.val + 1)) (prevSlot_lt _) (prev_succ t) (prevSlot t.val) (prevSlot_lt _) rfl) $$ [HK H0 H1 H2 H3 H4 H5 H6 H7 H8]
    · unfold inputs blank
      isplitl [H0 H1 H2 H3]
      · isplitl [H0]; · iexact H0
        isplitl [H1]; · iexact H1
        isplitl [H2]; · iexact H2
        iexact H3
      isplitl [H4 H5 H6 H7 H8]
      · isplitl [H4]; · iexists _; iexact H4
        isplitl [H5]; · iexists _; iexact H5
        isplitl [H6]; · iexists _; iexact H6
        isplitl [H7]; · iexists _; iexact H7
        iexists _; iexact H8
      iexact HK
    iintro ⟨Hin, Hout, HK⟩
    unfold inputs outputs
    icases Hin with ⟨H0, H1, H2, H3⟩
    icases Hout with ⟨H4, H5, H6, H7, H8⟩
    rw [after0_eq, after1_eq, after2_eq, after3_eq, after4_eq, after5_eq, after6_eq, after7_eq, after8_eq]
    isplitl [HK Hg]
    · isplitl [HK]; · iexact HK
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- After the last point the kernel's own state is again one in which nothing is named. -/
theorem state_out (c : Dev nD) (n : Nat) (hn : n ≠ 0) : state m c n ⊢ Pipeline.ΦD osem0 spec0 H0 (V m) c := by
  rw [PhiD0_eq]
  unfold state kept
  rw [if_neg hn, staging_eq]
  iintro ⟨⟨⟨HB, Hw, Hs0, Hs1⟩, HD, ⟨%A, %hA, HA⟩⟩, Hg⟩
  isplitl [HA HD HB]
  · isplitl [HA]; · iexists _; iexact HA
    isplitl [HD]; · iexists _; iexact HD
    iexact HB
  isplitl [Hg]; · iexact Hg
  isplitl [Hs0 Hs1]
  · isplitl [Hs0]; · iexact Hs0
    iexact Hs1
  iexact Hw

set_option backward.isDefEq.respectTransparency.types false in
/-- The run of the program: the arrays at their final contents, every other array as it was, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun c => state_out m c 61 (by decide))

variable {m ρ}

/-- The arguments after the run. -/
theorem args_of {r : PUnit × MemSt nD τ sig (Elt F)} (h : Pipeline.FramePost cfgs (dats (F := F) m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.KernelIdeal.Launch
-- ==== Proof.Scale.lean ====
/-
  The scale of a group, at the ideal values: the eight rungs find the binade of a nonnegative number below `2 ^ 120`,
  which is what the floor of its logarithm finds, and the power of two read from an exponent code is the power the
  exponent names.
-/
module

public import Idealize.ShloMosaic.Lib.Pipeline.Value
public import Idealize.ShloMosaic.PureOps.Ideal.Laws

@[expose] public section

noncomputable section

namespace Cert.Proof

open Idealize.ShloMosaic

/-! ## Powers of two from exponent codes -/

/-- The number whose exponent field is `e` and whose other bits are zero. -/
def powOf (e : BitVec 32) : EReal := Ideal.ofBits .f32 (IntOp.shli .vector e 23#32)

theorem field_bits : ∀ t : Fin 256, (IntOp.shli .vector (BitVec.ofNat 32 t.val) 23#32).extractLsb' (8 + 23) 1 = 0#1
    ∧ ((IntOp.shli .vector (BitVec.ofNat 32 t.val) 23#32).extractLsb' 23 8).toNat = t.val
    ∧ ((IntOp.shli .vector (BitVec.ofNat 32 t.val) 23#32).extractLsb' 0 23).toNat = 0 := by decide +kernel

theorem ieee_field (t : Fin 256) : Ideal.ieee 8 23 (IntOp.shli .vector (BitVec.ofNat 32 t.val) 23#32)
    = if t.val = 255 then ⊤ else if t.val = 0 then 0 else (((2 : ℝ) ^ ((t.val : ℤ) - 127) : ℝ) : EReal) := by
  obtain ⟨h1, h2, h3⟩ := field_bits t
  generalize IntOp.shli .vector (BitVec.ofNat 32 t.val) 23#32 = b at h1 h2 h3
  unfold Ideal.ieee
  dsimp only
  rw [h1, h2, h3]
  by_cases h255 : t.val = 255
  · rw [if_pos (by omega), if_pos rfl, if_pos h255]; rfl
  rw [if_neg (by omega), if_neg h255]
  by_cases h0 : t.val = 0
  · rw [if_pos h0, if_pos h0]; simp
  rw [if_neg h0, if_neg h0]
  congr 1
  rw [if_neg (by decide), one_mul, show (((2 : ℕ) ^ 23 + 0 : ℕ) : ℝ) = (2 : ℝ) ^ (23 : ℤ) by norm_num,
    ← zpow_add₀ (by norm_num : (2 : ℝ) ≠ 0)]
  congr 1
  norm_num

theorem powOf_mid (t : Nat) (h0 : 1 ≤ t) (h1 : t ≤ 254) :
    powOf (BitVec.ofNat 32 t) = (((2 : ℝ) ^ ((t : ℤ) - 127) : ℝ) : EReal) := by
  refine (ieee_field ⟨t, by omega⟩).trans ?_
  rw [if_neg (by show t ≠ 255; omega), if_neg (by show t ≠ 0; omega)]

/-- Its value at every code. -/
def powVal (t : Nat) : EReal := if t = 0 then 0 else if t = 255 then ⊤ else (((2 : ℝ) ^ ((t : ℤ) - 127) : ℝ) : EReal)

theorem powOf_eq (t : Nat) (h : t ≤ 255) : powOf (BitVec.ofNat 32 t) = powVal t := by
  refine (ieee_field ⟨t, by omega⟩).trans ?_
  unfold powVal
  by_cases h0 : t = 0
  · subst h0; rfl
  by_cases h1 : t = 255
  · subst h1; rfl
  simp [h0, h1]

theorem powOf_top : powOf 255#32 = ⊤ := powOf_eq 255 (by omega)

/-! ## The ladder -/

/-- One rung on one number. -/
def rungAt (p : EReal) (k ef : BitVec 32) : BitVec 32 :=
  Scalar.select (Ideal.cmp .oge p (powOf (ef + k))) (ef + k) ef

def ladderAt (p : EReal) : BitVec 32 :=
  rungAt p 1#32 (rungAt p 2#32 (rungAt p 4#32 (rungAt p 8#32 (rungAt p 16#32 (rungAt p 32#32 (rungAt p 64#32 (rungAt p 128#32
    0#32)))))))

/-- The exponent code of a group whose maximum over 448 is `p`. -/
def codeAt (p : EReal) : BitVec 32 :=
  Scalar.select (IntOp.cmpi .eq (ladderAt p) 0#32) 127#32 (ladderAt p + 1#32)

/-- Between two rungs: the field found so far is `n`, and `p` lies below the power `d` further on. -/
def Found (p : EReal) (d : Nat) (ef : BitVec 32) : Prop :=
  ∃ n : Nat, ef = BitVec.ofNat 32 n ∧ n + d ≤ 256 ∧ powVal n ≤ p ∧ (n + d ≤ 255 → p < powVal (n + d))

theorem found_rung (p : EReal) (d : Nat) (hd : 1 ≤ d) (ef : BitVec 32) (h : Found p (d + d) ef) :
    Found p d (rungAt p (BitVec.ofNat 32 d) ef) := by
  obtain ⟨n, rfl, hn, hl, hu⟩ := h
  have e : (BitVec.ofNat 32 n + BitVec.ofNat 32 d : BitVec 32) = BitVec.ofNat 32 (n + d) := (BitVec.ofNat_add ..).symm
  unfold rungAt
  rw [e, powOf_eq (n + d) (by omega)]
  by_cases hp : powVal (n + d) ≤ p
  · refine ⟨n + d, ?_, by omega, hp, fun h => ?_⟩
    · simp [Ideal.cmp, hp, Scalar.select]
    · rw [show n + d + d = n + (d + d) by omega] at h ⊢; exact hu h
  · refine ⟨n, ?_, by omega, hl, fun _ => not_le.mp hp⟩
    simp [Ideal.cmp, hp, Scalar.select]

theorem found_ladder (p : EReal) (hp : 0 ≤ p) : Found p 1 (ladderAt p) := by
  unfold ladderAt
  refine found_rung p 1 (by omega) _ ?_
  refine found_rung p 2 (by omega) _ ?_
  refine found_rung p 4 (by omega) _ ?_
  refine found_rung p 8 (by omega) _ ?_
  refine found_rung p 16 (by omega) _ ?_
  refine found_rung p 32 (by omega) _ ?_
  refine found_rung p 64 (by omega) _ ?_
  refine found_rung p 128 (by omega) _ ?_
  exact ⟨0, rfl, by omega, by unfold powVal; simpa using hp, fun h => by omega⟩

/-! ## The floor of the logarithm -/

/-- The exponent of a group whose maximum over 448 is `p`, as the logarithm gives it. -/
def expAt (p : EReal) : EReal :=
  Scalar.select (Ideal.cmp .olt p (Ideal.ofBits .f32 0x00800000#32)) (Ideal.ofBits .f32 0x00000000#32)
    (Ideal.liftRound Int.floor (Ideal.log p * (((Real.log 2)⁻¹ : ℝ) : EReal)) + Ideal.ofBits .f32 0x3F800000#32)

theorem smallest_normal : Ideal.ofBits .f32 0x00800000#32 = powVal 1 := powOf_eq 1 (by omega)
theorem one_word : Ideal.ofBits .f32 0x3F800000#32 = 1 := by
  have := powOf_mid 127 (by omega) (by omega)
  refine Eq.trans this ?_
  norm_num
theorem zero_word : Ideal.ofBits .f32 0x00000000#32 = 0 := Ideal.ofBits_zero_f32

theorem floor_log (r : ℝ) (k : ℤ) (h0 : (2 : ℝ) ^ k ≤ r) (h1 : r < (2 : ℝ) ^ (k + 1)) :
    ⌊Real.log r * (Real.log 2)⁻¹⌋ = k := by
  have hr : 0 < r := lt_of_lt_of_le (by positivity) h0
  have hl : 0 < Real.log 2 := Real.log_pos (by norm_num)
  rw [Int.floor_eq_iff, ← div_eq_mul_inv, le_div_iff₀ hl, div_lt_iff₀ hl]
  constructor
  · rw [← Real.log_zpow]; exact Real.log_le_log (by positivity) h0
  · have : ((k : ℝ) + 1) * Real.log 2 = Real.log ((2 : ℝ) ^ (k + 1)) := by rw [Real.log_zpow]; push_cast; ring
    rw [this]; exact Real.log_lt_log hr h1

/-- The code and the exponent name the same power: the code is the exponent plus 127, between 2 and 247. -/
theorem code_exp (r : ℝ) (h0 : 0 ≤ r) (h1 : r < (2 : ℝ) ^ (120 : ℤ)) :
    ∃ n : Nat, 2 ≤ n ∧ n ≤ 247 ∧ codeAt (r : EReal) = BitVec.ofNat 32 n ∧ expAt (r : EReal) = ((((n : ℤ) - 127 : ℤ) : ℝ) : EReal) := by
  obtain ⟨n, hn, hle, hl, hu⟩ := found_ladder (r : EReal) (by exact_mod_cast h0)
  have hn246 : n ≤ 246 := by
    by_contra hc
    have hlt : (r : EReal) < powVal n := by
      unfold powVal
      rw [if_neg (by omega)]
      split_ifs with h
      · exact EReal.coe_lt_top r
      · rw [EReal.coe_lt_coe_iff]
        refine lt_of_lt_of_le h1 (zpow_le_zpow_right₀ (by norm_num) ?_)
        omega
    exact absurd hl (not_le.mpr hlt)
  have hu' := hu (by omega)
  unfold codeAt expAt
  rw [hn, smallest_normal, one_word, zero_word]
  by_cases hz : n = 0
  · subst hz
    refine ⟨127, by omega, by omega, rfl, ?_⟩
    simp only [zero_add] at hu'
    simp [Ideal.cmp, hu', Scalar.select]
  · refine ⟨n + 1, by omega, by omega, ?_, ?_⟩
    · have n0 : (BitVec.ofNat 32 n == 0#32) = false := by
        rw [beq_eq_false_iff_ne]; intro h; have := congrArg BitVec.toNat h; simp only [BitVec.toNat_ofNat] at this; omega
      rw [show (BitVec.ofNat 32 n + 1#32 : BitVec 32) = BitVec.ofNat 32 (n + 1) from (BitVec.ofNat_add ..).symm]
      simp [IntOp.cmpi, Scalar.select, n0]
    · unfold powVal at hl hu'
      rw [if_neg hz, if_neg (by omega), EReal.coe_le_coe_iff] at hl
      rw [if_neg (by omega), if_neg (by omega), EReal.coe_lt_coe_iff] at hu'
      have hr : 0 < r := lt_of_lt_of_le (by positivity) hl
      have hnot : ¬ ((r : EReal) < powVal 1) := by
        unfold powVal
        rw [if_neg (by omega), if_neg (by omega), EReal.coe_lt_coe_iff, not_lt]
        refine le_trans (zpow_le_zpow_right₀ (by norm_num) ?_) hl
        omega
      have hf := floor_log r ((n : ℤ) - 127) hl (by
        rw [show ((n : ℤ) - 127 + 1) = ((n + 1 : ℕ) : ℤ) - 127 by push_cast; ring]; exact hu')
      rw [Ideal.log_coe, if_neg (not_le.mpr hr), ← EReal.coe_mul, Ideal.liftRound_coe, hf]
      simp only [Ideal.cmp, hnot, Scalar.select]
      simp only [decide_false, BitVec.ofBool_false]
      rw [if_neg (by decide), ← EReal.coe_one, ← EReal.coe_add]
      congr 1
      push_cast
      ring

/-! ## Both sides of a group's scaling -/

theorem exp2_int (k : ℤ) : Ideal.exp2 (((k : ℤ) : ℝ) : EReal) = (((2 : ℝ) ^ k : ℝ) : EReal) := by
  rw [Ideal.exp2_coe]
  congr 1
  exact Real.rpow_intCast 2 k

theorem fptosi_int (k : ℤ) (h0 : -200 ≤ k) (h1 : k ≤ 200) : Ideal.fptosi 32 (((k : ℤ) : ℝ) : EReal) = BitVec.ofInt 32 k := by
  unfold Ideal.fptosi
  rw [Ideal.toIntClamped_coe]
  congr 1
  simp only [Int.floor_intCast, Int.ceil_intCast, ite_self]
  norm_num
  omega

/-- The decoded value of a scale code: a power of two, zero at code 0, infinite at code 255. -/
def decodeAt (e : BitVec 32) : EReal :=
  Scalar.select (IntOp.cmpi .eq e 0#32) (Ideal.ofBits .f32 0x00000000#32)
    (Scalar.select (IntOp.cmpi .eq e 255#32) (Ideal.ofBits .f32 0x7F800000#32)
      (Ideal.exp2 ((((e - 127#32).toInt : ℝ)) : EReal)))

theorem sub_bias : ∀ t : Fin 256, ((BitVec.ofNat 32 t.val - 127#32 : BitVec 32)).toInt = (t.val : ℤ) - 127 := by decide +kernel

theorem decode_eq : ∀ t : Nat, t ≤ 255 → decodeAt (BitVec.ofNat 32 t) = powOf (BitVec.ofNat 32 t) := by
  intro t ht
  have hs := sub_bias ⟨t, by omega⟩
  simp only [] at hs
  rw [powOf_eq t ht]
  unfold decodeAt powVal
  by_cases h0 : t = 0
  · subst h0; rw [if_pos rfl, zero_word]; rfl
  rw [if_neg h0]
  have n0 : (BitVec.ofNat 32 t == 0#32) = false := by
    rw [beq_eq_false_iff_ne]; intro h; have := congrArg BitVec.toNat h; simp only [BitVec.toNat_ofNat] at this; omega
  by_cases h1 : t = 255
  · subst h1
    rw [if_pos rfl]
    exact powOf_top
  rw [if_neg h1]
  have n1 : (BitVec.ofNat 32 t == 255#32) = false := by
    rw [beq_eq_false_iff_ne]; intro h; have := congrArg BitVec.toNat h; simp only [BitVec.toNat_ofNat] at this; omega
  have s0 : IntOp.cmpi .eq (BitVec.ofNat 32 t) 0#32 = 0#1 := by simp [IntOp.cmpi, n0]
  have s1 : IntOp.cmpi .eq (BitVec.ofNat 32 t) 255#32 = 0#1 := by simp [IntOp.cmpi, n1]
  rw [s0, s1, hs, exp2_int]
  rfl

theorem decode_byte (b : BitVec 8) : decodeAt (b.setWidth 32) = powOf (b.setWidth 32) := by
  have : b.setWidth 32 = BitVec.ofNat 32 b.toNat := by
    apply BitVec.eq_of_toNat_eq
    have := b.isLt
    simp only [BitVec.toNat_setWidth, BitVec.toNat_ofNat]
  rw [this]
  exact decode_eq _ (by have := b.isLt; omega)

theorem add_bias : ∀ t : Fin 256, (BitVec.ofInt 32 ((t.val : ℤ) - 127) + 127#32 : BitVec 32) = BitVec.ofNat 32 t.val := by decide +kernel
theorem inv_code : ∀ t : Fin 255, (254#32 - BitVec.ofNat 32 t.val : BitVec 32) = BitVec.ofNat 32 (254 - t.val) := by decide +kernel
theorem inv_inv (e : BitVec 32) : 254#32 - (254#32 - e) = e := by
  bv_omega

/-- The exponent as a code. -/
theorem exp_code (r : ℝ) (h0 : 0 ≤ r) (h1 : r < (2 : ℝ) ^ (120 : ℤ)) :
    Ideal.fptosi 32 (expAt (r : EReal)) + 127#32 = codeAt (r : EReal) := by
  obtain ⟨n, hn0, hn1, hc, he⟩ := code_exp r h0 h1
  rw [hc, he, fptosi_int _ (by omega) (by omega)]
  exact add_bias ⟨n, by omega⟩

/-- The reciprocal scale. -/
theorem exp_inv (r : ℝ) (h0 : 0 ≤ r) (h1 : r < (2 : ℝ) ^ (120 : ℤ)) :
    Ideal.exp2 (Ideal.ofBits .f32 0x00000000#32 - expAt (r : EReal)) = powOf (254#32 - codeAt (r : EReal)) := by
  obtain ⟨n, hn0, hn1, hc, he⟩ := code_exp r h0 h1
  rw [hc, he, zero_word, zero_sub, ← EReal.coe_neg, inv_code ⟨n, by omega⟩, powOf_mid _ (by show 1 ≤ 254 - n; omega) (by show 254 - n ≤ 254; omega)]
  rw [show (-(((n : ℤ) - 127 : ℤ) : ℝ)) = ((127 - (n : ℤ) : ℤ) : ℝ) by push_cast; ring, exp2_int]
  congr 2
  show 127 - (n : ℤ) = ((254 - n : ℕ) : ℤ) - 127
  omega

/-- The scale decoded. -/
theorem code_decode (r : ℝ) (h0 : 0 ≤ r) (h1 : r < (2 : ℝ) ^ (120 : ℤ)) :
    decodeAt (codeAt (r : EReal)) = powOf (codeAt (r : EReal)) := by
  obtain ⟨n, hn0, hn1, hc, he⟩ := code_exp r h0 h1
  rw [hc]
  exact decode_eq n (by omega)

end Cert.Proof
-- ==== Proof.Lanes.lean ====
/-
  The lane permutations of a tile read at a lane, and the group maxima: after `k` levels of the butterfly a lane holds
  the maximum, over the lanes that agree with it outside those levels' bits, of the tile those bits name.
-/
module

public import proofs.«01_k».proof.Proof.Quant
public import proofs.«01_k».proof.Proof.Scale

@[expose] public section

noncomputable section

namespace Cert.Proof

open Idealize.ShloMosaic

theorem inTile_0 (a c : Nat) (ha : a < 32) : ((inTile a c) 0).val = a := Nat.mod_eq_of_lt ha
theorem inTile_1 (a c : Nat) (hc : c < 128) : ((inTile a c) 1).val = c := Nat.mod_eq_of_lt hc
theorem inTile_self (i : S32x128.Idx) : inTile (i 0).val (i 1).val = i := by
  have i0 : (i 0).val < 32 := (i 0).isLt
  have i1 : (i 1).val < 128 := (i 1).isLt
  funext a
  apply Fin.ext
  fin_cases a
  · exact Nat.mod_eq_of_lt i0
  · exact Nat.mod_eq_of_lt i1

theorem lane_at (a c : Nat) (hc : c < 128) : lane (inTile a c) = BitVec.ofNat 32 c := by
  unfold lane
  rw [iota_single_apply]
  exact congrArg (BitVec.ofNat 32) (inTile_1 a c hc)

/-- A lane number with a negative one counted from the end. -/
def wrap (v : BitVec 32) : BitVec 32 := Scalar.select (IntOp.cmpi .slt v 0#32) (v + 128#32) v

theorem wrap_of_lt : ∀ k : Fin 128, wrap (BitVec.ofNat 32 k.val) = BitVec.ofNat 32 k.val := by decide +kernel

theorem lanes_at {α : Type} (x : S32x128.Idx → α) (idx : IVec S32x128 32) (a c k : Nat) (hk : k < 128)
    (h : idx (inTile a c) = BitVec.ofNat 32 k) : lanes x idx (inTile a c) = x (inTile a k) := by
  unfold lanes dynamicGather
  rw [shapeCast_shapeCast]
  have e : (select (cmpi .slt idx (broadcast S32x128 0#32)) (addi idx (broadcast S32x128 128#32)) idx) (inTile a c)
      = BitVec.ofNat 32 k := by
    show wrap (idx (inTile a c)) = _
    rw [h]
    exact wrap_of_lt ⟨k, hk⟩
  refine congrArg x (funext fun b => Fin.ext ?_)
  fin_cases b
  · rfl
  · refine (congrArg (fun v : BitVec 32 => v.toNat % 128) e).trans ?_
    show (BitVec.ofNat 32 k).toNat % 128 = k % 128
    rw [BitVec.toNat_ofNat]
    omega

/-! ## One level -/

theorem bit_test : ∀ (l : Fin 5) (c : Fin 128), IntOp.cmpi .ne (BitVec.ofNat 32 c.val &&& BitVec.ofNat 32 (2 ^ l.val)) 0#32
    = BitVec.ofBool (decide (c.val / 2 ^ l.val % 2 = 1)) := by decide +kernel
theorem bit_flip : ∀ (l : Fin 5) (c : Fin 128), (BitVec.ofNat 32 c.val ^^^ BitVec.ofNat 32 (2 ^ l.val))
    = BitVec.ofNat 32 (c.val ^^^ 2 ^ l.val) := by decide +kernel
theorem flip_facts : ∀ (l : Fin 5) (c : Fin 128), (c.val ^^^ 2 ^ l.val) < 128
    ∧ (c.val ^^^ 2 ^ l.val) / 2 ^ (l.val + 1) = c.val / 2 ^ (l.val + 1)
    ∧ (c.val ^^^ 2 ^ l.val) % 2 ^ l.val = c.val % 2 ^ l.val
    ∧ (c.val ^^^ 2 ^ l.val) / 2 ^ l.val % 2 = 1 - c.val / 2 ^ l.val % 2 := by decide +kernel

theorem fly_at (l : Nat) (hl : l < 5) (x y : FVec Ideal S32x128 .f32) (a c : Nat) (hc : c < 128) :
    fly (BitVec.ofNat 32 (2 ^ l)) x y (inTile a c)
      = if c / 2 ^ l % 2 = 1 then max (y (inTile a c)) (y (inTile a (c ^^^ 2 ^ l)))
        else max (x (inTile a c)) (x (inTile a (c ^^^ 2 ^ l))) := by
  have ht := bit_test ⟨l, hl⟩ ⟨c, hc⟩
  have hf := bit_flip ⟨l, hl⟩ ⟨c, hc⟩
  obtain ⟨h1, h2, h3, h4⟩ := flip_facts ⟨l, hl⟩ ⟨c, hc⟩
  dsimp only at ht hf h1 h2 h3 h4
  have ht' := bit_test ⟨l, hl⟩ ⟨c ^^^ 2 ^ l, h1⟩
  dsimp only at ht'
  rw [h4] at ht'
  unfold fly
  show max (Scalar.select (IntOp.cmpi .ne (lane (inTile a c) &&& BitVec.ofNat 32 (2 ^ l)) 0#32) (y (inTile a c)) (x (inTile a c)))
    (lanes _ _ (inTile a c)) = _
  rw [lanes_at _ _ a c (c ^^^ 2 ^ l) h1 (by
    show lane (inTile a c) ^^^ _ = _
    rw [lane_at a c hc]; exact hf)]
  show max _ (Scalar.select (IntOp.cmpi .ne (lane (inTile a (c ^^^ 2 ^ l)) &&& BitVec.ofNat 32 (2 ^ l)) 0#32)
    (x (inTile a (c ^^^ 2 ^ l))) (y (inTile a (c ^^^ 2 ^ l)))) = _
  rw [lane_at a c hc, lane_at a _ h1, ht, ht']
  have hb : c / 2 ^ l % 2 < 2 := Nat.mod_lt _ (by decide)
  by_cases h : c / 2 ^ l % 2 = 1
  · rw [if_pos h, h]; rfl
  · rw [if_neg h, show c / 2 ^ l % 2 = 0 by omega]; rfl

theorem fly₁_at (l : Nat) (hl : l < 5) (x : FVec Ideal S32x128 .f32) (a c : Nat) (hc : c < 128) :
    fly₁ (BitVec.ofNat 32 (2 ^ l)) x (inTile a c) = max (x (inTile a c)) (x (inTile a (c ^^^ 2 ^ l))) := by
  have hf := bit_flip ⟨l, hl⟩ ⟨c, hc⟩
  obtain ⟨h1, -⟩ := flip_facts ⟨l, hl⟩ ⟨c, hc⟩
  unfold fly₁
  show max _ (lanes _ _ (inTile a c)) = _
  rw [lanes_at _ _ a c (c ^^^ 2 ^ l) h1 (by
    show lane (inTile a c) ^^^ _ = _
    rw [lane_at a c hc]; exact hf)]

/-! ## All levels -/

theorem maxVal_le (X : S256x6144.Idx → EReal) (r t0 a : Nat) (B : EReal) : ∀ (k l n c : Nat), l + k ≤ 5 → c < 128 →
    (maxVal (F := Ideal) X r t0 k l n (inTile a c) ≤ B ↔ ∀ c', c' < 128 → c' / 2 ^ (l + k) = c / 2 ^ (l + k) → c' % 2 ^ l = c % 2 ^ l →
      absTile (F := Ideal) (tile (F := Ideal) X r (t0 + (n + 2 ^ l * (c / 2 ^ l % 2 ^ k)))) (inTile a c') ≤ B)
  | 0, l, n, c, _, hc => by
    unfold maxVal
    rw [pow_zero, Nat.mod_one, mul_zero, add_zero]
    constructor
    · intro h c' _ h1 h2
      have : c' = c := by rw [← Nat.div_add_mod c' (2 ^ l), ← Nat.div_add_mod c (2 ^ l), h2]; rw [h1]
      rw [this]; exact h
    · intro h; exact h c hc rfl rfl
  | k + 1, l, n, c, hl, hc => by
    obtain ⟨h1, h2, h3, h4⟩ := flip_facts ⟨l, by omega⟩ ⟨c, hc⟩
    dsimp only at h1 h2 h3 h4
    have hb : c / 2 ^ l % 2 < 2 := Nat.mod_lt _ (by decide)
    have step : maxVal (F := Ideal) X r t0 (k + 1) l n (inTile a c)
        = max (maxVal (F := Ideal) X r t0 k (l + 1) (n + 2 ^ l * (c / 2 ^ l % 2)) (inTile a c))
          (maxVal (F := Ideal) X r t0 k (l + 1) (n + 2 ^ l * (c / 2 ^ l % 2)) (inTile a (c ^^^ 2 ^ l))) := by
      rw [maxVal, fly_at l (by omega) _ _ a c hc]
      by_cases h : c / 2 ^ l % 2 = 1
      · rw [if_pos h, h, mul_one]
      · rw [if_neg h, show c / 2 ^ l % 2 = 0 by omega, mul_zero, add_zero]
    have ht : n + 2 ^ l * (c / 2 ^ l % 2) + 2 ^ (l + 1) * (c / 2 ^ (l + 1) % 2 ^ k) = n + 2 ^ l * (c / 2 ^ l % 2 ^ (k + 1)) := by
      rw [show (2 : ℕ) ^ (k + 1) = 2 * 2 ^ k from pow_succ' 2 k, Nat.mod_mul, Nat.div_div_eq_div_mul, ← pow_succ]
      ring
    have hd (u v : Nat) (e : u / 2 ^ (l + 1) = v / 2 ^ (l + 1)) : u / 2 ^ (l + 1 + k) = v / 2 ^ (l + 1 + k) := by
      rw [pow_add, ← Nat.div_div_eq_div_mul, ← Nat.div_div_eq_div_mul, e]
    rw [step, max_le_iff, maxVal_le X r t0 a B k (l + 1) _ c (by omega) hc, maxVal_le X r t0 a B k (l + 1) _ _ (by omega) h1, h2,
      ht, hd _ _ h2, show l + 1 + k = l + (k + 1) by omega]
    constructor
    · rintro ⟨p, q⟩ c' hc' e1 e2
      have hb' : c' / 2 ^ l % 2 < 2 := Nat.mod_lt _ (by decide)
      by_cases e : c' / 2 ^ l % 2 = c / 2 ^ l % 2
      · refine p c' hc' e1 ?_
        rw [Nat.mod_pow_succ, Nat.mod_pow_succ, e, e2]
      · refine q c' hc' e1 ?_
        rw [Nat.mod_pow_succ, Nat.mod_pow_succ, h3, h4, e2, show c' / 2 ^ l % 2 = 1 - c / 2 ^ l % 2 by omega]
    · intro p
      have low (u v : Nat) (e : u % 2 ^ (l + 1) = v % 2 ^ (l + 1)) : u % 2 ^ l = v % 2 ^ l := by
        rw [← Nat.mod_mod_of_dvd u (pow_dvd_pow 2 (Nat.le_succ l)), ← Nat.mod_mod_of_dvd v (pow_dvd_pow 2 (Nat.le_succ l)), e]
      exact ⟨fun c' hc' e1 e2 => p c' hc' e1 (low _ _ e2), fun c' hc' e1 e2 => p c' hc' e1 ((low _ _ e2).trans h3)⟩

end Cert.Proof
-- ==== Proof.Group.lean ====
/-
  The quantiser and the decoded weights, element by element: a code, a scale and a decoded weight as functions of the
  matrix entries, with the group of a column its quotient by 32.
-/
module

public import proofs.«01_k».proof.Proof.Lanes
public import proofs.«01_k».proof.Proof.Weights

@[expose] public section

noncomputable section

namespace Cert.Proof

open Idealize.ShloMosaic

/-! ## Matrices by row and column number -/

variable {α : Type} {m n : Nat} [NeZero m] [NeZero n]

def ix (a b : Nat) : (⟨2, ![m, n]⟩ : Shape).Idx :=
  fun x => match x with | 0 => ⟨a % m, Nat.mod_lt _ (NeZero.pos m)⟩ | 1 => ⟨b % n, Nat.mod_lt _ (NeZero.pos n)⟩

/-- The entry at row `a`, column `b`. -/
def mat (X : (⟨2, ![m, n]⟩ : Shape).Idx → α) (a b : Nat) : α := X (ix a b)

theorem mat_self (X : (⟨2, ![m, n]⟩ : Shape).Idx → α) (j : (⟨2, ![m, n]⟩ : Shape).Idx) : mat X (j 0).val (j 1).val = X j := by
  have h0 : (j 0).val < m := (j 0).isLt
  have h1 : (j 1).val < n := (j 1).isLt
  refine congrArg X (funext fun a => Fin.ext ?_)
  fin_cases a
  · exact Nat.mod_eq_of_lt h0
  · exact Nat.mod_eq_of_lt h1

theorem mat_of (X : (⟨2, ![m, n]⟩ : Shape).Idx → α) (j : (⟨2, ![m, n]⟩ : Shape).Idx) (a b : Nat) (h0 : (j 0).val = a)
    (h1 : (j 1).val = b) : X j = mat X a b := by
  rw [← h0, ← h1, mat_self]

/-! ## The results -/

def absE (v : EReal) : EReal := max v (-v)

/-- The maximum of group `g` of row `a`, its exponent code, an element's code, the code scaled, the group's scale byte. -/
def gMax (x : Nat → Nat → EReal) (a g : Nat) : EReal := (Finset.range 32).sup fun d => absE (x a (32 * g + d))
def gCode (x : Nat → Nat → EReal) (a g : Nat) : BitVec 32 := codeAt (gMax x a g * Ideal.ofBits .f32 0x3B124925#32)
def qCode (x : Nat → Nat → EReal) (a b : Nat) : EReal :=
  min (Ideal.ofBits .f32 0x43E00000#32) (max (Ideal.ofBits .f32 0xC3E00000#32) (x a b * powOf (254#32 - gCode x a (b / 32))))
def qScaled (x : Nat → Nat → EReal) (a b : Nat) : EReal := qCode x a b * powOf (gCode x a (b / 32))
def qScale (x : Nat → Nat → EReal) (a g : Nat) : BitVec 8 := (gCode x a g).setWidth 8
/-- A decoded weight. -/
def wDec (w : Nat → Nat → EReal) (s : Nat → Nat → BitVec 8) (a b : Nat) : EReal := w a b * powOf ((s a (b / 32)).setWidth 32)

/-! ## The lanes -/

theorem seg_lane : ∀ (k : Fin 32) (c : Fin 128), ((BitVec.ofNat 32 c.val &&& 4294967264#32) + BitVec.ofNat 32 k.val : BitVec 32)
    = BitVec.ofNat 32 (32 * (c.val / 32) + k.val) := by decide +kernel
theorem order_lane : ∀ c : Fin 128, ((BitVec.ofNat 32 c.val &&& 3#32) * 32#32 + IntOp.shrsi .vector (BitVec.ofNat 32 c.val) 2#32 : BitVec 32)
    = BitVec.ofNat 32 (32 * (c.val % 4) + c.val / 4) := by decide +kernel
theorem half_order : ∀ d : Fin 64, 4 * ((32 * (d.val % 4) + d.val / 4) % 16) + (32 * (d.val % 4) + d.val / 4) / 32 = d.val := by
  decide +kernel
theorem weight_lane : ∀ (k : Fin 32) (c : Fin 128), (BitVec.ofNat 32 (4 * k.val) + IntOp.shrsi .vector (BitVec.ofNat 32 c.val) 5#32 : BitVec 32)
    = BitVec.ofNat 32 (4 * k.val + c.val / 32) := by decide +kernel

theorem segLanes_at (x : IVec S32x128 32) (k a c : Nat) (hk : k < 32) (hc : c < 128) :
    segLanes x (BitVec.ofNat 32 k) (inTile a c) = x (inTile a (32 * (c / 32) + k)) :=
  lanes_at x _ a c _ (by omega) (by
    show (lane (inTile a c) &&& _) + _ = _
    rw [lane_at a c hc]; exact seg_lane ⟨k, hk⟩ ⟨c, hc⟩)
theorem codeOrder_at (x : IVec S32x128 32) (a c : Nat) (hc : c < 128) :
    codeOrder x (inTile a c) = x (inTile a (32 * (c % 4) + c / 4)) :=
  lanes_at x _ a c _ (by omega) (by
    show (lane (inTile a c) &&& _) * _ + IntOp.shrsi .vector (lane (inTile a c)) _ = _
    rw [lane_at a c hc]; exact order_lane ⟨c, hc⟩)
theorem wlanes_at (x : IVec S32x128 32) (k a c : Nat) (hk : k < 32) (hc : c < 128) :
    wlanes x (BitVec.ofNat 32 (4 * k)) (inTile a c) = x (inTile a (4 * k + c / 32)) :=
  lanes_at x _ a c _ (by omega) (by
    show _ + IntOp.shrsi .vector (lane (inTile a c)) _ = _
    rw [lane_at a c hc]; exact weight_lane ⟨k, hk⟩ ⟨c, hc⟩)

/-! ## The group maxima -/

theorem rung_at (p : FVec Ideal S32x128 .f32) (k : BitVec 32) (ef : IVec S32x128 32) (i : S32x128.Idx) :
    rung (F := Ideal) p k ef i = rungAt (p i) k (ef i) := rfl
theorem ladder_at (v : FVec Ideal S32x128 .f32) (i : S32x128.Idx) :
    ladder (F := Ideal) (mulf v (broadcast S32x128 (Scalar.ofBits .f32 0x3B124925#32))) i
      = ladderAt (v i * Ideal.ofBits .f32 0x3B124925#32) := by
  unfold ladder ladderAt
  rw [rung_at, rung_at, rung_at, rung_at, rung_at, rung_at, rung_at, rung_at]
  rfl
theorem expCode_at (v : FVec Ideal S32x128 .f32) (i : S32x128.Idx) :
    expCode (F := Ideal) v i = codeAt (v i * Ideal.ofBits .f32 0x3B124925#32) := by
  unfold expCode codeAt
  rw [← ladder_at]
  rfl
theorem exps₀_eq (X : S256x6144.Idx → EReal) (r : Nat) (i : S32x128.Idx) :
    exps₀ (F := Ideal) X r i = codeAt (maxVal (F := Ideal) X r 0 5 0 0 i * Ideal.ofBits .f32 0x3B124925#32) := expCode_at _ i
theorem exps₁_eq (X : S256x6144.Idx → EReal) (r : Nat) (i : S32x128.Idx) :
    exps₁ (F := Ideal) X r i = codeAt (fly₁ (F := Ideal) 16#32 (maxVal (F := Ideal) X r 32 4 0 0) i * Ideal.ofBits .f32 0x3B124925#32) :=
  expCode_at _ i

section Quant

variable (X : S256x6144.Idx → EReal) (r a : Nat) (hr : r < 8) (ha : a < 32)
include hr ha

theorem tile_at (n c : Nat) (hn : n < 48) (hc : c < 128) :
    tile (F := Ideal) X r n (inTile a c) = mat X (32 * r + a) (128 * n + c) :=
  mat_of X _ _ _ (by
    show 32 * (r % 8) + 1 * (a % 32) = _; omega) (by
    show 128 * (n % 48) + 1 * (c % 128) = _; omega)

theorem abs_at (n c : Nat) (hn : n < 48) (hc : c < 128) :
    absTile (F := Ideal) (tile (F := Ideal) X r n) (inTile a c) = absE (mat X (32 * r + a) (128 * n + c)) := by
  rw [← tile_at X r a hr ha n c hn hc]
  unfold absTile
  rw [shapeCast_self]
  rfl

theorem exps₀_at (c : Nat) (hc : c < 128) : exps₀ (F := Ideal) X r (inTile a c) = gCode (mat X) (32 * r + a) (4 * (c % 32) + c / 32) := by
  rw [exps₀_eq]
  unfold gCode
  congr 2
  refine eq_of_forall_ge_iff fun B => ?_
  rw [maxVal_le X r 0 a B 5 0 0 c (by omega) hc]
  unfold gMax
  rw [Finset.sup_le_iff]
  constructor
  · intro h d hd
    have hd' := Finset.mem_range.1 hd
    have := h (32 * (c / 32) + d) (by omega) (by omega) (by omega)
    rw [abs_at X r a hr ha _ _ (by omega) (by omega)] at this
    rw [show 32 * (4 * (c % 32) + c / 32) + d = 128 * (0 + (0 + 2 ^ 0 * (c / 2 ^ 0 % 2 ^ 5))) + (32 * (c / 32) + d) by omega]
    exact this
  · intro h c' hc' h1 h2
    have := h (c' % 32) (Finset.mem_range.2 (by omega))
    rw [abs_at X r a hr ha _ _ (by omega) (by omega)]
    rw [show 32 * (4 * (c % 32) + c / 32) + c' % 32 = 128 * (0 + (0 + 2 ^ 0 * (c / 2 ^ 0 % 2 ^ 5))) + c' by omega] at this
    exact this

theorem exps₁_at (c : Nat) (hc : c < 128) :
    exps₁ (F := Ideal) X r (inTile a c) = gCode (mat X) (32 * r + a) (4 * (32 + c % 16) + c / 32) := by
  obtain ⟨f1, f2, f3, f4⟩ := flip_facts ⟨4, by decide⟩ ⟨c, hc⟩
  dsimp only at f1 f2 f3 f4
  rw [exps₁_eq]
  unfold gCode
  congr 2
  refine eq_of_forall_ge_iff fun B => ?_
  rw [show (16#32 : BitVec 32) = BitVec.ofNat 32 (2 ^ 4) from rfl, fly₁_at 4 (by omega) _ a c hc, max_le_iff,
    maxVal_le X r 32 a B 4 0 0 c (by omega) hc, maxVal_le X r 32 a B 4 0 0 _ (by omega) f1]
  unfold gMax
  rw [Finset.sup_le_iff]
  generalize c ^^^ 2 ^ 4 = c₁ at f1 f2 f3 f4
  constructor
  · rintro ⟨h, h'⟩ d hd
    have hd' := Finset.mem_range.1 hd
    rw [show 32 * (4 * (32 + c % 16) + c / 32) + d = 128 * (32 + c % 16) + (32 * (c / 32) + d) by omega]
    by_cases e : (32 * (c / 32) + d) / 16 = c / 16
    · have := h (32 * (c / 32) + d) (by omega) (by omega) (by omega)
      rw [abs_at X r a hr ha _ _ (by omega) (by omega)] at this
      rw [show 32 + (0 + 2 ^ 0 * (c / 2 ^ 0 % 2 ^ 4)) = 32 + c % 16 by omega] at this
      exact this
    · have := h' (32 * (c / 32) + d) (by omega) (by omega) (by omega)
      rw [abs_at X r a hr ha _ _ (by omega) (by omega)] at this
      rw [show 32 + (0 + 2 ^ 0 * (c₁ / 2 ^ 0 % 2 ^ 4)) = 32 + c % 16 by omega] at this
      exact this
  · intro h
    constructor
    · intro c' hc' h1 h2
      have := h (c' % 32) (Finset.mem_range.2 (by omega))
      rw [abs_at X r a hr ha _ _ (by omega) (by omega)]
      rw [show 32 * (4 * (32 + c % 16) + c / 32) + c' % 32 = 128 * (32 + (0 + 2 ^ 0 * (c / 2 ^ 0 % 2 ^ 4))) + c' by omega] at this
      exact this
    · intro c' hc' h1 h2
      have := h (c' % 32) (Finset.mem_range.2 (by omega))
      rw [abs_at X r a hr ha _ _ (by omega) (by omega)]
      rw [show 32 * (4 * (32 + c % 16) + c / 32) + c' % 32 = 128 * (32 + (0 + 2 ^ 0 * (c₁ / 2 ^ 0 % 2 ^ 4))) + c' by omega] at this
      exact this

/-! ## The tiles -/

theorem tileInv_at (n c : Nat) (hn : n < 48) (hc : c < 128) :
    tileInv (F := Ideal) X r n (inTile a c) = 254#32 - gCode (mat X) (32 * r + a) (4 * n + c / 32) := by
  unfold tileInv
  rw [segLanes_at _ _ a c (by omega) hc]
  by_cases h : n < 32
  · rw [if_pos h]
    show 254#32 - exps₀ (F := Ideal) X r _ = _
    rw [exps₀_at X r a hr ha _ (by omega)]
    congr 2; omega
  · rw [if_neg h]
    show 254#32 - exps₁ (F := Ideal) X r _ = _
    rw [exps₁_at X r a hr ha _ (by omega)]
    congr 2; omega

theorem tileCodes_at (n c : Nat) (hn : n < 48) (hc : c < 128) :
    tileCodes (F := Ideal) X r n (inTile a c) = qCode (mat X) (32 * r + a) (128 * n + c) := by
  unfold tileCodes codesTile qCode
  rw [shapeCast_self]
  show min _ (max _ (tile (F := Ideal) X r n (inTile a c) * powOf (tileInv (F := Ideal) X r n (inTile a c)))) = _
  rw [tileInv_at X r a hr ha n c hn hc, tile_at X r a hr ha n c hn hc, show (128 * n + c) / 32 = 4 * n + c / 32 by omega]
  rfl

theorem tileScaled_at (n c : Nat) (hn : n < 48) (hc : c < 128) :
    tileScaled (F := Ideal) X r n (inTile a c) = qScaled (mat X) (32 * r + a) (128 * n + c) := by
  unfold tileScaled scaledTile qScaled
  show tileCodes (F := Ideal) X r n (inTile a c) * powOf (254#32 - tileInv (F := Ideal) X r n (inTile a c)) = _
  rw [tileInv_at X r a hr ha n c hn hc, tileCodes_at X r a hr ha n c hn hc, inv_inv, show (128 * n + c) / 32 = 4 * n + c / 32 by omega]

end Quant

/-! ## A block -/

section Block

variable (X : S256x6144.Idx → EReal)

theorem codesOf_at (j : S256x6144.Idx) : codesOf (F := Ideal) X j = qCode (mat X) (j 0).val (j 1).val := by
  have h0 : (j 0).val < 256 := (j 0).isLt
  have h1 : (j 1).val < 6144 := (j 1).isLt
  unfold codesOf
  have := tileCodes_at X ((j 0).val / 32) ((j 0).val % 32) (by omega) (by omega) ((j 1).val / 128) ((j 1).val % 128) (by omega) (by omega)
  rw [show 32 * ((j 0).val / 32) + (j 0).val % 32 = (j 0).val by omega, show 128 * ((j 1).val / 128) + (j 1).val % 128 = (j 1).val by omega] at this
  rw [← this]
  refine congrArg _ (funext fun b => Fin.ext ?_)
  fin_cases b
  · show _ % 32 = _ % 32 % 32; omega
  · show _ % 128 = _ % 128 % 128; omega

theorem scaledOf_at (a b : Nat) (h0 : a < 256) (h1 : b < 6144) : scaledOf (F := Ideal) X a b = qScaled (mat X) a b := by
  unfold scaledOf
  have := tileScaled_at X (a / 32) (a % 32) (by omega) (by omega) (b / 128) (b % 128) (by omega) (by omega)
  rw [show 32 * (a / 32) + a % 32 = a by omega, show 128 * (b / 128) + b % 128 = b by omega] at this
  rw [← this]
  refine congrArg _ (funext fun b => Fin.ext ?_)
  fin_cases b
  · show _ % 32 = _ % 32 % 32; omega
  · show _ % 128 = _ % 128 % 128; omega

theorem scalesOf_at (j : S256x192.Idx) : scalesOf (F := Ideal) X j = qScale (mat X) (j 0).val (j 1).val := by
  have h0 : (j 0).val < 256 := (j 0).isLt
  have h1 : (j 1).val < 192 := (j 1).isLt
  unfold scalesOf qScale
  by_cases h : (j 1).val < 128
  · rw [if_pos h]
    unfold tileScales
    rw [show inTile (j 0).val (j 1).val = inTile ((j 0).val % 32) (j 1).val from funext fun b => Fin.ext (by
      fin_cases b
      · show _ % 32 = _ % 32 % 32; omega
      · rfl)]
    show (codeOrder (exps₀ (F := Ideal) X ((j 0).val / 32)) _).setWidth 8 = _
    rw [codeOrder_at _ _ _ h, exps₀_at X _ _ (by omega) (by omega) _ (by omega)]
    congr 2 <;> omega
  · rw [if_neg h]
    unfold tileScales'
    show (extractStridedSlice S32x64 ![0, 0] (codeOrder (exps₁ (F := Ideal) X ((j 0).val / 32))) slices_half _).setWidth 8 = _
    rw [extractStridedSlice_apply _ _ _ _ (inTile ((j 0).val % 32) ((j 1).val - 128)) (by
      intro b
      fin_cases b
      · show _ % 32 % 32 = 0 + _ % 32; omega
      · show ((j 1).val - 128) % 128 = 0 + ((j 1).val - 128) % 64; omega)]
    rw [codeOrder_at _ _ _ (by omega), exps₁_at X _ _ (by omega) (by omega) _ (by omega)]
    have k := half_order ⟨(j 1).val - 128, by omega⟩
    dsimp only at k
    congr 2 <;> omega

end Block

/-! ## The weights -/

theorem inWs_at (S : S2112x192.Idx → BitVec 8) (a b : Nat) : S (inWs a b) = mat S a b :=
  congrArg S (funext fun x => by fin_cases x <;> rfl)
theorem inW_at (W : S2112x6144.Idx → EReal) (a b : Nat) : W (inW a b) = mat W a b :=
  congrArg W (funext fun x => by fin_cases x <;> rfl)

theorem wExp_at (S : S2112x192.Idx → BitVec 8) (T n a c : Nat) (hT : T < 66) (hn : n < 48) (ha : a < 32) (hc : c < 128) :
    wExp (F := Ideal) S T n (inTile a c) = (mat S (32 * T + a) (4 * n + c / 32)).setWidth 32 := by
  unfold wExp
  by_cases h : n < 32
  · rw [if_pos h, wlanes_at _ n a c h hc]
    show (S (inWs (32 * T + a % 32) ((4 * n + c / 32) % 128))).setWidth 32 = _
    rw [show a % 32 = a by omega, show (4 * n + c / 32) % 128 = 4 * n + c / 32 by omega, inWs_at S]
  · rw [if_neg h, wlanes_at _ (n - 32) a c (by omega) hc]
    unfold wcodes'
    rw [concatenate_pair_apply_left (s₁ := S32x64) (t := S32x128) 1 _ _ _ _ rfl (inHalf a (4 * (n - 32) + c / 32)) (by
      intro b
      fin_cases b
      · rfl
      · show (4 * (n - 32) + c / 32) % 64 = (4 * (n - 32) + c / 32) % 128; omega)]
    show (S (inWs (32 * T + a % 32) (128 + (4 * (n - 32) + c / 32) % 64))).setWidth 32 = _
    rw [show a % 32 = a by omega, show 128 + (4 * (n - 32) + c / 32) % 64 = 4 * n + c / 32 by omega, inWs_at S]

theorem waOf_at (W : S2112x6144.Idx → EReal) (S : S2112x192.Idx → BitVec 8) (j : S2112x6144.Idx) :
    waOf (F := Ideal) W S j = wDec (mat W) (mat S) (j 0).val (j 1).val := by
  have h0 : (j 0).val < 2112 := (j 0).isLt
  have h1 : (j 1).val < 6144 := (j 1).isLt
  unfold waOf decTile wDec
  rw [shapeCast_self, show inTile (j 0).val (j 1).val = inTile ((j 0).val % 32) ((j 1).val % 128) from funext fun b => Fin.ext (by
      fin_cases b
      · show _ % 32 = _ % 32 % 32; omega
      · show _ % 128 = _ % 128 % 128; omega)]
  show W (inW (32 * ((j 0).val / 32) + (j 0).val % 32 % 32) (128 * ((j 1).val / 128) + (j 1).val % 128 % 128)) * powOf (wExp (F := Ideal) S _ _ _) = _
  rw [wExp_at S _ _ _ _ (by omega) (by omega) (by omega) (by omega)]
  rw [show 32 * ((j 0).val / 32) + (j 0).val % 32 % 32 = (j 0).val by omega, show 128 * ((j 1).val / 128) + (j 1).val % 128 % 128 = (j 1).val by omega,
    show 32 * ((j 0).val / 32) + (j 0).val % 32 = (j 0).val by omega, show 4 * ((j 1).val / 128) + (j 1).val % 128 / 32 = (j 1).val / 32 by omega, inW_at W]

end Cert.Proof
-- ==== Proof.Project.lean ====
/-
  The projections element by element: a product of two matrices along their rows, a row normalised by the mean of its
  squares, and the three results of a block in these terms.
-/
module

public import proofs.«01_k».proof.Proof.Group
public import proofs.«01_k».proof.Proof.Step
public import Idealize.ShloMosaic.Lib.MatmulPlain

@[expose] public section

noncomputable section

namespace Cert.Proof

open Idealize.ShloMosaic

/-! ## Products and row sums -/

/-- Row `a` of `Q` against row `n` of `D`. -/
def yOf (Q D : Nat → Nat → EReal) (a n : Nat) : EReal := ∑ k : Fin 6144, Q a k * D n k

/-- Column `n` of the `len` columns from `off` on, divided by the root mean square of those columns, `c` the reciprocal of
    their number, and scaled. -/
def normOf (y : Nat → Nat → EReal) (off len : Nat) (c : EReal) (g : Nat → EReal) (a n : Nat) : EReal :=
  y a (off + n) * Ideal.rsqrt ((∑ k : Fin len, y a (off + k) * y a (off + k)) * c + Ideal.ofBits .f32 0x358637BD#32) * g n

theorem yOf_congr {Q Q' D D' : Nat → Nat → EReal} {a a' n n' : Nat} (hQ : ∀ k < 6144, Q a k = Q' a' k)
    (hD : ∀ k < 6144, D n k = D' n' k) : yOf Q D a n = yOf Q' D' a' n' :=
  Finset.sum_congr rfl fun k _ => by rw [hQ k k.isLt, hD k k.isLt]

theorem normOf_congr {y y' : Nat → Nat → EReal} {off off' len a a' n : Nat} {c : EReal} {g g' : Nat → EReal} (hn : n < len)
    (hy : ∀ k < len, y a (off + k) = y' a' (off' + k)) (hg : g n = g' n) :
    normOf y off len c g a n = normOf y' off' len c g' a' n := by
  unfold normOf
  rw [hy n hn, hg, Finset.sum_congr rfl fun k _ => by rw [hy k k.isLt]]

section Ops

variable {M K N : Nat} [NeZero M] [NeZero K] [NeZero N]

theorem mat_ix2 {α : Type} (X : (⟨2, ![M, N]⟩ : Shape).Idx → α) (a : Fin M) (b : Fin N) : X (ValueIdx.ix2 a b) = mat X a.val b.val :=
  mat_of X _ _ _ rfl rfl

theorem dot_at {φ₁ φ₂ : FTy} (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (j : (⟨2, ![M, N]⟩ : Shape).Idx) :
    FloatOps.matmul d none lhs rhs (constant ⟨2, ![M, N]⟩ .f32 0x00000000#32) j
      = ∑ k : Fin K, mat lhs (j 0).val k.val * mat rhs (j 1).val k.val := by
  subst hd
  obtain ⟨r, c, rfl⟩ : ∃ (r : Fin M) (c : Fin N), j = ValueIdx.ix2 r c := ⟨j 0, j 1, ValueIdx.eq_ix2 j⟩
  rw [Ideal.matmul_transposedRhs_apply]
  show Ideal.ofBits .f32 0x00000000#32 + _ = _
  rw [Ideal.ofBits_zero_f32, zero_add]
  exact Finset.sum_congr rfl fun k _ => by rw [mat_ix2 lhs, mat_ix2 rhs]; rfl

theorem rowSum_at (src : FVec Ideal ⟨2, ![M, N]⟩ .f32) (h : (⟨2, ![M, N]⟩ : Shape).Reduces [1] ⟨1, ![M]⟩) (hφ) (hacc)
    (i : (⟨1, ![M]⟩ : Shape).Idx) :
    multiReduction .add [1] ⟨1, ![M]⟩ src 0x00000000#32 h hφ hacc i = ∑ k : Fin N, mat src (i 0).val k.val := by
  rw [Ideal.multiReduction_add_single]
  refine Finset.sum_congr rfl fun k _ => mat_of src _ _ _ ?_ ?_
  · rfl
  · rfl

/-- A column of length `M` at a row. -/
theorem column_at {α : Type} (x : (⟨1, ![M]⟩ : Shape).Idx → α) (h : (⟨1, ![M]⟩ : Shape).ShapeCasts ⟨2, ![M, 1]⟩)
    (j : (⟨2, ![M, 1]⟩ : Shape).Idx) (i : (⟨1, ![M]⟩ : Shape).Idx) (hi : (i 0).val = (j 0).val) : shapeCast ⟨2, ![M, 1]⟩ x h j = x i := by
  refine shapeCast_apply x h j i ?_
  rw [Shape.rowMajor_val_one, Shape.rowMajor_val_two]
  have : (j 1).val < 1 := (j 1).isLt
  show (i 0).val = (j 0).val * 1 + (j 1).val
  omega

/-- A column spread over the columns, a row spread over the rows. -/
theorem spread_column {α : Type} (x : (⟨2, ![M, 1]⟩ : Shape).Idx → α) (h : (⟨2, ![M, 1]⟩ : Shape).Broadcasts ⟨2, ![M, N]⟩)
    (j : (⟨2, ![M, N]⟩ : Shape).Idx) : broadcastTo ⟨2, ![M, N]⟩ x h j = mat x (j 0).val 0 := by
  refine broadcastTo_apply x h j _ fun a => ?_
  have h0 : (j 0).val < M := (j 0).isLt
  fin_cases a
  · show (j 0).val % M = if M = 1 then 0 else (j 0).val
    rw [Nat.mod_eq_of_lt h0]
    split
    · omega
    · rfl
  · rfl
theorem spread_row {α : Type} (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = mat x 0 (j 1).val := by
  refine broadcastTo_apply x h j _ fun a => ?_
  have h0 : (j 1).val < N := (j 1).isLt
  fin_cases a
  · rfl
  · show (j 1).val % N = if N = 1 then 0 else (j 1).val
    rw [Nat.mod_eq_of_lt h0]
    split
    · omega
    · rfl

end Ops

/-! ## The results of a block -/

section Block

variable (P : S256x6144.Idx → EReal) (W : S2112x6144.Idx → EReal)

theorem rms_at (c : EReal) (ss : FVec Ideal S256 .f32) (a : Nat) (i : S256.Idx) (hi : (i 0).val = a) :
    mat (rms (F := Ideal) c ss) a 0 = Ideal.rsqrt (ss i * c + Ideal.ofBits .f32 0x358637BD#32) := by
  have h0 : (i 0).val < 256 := (i 0).isLt
  unfold mat rms
  show Ideal.rsqrt (shapeCast S256x1 ss cast_row (ix a 0) * c + _) = _
  rw [column_at ss cast_row (ix a 0) i (by show _ = a % 256; omega)]
  rfl

theorem qDot_at (j : S256x1536.Idx) :
    qDot (F := Ideal) P (fun j => W (wqRect.emb j)) j = yOf (mat P) (mat W) (j 0).val (0 + (j 1).val) := by
  have h1 : (j 1).val < 1536 := (j 1).isLt
  unfold qDot
  refine (dot_at (M := 256) (K := 6144) (N := 1536) (φ₁ := .bf16) (φ₂ := .bf16) dots_q rfl _ _ j).trans (Finset.sum_congr rfl fun k _ => congrArg (fun v : EReal => mat P (j 0).val k.val * v) ?_)
  have hk := k.isLt
  exact mat_of W _ _ _ (by show 0 + 1 * ((j 1).val % 1536) = _; omega) (by show 0 + 1 * (k.val % 6144) = _; omega)
theorem kvDot_at (j : S256x512.Idx) :
    kvDot (F := Ideal) P (fun j => W (wkvRect.emb j)) j = yOf (mat P) (mat W) (j 0).val (1536 + (j 1).val) := by
  have h1 : (j 1).val < 512 := (j 1).isLt
  unfold kvDot
  refine (dot_at (M := 256) (K := 6144) (N := 512) (φ₁ := .bf16) (φ₂ := .bf16) dots_kv rfl _ _ j).trans (Finset.sum_congr rfl fun k _ => congrArg (fun v : EReal => mat P (j 0).val k.val * v) ?_)
  have hk := k.isLt
  exact mat_of W _ _ _ (by show 1536 + 1 * ((j 1).val % 512) = _; omega) (by show 0 + 1 * (k.val % 6144) = _; omega)

theorem qRes_at (c : EReal) (G : S1x1536.Idx → EReal) (j : S256x1536.Idx) :
    qRes (F := Ideal) c P W G j = normOf (yOf (mat P) (mat W)) 0 1536 c (mat G 0) (j 0).val (j 1).val := by
  have h0 : (j 0).val < 256 := (j 0).isLt
  unfold qRes qOut
  rw [shapeCast_self]
  show qDot (F := Ideal) P _ j * broadcastTo S256x1536 _ bc_row_q j * broadcastTo S256x1536 G bc_g_q j = _
  rw [qDot_at, spread_column _ bc_row_q j, spread_row _ bc_g_q j, rms_at c _ _ (ValueIdx.ix1 (⟨(j 0).val, h0⟩ : Fin 256)) rfl]
  unfold normOf
  refine congrArg (fun s => _ * Ideal.rsqrt (s * c + _) * _) ?_
  refine (rowSum_at _ red_q _ _ _).trans (Finset.sum_congr rfl fun k _ => ?_)
  have hk := k.isLt
  show qDot (F := Ideal) P _ (ix _ _) * qDot (F := Ideal) P _ (ix _ _) = _
  rw [qDot_at]
  show yOf _ _ ((j 0).val % 256) (0 + k.val % 1536) * yOf _ _ ((j 0).val % 256) (0 + k.val % 1536) = _
  rw [Nat.mod_eq_of_lt h0, Nat.mod_eq_of_lt hk]

theorem kvRes_at (G : S1x512.Idx → EReal) (j : S256x512.Idx) :
    kvRes (F := Ideal) P W G j
      = normOf (yOf (mat P) (mat W)) 1536 512 (Ideal.ofBits .f32 0x3B000000#32) (mat G 0) (j 0).val (j 1).val := by
  have h0 : (j 0).val < 256 := (j 0).isLt
  unfold kvRes kvOut
  rw [shapeCast_self]
  show kvDot (F := Ideal) P _ j * broadcastTo S256x512 _ bc_row_kv j * broadcastTo S256x512 G bc_g_kv j = _
  rw [kvDot_at, spread_column _ bc_row_kv j, spread_row _ bc_g_kv j, rms_at _ _ _ (ValueIdx.ix1 (⟨(j 0).val, h0⟩ : Fin 256)) rfl]
  unfold normOf
  refine congrArg (fun s => _ * Ideal.rsqrt (s * _ + _) * _) ?_
  refine (rowSum_at _ red_kv _ _ _).trans (Finset.sum_congr rfl fun k _ => ?_)
  have hk := k.isLt
  show kvDot (F := Ideal) P _ (ix _ _) * kvDot (F := Ideal) P _ (ix _ _) = _
  rw [kvDot_at]
  show yOf _ _ ((j 0).val % 256) (1536 + k.val % 512) * yOf _ _ ((j 0).val % 256) (1536 + k.val % 512) = _
  rw [Nat.mod_eq_of_lt h0, Nat.mod_eq_of_lt hk]

theorem narrow_at {s : Shape} (v : FVec Ideal s .f32) (j : s.Idx) : truncf (F := Ideal) .bf16 v bf16_lt_f32 j = v j := rfl
theorem turned_at {α : Type} (x : S64x256.Idx → α) (j : S256x64.Idx) :
    transpose S256x64 [1, 0] x tr_kpe j = mat x (j 1).val (j 0).val := by
  have h0 : (j 0).val < 256 := (j 0).isLt
  have h1 : (j 1).val < 64 := (j 1).isLt
  refine transpose_apply [1, 0] x tr_kpe j (ix (m := 64) (n := 256) (j 1).val (j 0).val) fun b => ?_
  fin_cases b
  · exact Nat.mod_eq_of_lt h0
  · exact Nat.mod_eq_of_lt h1

theorem kpeRes_at (j : S256x64.Idx) : kpeRes (F := Ideal) P W j = yOf (mat P) (mat W) (j 0).val (2048 + (j 1).val) := by
  have h0 : (j 0).val < 256 := (j 0).isLt
  have h1 : (j 1).val < 64 := (j 1).isLt
  unfold kpeRes kpeOut
  rw [narrow_at, turned_at]
  unfold mat
  refine (dot_at (M := 64) (K := 6144) (N := 256) (φ₁ := .bf16) (φ₂ := .bf16) dots_kpe rfl _ _ _).trans (Finset.sum_congr rfl fun k _ => ?_)
  have hk := k.isLt
  rw [mul_comm]
  refine congrArg₂ _ ?_ ?_
  · show mat P ((j 0).val % 256) _ = _
    rw [Nat.mod_eq_of_lt h0]; rfl
  · exact mat_of W _ _ _ (by show 2048 + 1 * ((j 1).val % 64 % 64) = _; omega) (by show 0 + 1 * (k.val % 6144) = _; omega)

end Block

end Cert.Proof
-- ==== Proof.KernelIdealValue.lean ====
/-
  The kernel's result arrays after the run, each as one function of the arrays the launch finds: the points' blocks tile
  each array, and a block's entries are the array's entries 256 rows per block further down.
-/
module

public import proofs.«01_k».proof.Proof.KernelIdealLaunch
public import proofs.«01_k».proof.Proof.Project

@[expose] public section

noncomputable section

namespace Cert.Proof

open Idealize.ShloMosaic

/-! ## The quantiser reads one row -/

section Row

variable {x x' : Nat → Nat → EReal} {a a' : Nat} (h : ∀ k < 6144, x a k = x' a' k)
include h

theorem gCode_congr {g : Nat} (hg : g < 192) : gCode x a g = gCode x' a' g := by
  unfold gCode gMax
  rw [Finset.sup_congr rfl fun d hd => by rw [h (32 * g + d) (by have := Finset.mem_range.1 hd; omega)]]
theorem qCode_congr {b : Nat} (hb : b < 6144) : qCode x a b = qCode x' a' b := by
  unfold qCode
  rw [h b hb, gCode_congr h (by omega)]
theorem qScaled_congr {b : Nat} (hb : b < 6144) : qScaled x a b = qScaled x' a' b := by
  unfold qScaled
  rw [qCode_congr h hb, gCode_congr h (by omega)]
theorem qScale_congr {g : Nat} (hg : g < 192) : qScale x a g = qScale x' a' g := by
  unfold qScale
  rw [gCode_congr h hg]

end Row

/-! ## The results from the arrays -/

section Results

variable (X : Nat → Nat → EReal) (W : Nat → Nat → EReal) (S : Nat → Nat → BitVec 8) (g : Nat → EReal)

/-- The product of the scaled activations and the decoded weights. -/
def proj : Nat → Nat → EReal := yOf (qScaled X) (wDec W S)

def qArr (c : EReal) (j : (⟨2, ![15360, 1536]⟩ : Shape).Idx) : EReal := normOf (proj X W S) 0 1536 c g (j 0).val (j 1).val
def kvArr (c : EReal) (j : (⟨2, ![15360, 512]⟩ : Shape).Idx) : EReal := normOf (proj X W S) 1536 512 c g (j 0).val (j 1).val
def kpeArr (j : (⟨2, ![15360, 64]⟩ : Shape).Idx) : EReal := proj X W S (j 0).val (2048 + (j 1).val)
def codeArr (j : (⟨2, ![15360, 6144]⟩ : Shape).Idx) : EReal := qCode X (j 0).val (j 1).val
def scaleArr (j : (⟨2, ![15360, 192]⟩ : Shape).Idx) : BitVec 8 := qScale X (j 0).val (j 1).val

end Results

end Cert.Proof

namespace Cert.KernelIdeal.Launch

open Cert.KernelIdeal Cert.KernelIdeal.Gen Cert.Proof
open Idealize.ShloMosaic Idealize.ShloMosaic.TcCoe
open Idealize.SL.Sem
open Idealize.ShloMosaic.Pipeline (Dat)

variable (m : (ℓ : Loc nD τ sig) → Buf (Elt Ideal) ℓ) (c : Dev nD)

/-! ## The arrays as the launch finds them -/

def xArr : S15360x6144.Idx → EReal := V m c main_v0
def wArr : S2112x6144.Idx → EReal := V m c main_arg1
def sArr : S2112x192.Idx → BitVec 8 := V m c main_arg2
def gqArr : S1x1536.Idx → EReal := V m c main_v1
def gkvArr : S1x512.Idx → EReal := V m c main_v2

/-! ## Where the windows lie -/

theorem index0 : ∀ t : Fin cfg0.N, win0_0.index t (0 : Fin 2) = min t.val 59 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val - 1 ∧ win0_4.index t (1 : Fin 2) = 0 :=
  (by decide +kernel : ∀ t : Fin grid0.N, _)
theorem index5 : ∀ t : Fin cfg0.N, win0_5.index t (0 : Fin 2) = t.val - 1 ∧ win0_5.index t (1 : Fin 2) = 0 :=
  (by decide +kernel : ∀ t : Fin grid0.N, _)
theorem index6 : ∀ t : Fin cfg0.N, win0_6.index t (0 : Fin 2) = t.val - 1 ∧ win0_6.index t (1 : Fin 2) = 0 :=
  (by decide +kernel : ∀ t : Fin grid0.N, _)
theorem index7 : ∀ t : Fin cfg0.N, win0_7.index t (0 : Fin 2) = min t.val 59 ∧ win0_7.index t (1 : Fin 2) = 0 :=
  (by decide +kernel : ∀ t : Fin grid0.N, _)
theorem index8 : ∀ t : Fin cfg0.N, win0_8.index t (0 : Fin 2) = min t.val 59 ∧ win0_8.index t (1 : Fin 2) = 0 :=
  (by decide +kernel : ∀ t : Fin grid0.N, _)

theorem flush4 : ∀ t : Fin cfg0.N, (cfg0.win 4).flush t = true ↔ 1 ≤ t.val :=
  (by decide +kernel : ∀ t : Fin grid0.N, win0_4.flush t = true ↔ 1 ≤ t.val)
theorem flush5 : ∀ t : Fin cfg0.N, (cfg0.win 5).flush t = true ↔ 1 ≤ t.val :=
  (by decide +kernel : ∀ t : Fin grid0.N, win0_5.flush t = true ↔ 1 ≤ t.val)
theorem flush6 : ∀ t : Fin cfg0.N, (cfg0.win 6).flush t = true ↔ 1 ≤ t.val :=
  (by decide +kernel : ∀ t : Fin grid0.N, win0_6.flush t = true ↔ 1 ≤ t.val)
theorem flush7 : ∀ t : Fin cfg0.N, (cfg0.win 7).flush t = true ↔ t.val ≠ 59 :=
  (by decide +kernel : ∀ t : Fin grid0.N, win0_7.flush t = true ↔ t.val ≠ 59)
theorem flush8 : ∀ t : Fin cfg0.N, (cfg0.win 8).flush t = true ↔ t.val ≠ 59 :=
  (by decide +kernel : ∀ t : Fin grid0.N, win0_8.flush t = true ↔ t.val ≠ 59)

/-! ## What the body is given -/

theorem x_at (t : Fin cfg0.N) (a k : Nat) (ha : a < 256) (hk : k < 6144) :
    mat (m := 256) (n := 6144) (iblk m c 0 t : S256x6144.Idx → EReal) a k = mat (xArr m c) (256 * min t.val 59 + a) k := by
  obtain ⟨e0, e1⟩ := index0 t
  exact mat_of (xArr m c) (((cfg0.win 0).blk t).view.emb (ix (m := 256) (n := 6144) a k)) _ _ (by
    show win0_0.index t (0 : Fin 2) * 256 + 1 * (a % 256) = _; omega) (by
    show win0_0.index t (1 : Fin 2) * 6144 + 1 * (k % 6144) = _; omega)

theorem wsIn_eq : (wsIn m c : S2112x192.Idx → BitVec 8) = sArr m c := by
  obtain ⟨e0, e1⟩ := index1 ⟨0, by decide⟩
  funext j
  exact congrArg (sArr m c) (funext fun a => Fin.ext (by
    match a with
    | ⟨0, _⟩ => show win0_1.index ⟨0, by decide⟩ (0 : Fin 2) * 2112 + 1 * (j 0).val = (j 0).val; omega
    | ⟨1, _⟩ => show win0_1.index ⟨0, by decide⟩ (1 : Fin 2) * 192 + 1 * (j 1).val = (j 1).val; omega))
theorem gqIn_eq : (gqIn m c : S1x1536.Idx → EReal) = gqArr m c := by
  obtain ⟨e0, e1⟩ := index2 ⟨0, by decide⟩
  funext j
  exact congrArg (gqArr m c) (funext fun a => Fin.ext (by
    match a with
    | ⟨0, _⟩ => show win0_2.index ⟨0, by decide⟩ (0 : Fin 2) * 1 + 1 * (j 0).val = (j 0).val; omega
    | ⟨1, _⟩ => show win0_2.index ⟨0, by decide⟩ (1 : Fin 2) * 1536 + 1 * (j 1).val = (j 1).val; omega))
theorem gkvIn_eq : (gkvIn m c : S1x512.Idx → EReal) = gkvArr m c := by
  obtain ⟨e0, e1⟩ := index3 ⟨0, by decide⟩
  funext j
  exact congrArg (gkvArr m c) (funext fun a => Fin.ext (by
    match a with
    | ⟨0, _⟩ => show win0_3.index ⟨0, by decide⟩ (0 : Fin 2) * 1 + 1 * (j 0).val = (j 0).val; omega
    | ⟨1, _⟩ => show win0_3.index ⟨0, by decide⟩ (1 : Fin 2) * 512 + 1 * (j 1).val = (j 1).val; omega))

theorem wIn_at (a k : Nat) (ha : a < 2112) (hk : k < 6144) :
    mat (m := 2112) (n := 6144) (wIn m c : S2112x6144.Idx → EReal) a k = wDec (mat (wArr m c)) (mat (sArr m c)) a k := by
  unfold mat wIn
  rw [waOf_at, wsIn_eq]
  show wDec (mat (wArr m c)) _ (a % 2112) (k % 6144) = _
  rw [Nat.mod_eq_of_lt ha, Nat.mod_eq_of_lt hk]
  rfl

/-- The block a later point projects: the rows of the block before, quantised and scaled back. -/
theorem held_at (t : Fin cfg0.N) (ht : 1 ≤ t.val) (a k : Nat) (ha : a < 256) (hk : k < 6144) :
    mat (m := 256) (n := 6144) (held m c t.val : S256x6144.Idx → EReal) a k = qScaled (mat (xArr m c)) (256 * (t.val - 1) + a) k := by
  have hN : t.val < 61 := t.isLt
  obtain ⟨n, hn⟩ : ∃ n, t.val = n + 1 := ⟨t.val - 1, by omega⟩
  have hn' : n < cfg0.N := by show n < 61; omega
  rw [hn, held_succ m c ⟨n, hn'⟩]
  show scaledOf (F := Ideal) (iblk m c 0 ⟨n, hn'⟩) (a % 256) (k % 6144) = _
  rw [Nat.mod_eq_of_lt ha, Nat.mod_eq_of_lt hk, scaledOf_at _ a k ha hk]
  refine qScaled_congr (fun k' hk' => ?_) hk
  rw [x_at m c ⟨n, hn'⟩ a k' ha hk']
  congr 1
  show 256 * min n 59 + a = 256 * (n + 1 - 1) + a
  omega

theorem proj_at (t : Fin cfg0.N) (ht : 1 ≤ t.val) (a n : Nat) (ha : a < 256) (hn : n < 2112) :
    yOf (mat (m := 256) (n := 6144) (held m c t.val : S256x6144.Idx → EReal)) (mat (m := 2112) (n := 6144) (wIn m c : S2112x6144.Idx → EReal)) a n
      = proj (mat (xArr m c)) (mat (wArr m c)) (mat (sArr m c)) (256 * (t.val - 1) + a) n :=
  yOf_congr (fun k hk => held_at m c t ht a k ha hk) (fun k hk => wIn_at m c n k hn hk)

/-! ## The result arrays -/

theorem q_flushed (t : Fin cfg0.N) (hf : (cfg0.win 4).flush t = true) : (dats m 0 c).flushed 4 t = ((cfg0.win 4).blk t).view.read (Elt Ideal)
    (qArr (mat (xArr m c)) (mat (wArr m c)) (mat (sArr m c)) (mat (gqArr m c) 0) (invRank (F := Ideal))) := by
  have ht := (flush4 t).1 hf
  obtain ⟨e0, e1⟩ := index4 t
  show (cfg0.win 4).cut (grid0.coords t) ((dats m 0 c).after 4 t) = _
  rw [after4_eq]
  funext y
  have y0 : (y 0).val < 256 := (y 0).isLt
  have y1 : (y 1).val < 1536 := (y 1).isLt
  refine (qRes_at (held m c t.val) (wIn m c) (invRank (F := Ideal)) (gqIn m c) y).trans ?_
  rw [gqIn_eq]
  show _ = qArr _ _ _ _ _ (((cfg0.win 4).blk t).view.emb y)
  unfold qArr
  rw [show ((((cfg0.win 4).blk t).view.emb y) 0).val = 256 * (t.val - 1) + (y 0).val from by
      show win0_4.index t (0 : Fin 2) * 256 + 1 * (y 0).val = _; omega,
    show ((((cfg0.win 4).blk t).view.emb y) 1).val = (y 1).val from by
      show win0_4.index t (1 : Fin 2) * 1536 + 1 * (y 1).val = _; omega]
  exact normOf_congr y1 (fun k hk => proj_at m c t ht _ _ y0 (by omega)) rfl

theorem q_final : (dats m 0 c).arrAt 4 cfg0.N
    = qArr (mat (xArr m c)) (mat (wArr m c)) (mat (sArr m c)) (mat (gqArr m c) 0) (invRank (F := Ideal)) :=
  (dats m 0 c).arrAt_eq_of_cover 4 _ (q_flushed m c) fun (i : S15360x1536.Idx) => by
    have i0 : (i 0).val < 15360 := (i 0).isLt
    have i1 : (i 1).val < 1536 := (i 1).isLt
    have hN : (i 0).val / 256 + 1 < cfg0.N := by show _ < 61; omega
    obtain ⟨e0, e1⟩ := index4 ⟨_, hN⟩
    dsimp only at e0
    refine ⟨⟨_, hN⟩, (flush4 _).2 (by show 1 ≤ (i 0).val / 256 + 1; omega), ?_⟩
    have h := ((cfg0.win 4).blk ⟨_, hN⟩).view.emb_mem_set (ix (m := 256) (n := 1536) (i 0).val (i 1).val)
    have e : ((cfg0.win 4).blk ⟨_, hN⟩).view.emb (ix (m := 256) (n := 1536) (i 0).val (i 1).val) = i := funext fun a => Fin.ext (by
      match a with
      | ⟨0, _⟩ => show win0_4.index ⟨_, hN⟩ (0 : Fin 2) * 256 + 1 * ((i 0).val % 256) = (i 0).val; omega
      | ⟨1, _⟩ => show win0_4.index ⟨_, hN⟩ (1 : Fin 2) * 1536 + 1 * ((i 1).val % 1536) = (i 1).val; omega)
    rwa [e] at h

theorem kv_flushed (t : Fin cfg0.N) (hf : (cfg0.win 5).flush t = true) : (dats m 0 c).flushed 5 t = ((cfg0.win 5).blk t).view.read (Elt Ideal)
    (kvArr (mat (xArr m c)) (mat (wArr m c)) (mat (sArr m c)) (mat (gkvArr m c) 0) (Ideal.ofBits .f32 0x3B000000#32)) := by
  have ht := (flush5 t).1 hf
  obtain ⟨e0, e1⟩ := index5 t
  show (cfg0.win 5).cut (grid0.coords t) ((dats m 0 c).after 5 t) = _
  rw [after5_eq]
  funext y
  have y0 : (y 0).val < 256 := (y 0).isLt
  have y1 : (y 1).val < 512 := (y 1).isLt
  refine (kvRes_at (held m c t.val) (wIn m c) (gkvIn m c) y).trans ?_
  rw [gkvIn_eq]
  show _ = kvArr _ _ _ _ _ (((cfg0.win 5).blk t).view.emb y)
  unfold kvArr
  rw [show ((((cfg0.win 5).blk t).view.emb y) 0).val = 256 * (t.val - 1) + (y 0).val from by
      show win0_5.index t (0 : Fin 2) * 256 + 1 * (y 0).val = _; omega,
    show ((((cfg0.win 5).blk t).view.emb y) 1).val = (y 1).val from by
      show win0_5.index t (1 : Fin 2) * 512 + 1 * (y 1).val = _; omega]
  exact normOf_congr y1 (fun k hk => proj_at m c t ht _ _ y0 (by omega)) rfl

theorem kv_final : (dats m 0 c).arrAt 5 cfg0.N
    = kvArr (mat (xArr m c)) (mat (wArr m c)) (mat (sArr m c)) (mat (gkvArr m c) 0) (Ideal.ofBits .f32 0x3B000000#32) :=
  (dats m 0 c).arrAt_eq_of_cover 5 _ (kv_flushed m c) fun (i : S15360x512.Idx) => by
    have i0 : (i 0).val < 15360 := (i 0).isLt
    have i1 : (i 1).val < 512 := (i 1).isLt
    have hN : (i 0).val / 256 + 1 < cfg0.N := by show _ < 61; omega
    obtain ⟨e0, e1⟩ := index5 ⟨_, hN⟩
    dsimp only at e0
    refine ⟨⟨_, hN⟩, (flush5 _).2 (by show 1 ≤ (i 0).val / 256 + 1; omega), ?_⟩
    have h := ((cfg0.win 5).blk ⟨_, hN⟩).view.emb_mem_set (ix (m := 256) (n := 512) (i 0).val (i 1).val)
    have e : ((cfg0.win 5).blk ⟨_, hN⟩).view.emb (ix (m := 256) (n := 512) (i 0).val (i 1).val) = i := funext fun a => Fin.ext (by
      match a with
      | ⟨0, _⟩ => show win0_5.index ⟨_, hN⟩ (0 : Fin 2) * 256 + 1 * ((i 0).val % 256) = (i 0).val; omega
      | ⟨1, _⟩ => show win0_5.index ⟨_, hN⟩ (1 : Fin 2) * 512 + 1 * ((i 1).val % 512) = (i 1).val; omega)
    rwa [e] at h

theorem kpe_read (t : Fin cfg0.N) (G : S15360x64.Idx → EReal) (y : S256x64.Idx) :
    ((cfg0.win 6).blk t).view.read (Elt Ideal) G y = G (((cfg0.win 6).blk t).view.emb y) := rfl

theorem kpe_flushed (t : Fin cfg0.N) (hf : (cfg0.win 6).flush t = true) : (dats m 0 c).flushed 6 t = ((cfg0.win 6).blk t).view.read (Elt Ideal)
    (kpeArr (mat (xArr m c)) (mat (wArr m c)) (mat (sArr m c))) := by
  have ht := (flush6 t).1 hf
  obtain ⟨e0, e1⟩ := index6 t
  show (cfg0.win 6).cut (grid0.coords t) ((dats m 0 c).after 6 t) = _
  rw [after6_eq]
  funext y
  have y0 : (y 0).val < 256 := (y 0).isLt
  have y1 : (y 1).val < 64 := (y 1).isLt
  have e : kpeArr (mat (xArr m c)) (mat (wArr m c)) (mat (sArr m c)) (((cfg0.win 6).blk t).view.emb y)
      = proj (mat (xArr m c)) (mat (wArr m c)) (mat (sArr m c)) (256 * (t.val - 1) + (y 0).val) (2048 + (y 1).val) := by
    unfold kpeArr
    rw [show ((((cfg0.win 6).blk t).view.emb y) 0).val = 256 * (t.val - 1) + (y 0).val from by
        show win0_6.index t (0 : Fin 2) * 256 + 1 * (y 0).val = _; omega,
      show ((((cfg0.win 6).blk t).view.emb y) 1).val = (y 1).val from by
        show win0_6.index t (1 : Fin 2) * 64 + 1 * (y 1).val = _; omega]
  have e' := proj_at m c t ht (y 0).val (2048 + (y 1).val) y0 (by omega)
  exact ((kpeRes_at (held m c t.val) (wIn m c) y).trans (e'.trans e.symm)).trans (kpe_read t _ y).symm

theorem kpe_final : (dats m 0 c).arrAt 6 cfg0.N = kpeArr (mat (xArr m c)) (mat (wArr m c)) (mat (sArr m c)) :=
  (dats m 0 c).arrAt_eq_of_cover 6 _ (kpe_flushed m c) fun (i : S15360x64.Idx) => by
    have i0 : (i 0).val < 15360 := (i 0).isLt
    have i1 : (i 1).val < 64 := (i 1).isLt
    have hN : (i 0).val / 256 + 1 < cfg0.N := by show _ < 61; omega
    obtain ⟨e0, e1⟩ := index6 ⟨_, hN⟩
    dsimp only at e0
    refine ⟨⟨_, hN⟩, (flush6 _).2 (by show 1 ≤ (i 0).val / 256 + 1; omega), ?_⟩
    have h := ((cfg0.win 6).blk ⟨_, hN⟩).view.emb_mem_set (ix (m := 256) (n := 64) (i 0).val (i 1).val)
    have e : ((cfg0.win 6).blk ⟨_, hN⟩).view.emb (ix (m := 256) (n := 64) (i 0).val (i 1).val) = i := funext fun a => Fin.ext (by
      match a with
      | ⟨0, _⟩ => show win0_6.index ⟨_, hN⟩ (0 : Fin 2) * 256 + 1 * ((i 0).val % 256) = (i 0).val; omega
      | ⟨1, _⟩ => show win0_6.index ⟨_, hN⟩ (1 : Fin 2) * 64 + 1 * ((i 1).val % 64) = (i 1).val; omega)
    rwa [e] at h

theorem code_flushed (t : Fin cfg0.N) (_ : (cfg0.win 7).flush t = true) : (dats m 0 c).flushed 7 t = ((cfg0.win 7).blk t).view.read (Elt Ideal)
    (codeArr (mat (xArr m c))) := by
  obtain ⟨e0, e1⟩ := index7 t
  show (cfg0.win 7).cut (grid0.coords t) ((dats m 0 c).after 7 t) = _
  rw [after7_eq]
  funext y
  have y0 : (y 0).val < 256 := (y 0).isLt
  have y1 : (y 1).val < 6144 := (y 1).isLt
  refine (codesOf_at (iblk m c 0 t) y).trans ?_
  show _ = codeArr _ (((cfg0.win 7).blk t).view.emb y)
  unfold codeArr
  rw [show ((((cfg0.win 7).blk t).view.emb y) 0).val = 256 * min t.val 59 + (y 0).val from by
      show win0_7.index t (0 : Fin 2) * 256 + 1 * (y 0).val = _; omega,
    show ((((cfg0.win 7).blk t).view.emb y) 1).val = (y 1).val from by
      show win0_7.index t (1 : Fin 2) * 6144 + 1 * (y 1).val = _; omega]
  exact qCode_congr (fun k hk => x_at m c t _ _ y0 hk) y1

theorem code_final : (dats m 0 c).arrAt 7 cfg0.N = codeArr (mat (xArr m c)) :=
  (dats m 0 c).arrAt_eq_of_cover 7 _ (code_flushed m c) fun (i : S15360x6144.Idx) => by
    have i0 : (i 0).val < 15360 := (i 0).isLt
    have i1 : (i 1).val < 6144 := (i 1).isLt
    have hN : (i 0).val / 256 + (i 0).val / 15104 < cfg0.N := by show _ < 61; omega
    obtain ⟨e0, e1⟩ := index7 ⟨_, hN⟩
    dsimp only at e0
    refine ⟨⟨_, hN⟩, (flush7 _).2 (by show (i 0).val / 256 + (i 0).val / 15104 ≠ 59; omega), ?_⟩
    have h := ((cfg0.win 7).blk ⟨_, hN⟩).view.emb_mem_set (ix (m := 256) (n := 6144) (i 0).val (i 1).val)
    have e : ((cfg0.win 7).blk ⟨_, hN⟩).view.emb (ix (m := 256) (n := 6144) (i 0).val (i 1).val) = i := funext fun a => Fin.ext (by
      match a with
      | ⟨0, _⟩ => show win0_7.index ⟨_, hN⟩ (0 : Fin 2) * 256 + 1 * ((i 0).val % 256) = (i 0).val; omega
      | ⟨1, _⟩ => show win0_7.index ⟨_, hN⟩ (1 : Fin 2) * 6144 + 1 * ((i 1).val % 6144) = (i 1).val; omega)
    rwa [e] at h

theorem scale_flushed (t : Fin cfg0.N) (_ : (cfg0.win 8).flush t = true) : (dats m 0 c).flushed 8 t = ((cfg0.win 8).blk t).view.read (Elt Ideal)
    (scaleArr (mat (xArr m c))) := by
  obtain ⟨e0, e1⟩ := index8 t
  show (cfg0.win 8).cut (grid0.coords t) ((dats m 0 c).after 8 t) = _
  rw [after8_eq]
  funext y
  have y0 : (y 0).val < 256 := (y 0).isLt
  have y1 : (y 1).val < 192 := (y 1).isLt
  refine (scalesOf_at (iblk m c 0 t) y).trans ?_
  show _ = scaleArr _ (((cfg0.win 8).blk t).view.emb y)
  unfold scaleArr
  rw [show ((((cfg0.win 8).blk t).view.emb y) 0).val = 256 * min t.val 59 + (y 0).val from by
      show win0_8.index t (0 : Fin 2) * 256 + 1 * (y 0).val = _; omega,
    show ((((cfg0.win 8).blk t).view.emb y) 1).val = (y 1).val from by
      show win0_8.index t (1 : Fin 2) * 192 + 1 * (y 1).val = _; omega]
  exact qScale_congr (fun k hk => x_at m c t _ _ y0 hk) y1

theorem scale_final : (dats m 0 c).arrAt 8 cfg0.N = scaleArr (mat (xArr m c)) :=
  (dats m 0 c).arrAt_eq_of_cover 8 _ (scale_flushed m c) fun (i : S15360x192.Idx) => by
    have i0 : (i 0).val < 15360 := (i 0).isLt
    have i1 : (i 1).val < 192 := (i 1).isLt
    have hN : (i 0).val / 256 + (i 0).val / 15104 < cfg0.N := by show _ < 61; omega
    obtain ⟨e0, e1⟩ := index8 ⟨_, hN⟩
    dsimp only at e0
    refine ⟨⟨_, hN⟩, (flush8 _).2 (by show (i 0).val / 256 + (i 0).val / 15104 ≠ 59; omega), ?_⟩
    have h := ((cfg0.win 8).blk ⟨_, hN⟩).view.emb_mem_set (ix (m := 256) (n := 192) (i 0).val (i 1).val)
    have e : ((cfg0.win 8).blk ⟨_, hN⟩).view.emb (ix (m := 256) (n := 192) (i 0).val (i 1).val) = i := funext fun a => Fin.ext (by
      match a with
      | ⟨0, _⟩ => show win0_8.index ⟨_, hN⟩ (0 : Fin 2) * 256 + 1 * ((i 0).val % 256) = (i 0).val; omega
      | ⟨1, _⟩ => show win0_8.index ⟨_, hN⟩ (1 : Fin 2) * 192 + 1 * ((i 1).val % 192) = (i 1).val; omega)
    rwa [e] at h

theorem invRank_eq : invRank (F := Ideal) = ((1 / 1536 : ℝ) : EReal) := rfl

end Cert.KernelIdeal.Launch
-- ==== Proof.ReferenceIdealBody.lean ====
/-
  The reference element by element: its quantiser, its decoded operands and its three projections give at each row and
  column the same functions the kernel's blocks do, when every group's scaled maximum is a real number below 2^120.
-/
module

public import proofs.«01_k».proof.Proof.Project
public import proofs.«01_k».proof.Proof.Gen.ReferenceIdeal.Skeleton

@[expose] public section

noncomputable section

namespace Cert.Proof

open Idealize.ShloMosaic

/-! ## Groups of 32 columns -/

section Groups

variable {α : Type} {m : Nat} [NeZero m]

/-- The matrix cut into groups. -/
theorem group_at (X : (⟨2, ![m, 6144]⟩ : Shape).Idx → α) (h : (⟨2, ![m, 6144]⟩ : Shape).ShapeCasts ⟨3, ![m, 192, 32]⟩)
    (j : (⟨3, ![m, 192, 32]⟩ : Shape).Idx) :
    shapeCast ⟨3, ![m, 192, 32]⟩ X h j = mat X (j 0).val (32 * (j 1).val + (j 2).val) := by
  have h0 : (j 0).val < m := (j 0).isLt
  have h1 : (j 1).val < 192 := (j 1).isLt
  have h2 : (j 2).val < 32 := (j 2).isLt
  refine shapeCast_apply X h j (ix (j 0).val (32 * (j 1).val + (j 2).val)) ?_
  rw [Shape.rowMajor_val_two, Shape.rowMajor_val_three]
  show (j 0).val % m * 6144 + (32 * (j 1).val + (j 2).val) % 6144 = ((j 0).val * 192 + (j 1).val) * 32 + (j 2).val
  rw [Nat.mod_eq_of_lt h0]
  omega

/-- The groups laid side by side again. -/
theorem flat_at (Y : (⟨3, ![m, 192, 32]⟩ : Shape).Idx → α) (h : (⟨3, ![m, 192, 32]⟩ : Shape).ShapeCasts ⟨2, ![m, 6144]⟩)
    (j : (⟨2, ![m, 6144]⟩ : Shape).Idx) (i : (⟨3, ![m, 192, 32]⟩ : Shape).Idx) (h0 : (i 0).val = (j 0).val)
    (h1 : (i 1).val = (j 1).val / 32) (h2 : (i 2).val = (j 1).val % 32) : shapeCast ⟨2, ![m, 6144]⟩ Y h j = Y i := by
  refine shapeCast_apply Y h j i ?_
  rw [Shape.rowMajor_val_two, Shape.rowMajor_val_three]
  show ((i 0).val * 192 + (i 1).val) * 32 + (i 2).val = (j 0).val * 6144 + (j 1).val
  omega

/-- The element of group `b / 32` that column `b` is. -/
def inGroup (j : (⟨2, ![m, 6144]⟩ : Shape).Idx) : (⟨3, ![m, 192, 32]⟩ : Shape).Idx :=
  ValueIdx.ix3 (j 0) (⟨(j 1).val / 32, by have : (j 1).val < 6144 := (j 1).isLt; omega⟩ : Fin 192)
    (⟨(j 1).val % 32, by omega⟩ : Fin 32)

/-- A value per group, spread over the group. -/
theorem spread_group (s : (⟨2, ![m, 192]⟩ : Shape).Idx → α) (h1 : (⟨2, ![m, 192]⟩ : Shape).ShapeCasts ⟨3, ![m, 192, 1]⟩)
    (h2 : (⟨3, ![m, 192, 1]⟩ : Shape).Broadcasts ⟨3, ![m, 192, 32]⟩) (j : (⟨3, ![m, 192, 32]⟩ : Shape).Idx) :
    broadcastTo ⟨3, ![m, 192, 32]⟩ (shapeCast ⟨3, ![m, 192, 1]⟩ s h1) h2 j = mat s (j 0).val (j 1).val := by
  have h0 : (j 0).val < m := (j 0).isLt
  have h3 : (j 1).val < 192 := (j 1).isLt
  refine (broadcastTo_apply _ h2 j (ValueIdx.ix3 (j 0) (j 1) (0 : Fin 1) : (⟨3, ![m, 192, 1]⟩ : Shape).Idx) fun a => ?_).trans ?_
  · fin_cases a
    · show (j 0).val = if m = 1 then 0 else (j 0).val
      split
      · omega
      · rfl
    · rfl
    · rfl
  · refine shapeCast_apply s h1 _ (ix (j 0).val (j 1).val) ?_
    rw [Shape.rowMajor_val_two, Shape.rowMajor_val_three]
    show (j 0).val % m * 192 + (j 1).val % 192 = ((j 0).val * 192 + (j 1).val) * 1 + 0
    rw [Nat.mod_eq_of_lt h0, Nat.mod_eq_of_lt h3]
    omega

theorem lowest : Ideal.ofBits .f32 0xFF800000#32 = ⊥ := by
  have : Ideal.ofBits .f32 0xFF800000#32 = Ideal.ieee 8 23 0xFF800000#32 := rfl
  rw [this]
  unfold Ideal.ieee
  simp [Ideal.ieee]

/-- The maximum over a group. -/
theorem groupMax_at (Y : FVec Ideal ⟨3, ![m, 192, 32]⟩ .f32) (h : (⟨3, ![m, 192, 32]⟩ : Shape).Reduces [2] ⟨2, ![m, 192]⟩)
    (acc : BitVec 32) (hacc₀ : Ideal.ofBits .f32 acc = ⊥) (hφ) (hacc) (x : Nat → Nat → EReal) (i : (⟨2, ![m, 192]⟩ : Shape).Idx)
    (hY : ∀ k : (⟨3, ![m, 192, 32]⟩ : Shape).Idx, Y k = absE (x (k 0).val (32 * (k 1).val + (k 2).val))) :
    multiReduction .maximumf [2] ⟨2, ![m, 192]⟩ Y acc h hφ hacc i = gMax x (i 0).val (i 1).val := by
  rw [Ideal.multiReduction_maximumf_single]
  refine eq_of_forall_ge_iff fun B => ?_
  rw [Finset.fold_max_le]
  unfold gMax
  rw [Finset.sup_le_iff]
  constructor
  · intro hb d hd
    have := hb.2 (⟨d, Finset.mem_range.1 hd⟩ : Fin 32) (Finset.mem_univ _)
    exact (hY _).symm.trans_le this
  · intro hb
    refine ⟨?_, fun d _ => ?_⟩
    · show Ideal.ofBits .f32 acc ≤ B
      rw [hacc₀]; exact bot_le
    · exact (hY _).trans_le (hb d.val (Finset.mem_range.2 d.isLt))

end Groups

/-! ## The constants -/

/-- A positive word of a format with an 8-bit exponent and an `m`-bit fraction. -/
theorem ieee_word (m : Nat) {w : Nat} (b : BitVec w) (ex fr : Nat) (hn : b.extractLsb' (8 + m) 1 = 0#1)
    (hx : (b.extractLsb' m 8).toNat = ex) (hf : (b.extractLsb' 0 m).toNat = fr) (h0 : ex ≠ 0) (h1 : ex < 255) :
    Ideal.ieee 8 m b = (((2 ^ m + fr : Nat) * (2 : ℝ) ^ ((ex : Int) - 127 - m) : ℝ) : EReal) := by
  unfold Ideal.ieee
  dsimp only
  rw [hn, hx, hf, if_neg (by omega), if_neg h0, if_neg (by decide), one_mul]
  norm_num

theorem word_1536 : Ideal.ofBits .f32 0x44C00000#32 = ((1536 : ℝ) : EReal) := by
  refine (ieee_word 23 0x44C00000#32 137 0x400000 (by decide) (by decide) (by decide) (by decide) (by decide)).trans ?_
  norm_num
theorem word_512 : Ideal.ofBits .f32 0x44000000#32 = ((512 : ℝ) : EReal) := by
  refine (ieee_word 23 0x44000000#32 136 0 (by decide) (by decide) (by decide) (by decide) (by decide)).trans ?_
  norm_num
theorem word_inv_512 : Ideal.ofBits .f32 0x3B000000#32 = ((1 / 512 : ℝ) : EReal) := by
  refine (ieee_word 23 0x3B000000#32 118 0 (by decide) (by decide) (by decide) (by decide) (by decide)).trans ?_
  norm_num
theorem word_inv_448 : Ideal.ofBits .f32 0x3B124925#32 = ((9586981 / 2 ^ 32 : ℝ) : EReal) := by
  refine (ieee_word 23 0x3B124925#32 118 0x124925 (by decide) (by decide) (by decide) (by decide) (by decide)).trans ?_
  norm_num
theorem word_largest : Ideal.ofBits .bf16 0x7F7F#16 = ((255 * 2 ^ 120 : ℝ) : EReal) := by
  refine (ieee_word 7 0x7F7F#16 254 127 (by decide) (by decide) (by decide) (by decide) (by decide)).trans ?_
  norm_num

/-! ## The elementwise chains, at an index -/

section Chains

variable {t : Shape}

theorem widen_at {φ φ' : FTy} (v : FVec Ideal t φ) (h) : (extf φ' v h : t.Idx → EReal) = v := rfl
theorem product_at {φ : FTy} (v s : FVec Ideal t φ) : (mulf v s : t.Idx → EReal) = fun k => (v k : EReal) * (s k : EReal) := rfl
theorem clip_at (v : FVec Ideal t .f32) (h) (k : t.Idx) :
    truncf .fp8e4m3 (minimumf (broadcast t (Scalar.ofBits .f32 0x43E00000#32)) (maximumf (broadcast t (Scalar.ofBits .f32 0xC3E00000#32)) v)) h k
      = min (Ideal.ofBits .f32 0x43E00000#32) (max (Ideal.ofBits .f32 0xC3E00000#32) (v k)) := rfl
theorem expo_at (M : FVec Ideal t .f32) (i : t.Idx) :
    select (cmpf .olt (mulf M (broadcast t (Scalar.ofBits .f32 0x3B124925#32))) (broadcast t (Scalar.ofBits .f32 0x00800000#32)))
      (broadcast t (Scalar.ofBits .f32 0x00000000#32))
      (addf (floor (mulf (log (mulf M (broadcast t (Scalar.ofBits .f32 0x3B124925#32)))) (broadcast t ((((Real.log 2)⁻¹ : ℝ) : EReal) : Ideal .f32))))
        (broadcast t (Scalar.ofBits .f32 0x3F800000#32))) i
      = expAt (M i * Ideal.ofBits .f32 0x3B124925#32) := rfl
theorem inv_at (v : FVec Ideal t .f32) (i : t.Idx) :
    exp2 (subf (broadcast t (Scalar.ofBits .f32 0x00000000#32)) v) i = Ideal.exp2 (Ideal.ofBits .f32 0x00000000#32 - v i) := rfl
theorem biased_at (v : FVec Ideal t .f32) (i : t.Idx) : addi (fptosi 32 v) (broadcast t 127#32) i = Ideal.fptosi 32 (v i) + 127#32 := rfl
theorem byte_at (v : IVec t 32) (h) (i : t.Idx) : trunci 8 v h i = (v i).setWidth 8 := rfl
theorem word_at (v : IVec t 8) (h) (i : t.Idx) : extui 32 v h i = (v i).setWidth 32 := rfl
theorem pow_at (v : IVec t 32) (h) (i : t.Idx) :
    truncf (F := Ideal) .bf16 (select (cmpi .eq v (broadcast t 0#32)) (broadcast t (Scalar.ofBits .f32 0x00000000#32))
      (select (cmpi .eq v (broadcast t 255#32)) (broadcast t (Scalar.ofBits .f32 0x7F800000#32))
        (exp2 (sitofp .f32 (subi v (broadcast t 127#32)))))) h i = (decodeAt (v i) : EReal) := rfl

end Chains

/-! ## The groups' scaled maxima -/

/-- Every group's scaled maximum is a real number below `2^120`. -/
def Tame (x : Nat → Nat → EReal) : Prop :=
  ∀ a g, ∃ r : ℝ, 0 ≤ r ∧ r < (2 : ℝ) ^ (120 : ℤ) ∧ gMax x a g * Ideal.ofBits .f32 0x3B124925#32 = (r : EReal)

theorem absE_nonneg (v : EReal) : 0 ≤ absE v := by
  unfold absE
  rcases le_total 0 v with h | h
  · exact le_max_of_le_left h
  · exact le_max_of_le_right (EReal.neg_nonneg.2 h)

/-- So it is when no entry is larger than the largest finite one. -/
theorem tame_of_le (x : Nat → Nat → EReal) (hx : ∀ a b, absE (x a b) ≤ Ideal.ofBits .bf16 0x7F7F#16) : Tame x := by
  intro a g
  have hle : gMax x a g ≤ ((255 * 2 ^ 120 : ℝ) : EReal) := by
    rw [← word_largest]
    exact Finset.sup_le fun d _ => hx _ _
  have hge : 0 ≤ gMax x a g :=
    (absE_nonneg _).trans (Finset.le_sup (f := fun d => absE (x a (32 * g + d))) (Finset.mem_range.2 (by decide : 0 < 32)))
  obtain ⟨s, hs⟩ : ∃ s : ℝ, gMax x a g = (s : EReal) := by
    refine ⟨(gMax x a g).toReal, (EReal.coe_toReal ?_ ?_).symm⟩
    · intro h; rw [h] at hle; exact absurd hle (not_le.2 (EReal.coe_lt_top _))
    · intro h; rw [h] at hge; exact absurd hge (by simp)
  rw [hs] at hle hge
  have h0 : 0 ≤ s := by exact_mod_cast hge
  have h1 : s ≤ 255 * 2 ^ 120 := by exact_mod_cast hle
  refine ⟨s * (9586981 / 2 ^ 32), by positivity, ?_, ?_⟩
  · have : s * (9586981 / 2 ^ 32) ≤ 255 * 2 ^ 120 * (9586981 / 2 ^ 32) := mul_le_mul_of_nonneg_right h1 (by positivity)
    refine lt_of_le_of_lt this ?_
    norm_num
  · rw [hs, word_inv_448, EReal.coe_mul]

end Cert.Proof

namespace Cert.ReferenceIdeal.Body

open Cert.ReferenceIdeal Cert.ReferenceIdeal.Gen Cert.Proof
open Idealize.ShloMosaic

/-! ## The quantiser -/

section Quant

variable (X : S15360x6144.Idx → EReal)

theorem pay4_at (k : S15360x192x32.Idx) : k0_pay4 (F := Ideal) X k = mat X (k 0).val (32 * (k 1).val + (k 2).val) := by
  unfold k0_pay4
  dsimp only
  rw [widen_at, shapeCast_self]
  exact group_at (m := 15360) X _ k

theorem abs_at (k : S15360x192x32.Idx) :
    absf (k0_pay4 (F := Ideal) X) k = absE (mat X (k 0).val (32 * (k 1).val + (k 2).val)) := by
  rw [← pay4_at]
  generalize k0_pay4 (F := Ideal) X = Y
  rfl
theorem max_at (i : S15360x192.Idx) :
    multiReduction .maximumf [2] S15360x192 (absf (k0_pay4 (F := Ideal) X)) 0xFF800000#32 reduces_S15360x192x32_S15360x192 (.inl rfl) rfl i
      = gMax (mat X) (i 0).val (i 1).val := by
  have h := abs_at X
  generalize absf (k0_pay4 (F := Ideal) X) = Y at h
  generalize mat X = x at h ⊢
  have e := groupMax_at (m := 15360) Y reduces_S15360x192x32_S15360x192 0xFF800000#32 lowest (.inl rfl) rfl x i h
  generalize gMax x (i 0).val (i 1).val = z at e ⊢
  exact e

theorem named_ln : Named.named (F := Ideal) (φ := .f32) κ "inv_ln_2" 0x3FB8AA3B#32 = (((Real.log 2)⁻¹ : ℝ) : EReal) := rfl

theorem pay5_at (i : S15360x192.Idx) :
    k0_pay5 (F := Ideal) X i = expAt (gMax (mat X) (i 0).val (i 1).val * Ideal.ofBits .f32 0x3B124925#32) := by
  have h := max_at X i
  unfold k0_pay5
  dsimp only
  rw [named_ln]
  generalize multiReduction .maximumf [2] S15360x192 (absf (k0_pay4 (F := Ideal) X)) 0xFF800000#32 reduces_S15360x192x32_S15360x192 (.inl rfl) rfl = M at h ⊢
  rw [← h]
  exact expo_at M i

variable (hX : Tame (mat X))
include hX

theorem pay6_at (k : S15360x192x32.Idx) :
    k0_pay6 (F := Ideal) X k = qCode (mat X) (k 0).val (32 * (k 1).val + (k 2).val) := by
  have h2 : (k 2).val < 32 := (k 2).isLt
  have hi : ∀ i : S15360x192.Idx, exp2 (subf (broadcast S15360x192 (Scalar.ofBits .f32 0x00000000#32)) (k0_pay5 (F := Ideal) X)) i
      = powOf (254#32 - gCode (mat X) (i 0).val (i 1).val) := fun i => by
    obtain ⟨r, h0, h1, hr⟩ := hX (i 0).val (i 1).val
    have e5 := pay5_at X i
    unfold gCode
    rw [hr] at e5 ⊢
    rw [← exp_inv r h0 h1, ← e5]
    exact inv_at _ i
  have h4 := pay4_at X
  unfold k0_pay6
  dsimp only
  generalize exp2 (subf (broadcast S15360x192 (Scalar.ofBits .f32 0x00000000#32)) (k0_pay5 (F := Ideal) X)) = s at hi ⊢
  generalize k0_pay4 (F := Ideal) X = Y at h4 ⊢
  have k0 : (k 0).val < 15360 := (k 0).isLt
  have k1 : (k 1).val < 192 := (k 1).isLt
  have hs : mat (m := 15360) (n := 192) s (k 0).val (k 1).val = powOf (254#32 - gCode (mat X) (k 0).val (k 1).val) := by
    show s _ = _
    rw [hi]
    show powOf (254#32 - gCode (mat X) ((k 0).val % 15360) ((k 1).val % 192)) = _
    rw [Nat.mod_eq_of_lt k0, Nat.mod_eq_of_lt k1]
  rw [clip_at, product_at]
  dsimp only
  rw [spread_group (m := 15360), h4, hs]
  unfold qCode
  rw [show (32 * (k 1).val + (k 2).val) / 32 = (k 1).val by omega]

/-- The codes. -/
theorem pay8_at (j : S15360x6144.Idx) : k0_pay8 (F := Ideal) X j = qCode (mat X) (j 0).val (j 1).val := by
  unfold k0_pay8
  have h := pay6_at X hX
  generalize k0_pay6 (F := Ideal) X = Y at h ⊢
  refine (flat_at (m := 15360) Y _ j (inGroup j) rfl rfl rfl).trans ((h _).trans ?_)
  show qCode (mat X) (j 0).val (32 * ((j 1).val / 32) + (j 1).val % 32) = _
  rw [Nat.div_add_mod]

theorem pay7_at (i : S15360x192.Idx) : k0_pay7 (F := Ideal) X i = gCode (mat X) (i 0).val (i 1).val := by
  obtain ⟨r, h0, h1, hr⟩ := hX (i 0).val (i 1).val
  have e5 := pay5_at X i
  unfold gCode k0_pay7
  rw [hr] at e5 ⊢
  rw [← exp_code r h0 h1, ← e5]
  exact biased_at _ i

/-- The scales. -/
theorem pay9_at (i : S15360x192.Idx) : k0_pay9 (F := Ideal) X i = qScale (mat X) (i 0).val (i 1).val := by
  unfold k0_pay9 qScale
  rw [← pay7_at X hX]
  exact byte_at _ _ i

end Quant

/-! ## The operands and their product -/

/-- Elements times the power their group's exponent code stands for, as one matrix. -/
theorem decoded_at {m : Nat} [NeZero m] (Y : FVec Ideal ⟨3, ![m, 192, 32]⟩ .fp8e4m3) (E : IVec ⟨2, ![m, 192]⟩ 32)
    (hb) (ht) (h) (h1) (h2) (x : Nat → Nat → EReal) (e : Nat → Nat → BitVec 32)
    (hY : ∀ k : (⟨3, ![m, 192, 32]⟩ : Shape).Idx, Y k = x (k 0).val (32 * (k 1).val + (k 2).val))
    (hE : ∀ i : (⟨2, ![m, 192]⟩ : Shape).Idx, decodeAt (E i) = powOf (e (i 0).val (i 1).val)) (a b : Nat) (ha : a < m) (hb' : b < 6144) :
    mat (shapeCast ⟨2, ![m, 6144]⟩ (mulf (extf .bf16 Y hb) (broadcastTo ⟨3, ![m, 192, 32]⟩ (shapeCast ⟨3, ![m, 192, 1]⟩
      (truncf (F := Ideal) .bf16 (select (cmpi .eq E (broadcast ⟨2, ![m, 192]⟩ 0#32)) (broadcast ⟨2, ![m, 192]⟩ (Scalar.ofBits .f32 0x00000000#32))
        (select (cmpi .eq E (broadcast ⟨2, ![m, 192]⟩ 255#32)) (broadcast ⟨2, ![m, 192]⟩ (Scalar.ofBits .f32 0x7F800000#32))
          (exp2 (sitofp .f32 (subi E (broadcast ⟨2, ![m, 192]⟩ 127#32)))))) ht) h1) h2)) h) a b
      = x a b * powOf (e a (b / 32)) := by
  have hs : ∀ i, truncf (F := Ideal) .bf16 (select (cmpi .eq E (broadcast ⟨2, ![m, 192]⟩ 0#32)) (broadcast ⟨2, ![m, 192]⟩ (Scalar.ofBits .f32 0x00000000#32))
        (select (cmpi .eq E (broadcast ⟨2, ![m, 192]⟩ 255#32)) (broadcast ⟨2, ![m, 192]⟩ (Scalar.ofBits .f32 0x7F800000#32))
          (exp2 (sitofp .f32 (subi E (broadcast ⟨2, ![m, 192]⟩ 127#32)))))) ht i = powOf (e (i 0).val (i 1).val) := fun i => (pow_at E ht i).trans (hE i)
  generalize truncf (F := Ideal) .bf16 (select (cmpi .eq E (broadcast ⟨2, ![m, 192]⟩ 0#32)) (broadcast ⟨2, ![m, 192]⟩ (Scalar.ofBits .f32 0x00000000#32))
        (select (cmpi .eq E (broadcast ⟨2, ![m, 192]⟩ 255#32)) (broadcast ⟨2, ![m, 192]⟩ (Scalar.ofBits .f32 0x7F800000#32))
          (exp2 (sitofp .f32 (subi E (broadcast ⟨2, ![m, 192]⟩ 127#32)))))) ht = s at hs ⊢
  have i0 : ((ix (m := m) (n := 6144) a b) 0).val = a := Nat.mod_eq_of_lt ha
  have i1 : ((ix (m := m) (n := 6144) a b) 1).val = b := Nat.mod_eq_of_lt hb'
  rw [product_at, widen_at]
  show shapeCast _ _ h (ix a b) = _
  rw [flat_at _ h (ix a b) (inGroup (ix a b)) rfl rfl rfl]
  rw [spread_group, hY]
  have hm : mat s ((inGroup (ix (m := m) a b)) 0).val ((inGroup (ix (m := m) a b)) 1).val = powOf (e a (b / 32)) := by
    show s _ = _
    rw [hs]
    show powOf (e (((ix (m := m) (n := 6144) a b) 0).val % m) ((((ix (m := m) (n := 6144) a b) 1).val / 32) % 192)) = _
    rw [i0, i1, Nat.mod_eq_of_lt ha, Nat.mod_eq_of_lt (by omega)]
  rw [hm]
  show x ((ix (m := m) (n := 6144) a b) 0).val (32 * (((ix (m := m) (n := 6144) a b) 1).val / 32) + ((ix (m := m) (n := 6144) a b) 1).val % 32) * _ = _
  rw [i0, i1, Nat.div_add_mod]

section Product

variable (X : S15360x6144.Idx → EReal) (hX : Tame (mat X)) (W : S2112x6144.Idx → EReal) (S : S2112x192.Idx → BitVec 8)

include hX in
theorem pay12_at (j : S15360x2112.Idx) :
    k0_pay12 (F := Ideal) (k0_pay7 (F := Ideal) X) (k0_pay10 (F := Ideal) X) (k0_pay11 (F := Ideal) X) W S j
      = yOf (qScaled (mat X)) (wDec (mat W) (mat S)) (j 0).val (j 1).val := by
  have j0 : (j 0).val < 15360 := (j 0).isLt
  have j1 : (j 1).val < 2112 := (j 1).isLt
  have h6 := pay6_at X hX
  have h7 := pay7_at X hX
  have hE : ∀ i : S15360x192.Idx, decodeAt (k0_pay7 (F := Ideal) X i) = powOf (gCode (mat X) (i 0).val (i 1).val) := fun i => by
    obtain ⟨r, h0, h1, hr⟩ := hX (i 0).val (i 1).val
    rw [h7]
    unfold gCode
    rw [hr, code_decode r h0 h1]
  unfold k0_pay12 k0_pay10 k0_pay11
  dsimp only
  generalize k0_pay7 (F := Ideal) X = E at hE ⊢
  generalize k0_pay6 (F := Ideal) X = Y at h6 ⊢
  refine (dot_at (M := 15360) (K := 6144) (N := 2112) (φ₁ := .bf16) (φ₂ := .bf16) _ rfl _ _ j).trans (Finset.sum_congr rfl fun k _ => ?_)
  refine congrArg₂ (fun u v : EReal => u * v) ?_ ?_
  · exact decoded_at (m := 15360) Y E _ _ _ _ _ (qCode (mat X)) (gCode (mat X)) h6 hE _ _ j0 k.isLt
  · refine decoded_at (m := 2112) _ _ _ _ _ _ _ (mat W) (fun a g => (mat S a g).setWidth 32) (fun k => group_at (m := 2112) W _ k) (fun i => ?_) _ _ j1 k.isLt
    rw [word_at, decode_byte, mat_self]

end Product

/-! ## The normalised rows -/

section Norm

variable {M N L : Nat} [NeZero M] [NeZero N] [NeZero L]

theorem slice_at {α : Type} (x : (⟨2, ![M, L]⟩ : Shape).Idx → α) (off : Nat) (hoff : off + N ≤ L)
    (h : (⟨2, ![M, L]⟩ : Shape).Slices ![0, off] ⟨2, ![M, N]⟩) (j : (⟨2, ![M, N]⟩ : Shape).Idx) :
    extractStridedSlice ⟨2, ![M, N]⟩ ![0, off] x h j = mat x (j 0).val (off + (j 1).val) := by
  have j0 : (j 0).val < M := (j 0).isLt
  have j1 : (j 1).val < N := (j 1).isLt
  refine extractStridedSlice_apply _ x h j (ix (j 0).val (off + (j 1).val)) fun a => ?_
  fin_cases a
  · show (j 0).val % M = 0 + (j 0).val
    rw [Nat.mod_eq_of_lt j0]; omega
  · show (off + (j 1).val) % L = off + (j 1).val
    exact Nat.mod_eq_of_lt (by omega)

theorem squares_at (v : FVec Ideal ⟨2, ![M, N]⟩ .f32) (h) (hφ) (hacc) (h1 : (⟨1, ![M]⟩ : Shape).ShapeCasts ⟨2, ![M, 1]⟩) (a : Nat) (ha : a < M) :
    mat (shapeCast ⟨2, ![M, 1]⟩ (multiReduction .add [1] ⟨1, ![M]⟩ (mulf v v) 0x00000000#32 h hφ hacc) h1) a 0
      = ∑ k : Fin N, mat v a k.val * mat v a k.val := by
  show shapeCast _ _ h1 (ix a 0) = _
  rw [column_at _ h1 (ix a 0) (ValueIdx.ix1 (⟨a, ha⟩ : Fin M)) (Nat.mod_eq_of_lt ha).symm, rowSum_at]
  rfl

/-- A row's slice, divided by the root mean square of the slice and scaled. -/
theorem normed_at (P : FVec Ideal ⟨2, ![M, L]⟩ .f32) (y : Nat → Nat → EReal) (hP : ∀ i : (⟨2, ![M, L]⟩ : Shape).Idx, P i = y (i 0).val (i 1).val)
    (off : Nat) (hoff : off + N ≤ L) (hs) (g : FVec Ideal ⟨2, ![1, N]⟩ .f32) (cst : Ideal .f32) (c : ℝ) (hc : c ≠ 0) (hcst : cst = (c : EReal))
    (h) (hφ) (hacc) (h1) (h2) (h3) (ht) (j : (⟨2, ![M, N]⟩ : Shape).Idx) :
    truncf .bf16 (mulf (mulf (extractStridedSlice ⟨2, ![M, N]⟩ ![0, off] P hs) (broadcastTo ⟨2, ![M, N]⟩ (rsqrt (addf
      (divf (shapeCast ⟨2, ![M, 1]⟩ (multiReduction .add [1] ⟨1, ![M]⟩ (mulf (extractStridedSlice ⟨2, ![M, N]⟩ ![0, off] P hs)
        (extractStridedSlice ⟨2, ![M, N]⟩ ![0, off] P hs)) 0x00000000#32 h hφ hacc) h1) (broadcast ⟨2, ![M, 1]⟩ cst))
        (broadcast ⟨2, ![M, 1]⟩ (Scalar.ofBits .f32 0x358637BD#32)))) h2)) (broadcastTo ⟨2, ![M, N]⟩ g h3)) ht j
      = normOf y off N ((1 / c : ℝ) : EReal) (mat g 0) (j 0).val (j 1).val := by
  have j0 : (j 0).val < M := (j 0).isLt
  have j1 : (j 1).val < N := (j 1).isLt
  have hv : ∀ a k, a < M → k < N → mat (extractStridedSlice ⟨2, ![M, N]⟩ ![0, off] P hs) a k = y a (off + k) := fun a k ha hk => by
    show extractStridedSlice _ _ P hs (ix a k) = _
    rw [slice_at P off hoff hs]
    show P _ = _
    rw [hP]
    show y ((a % M) % M) ((off + k % N) % L) = _
    rw [Nat.mod_eq_of_lt ha, Nat.mod_eq_of_lt ha, Nat.mod_eq_of_lt hk, Nat.mod_eq_of_lt (by omega)]
  generalize extractStridedSlice ⟨2, ![M, N]⟩ ![0, off] P hs = v at hv ⊢
  have hq := squares_at v h hφ hacc h1 (j 0).val j0
  generalize shapeCast ⟨2, ![M, 1]⟩ (multiReduction .add [1] ⟨1, ![M]⟩ (mulf v v) 0x00000000#32 h hφ hacc) h1 = ss at hq ⊢
  show v j * broadcastTo ⟨2, ![M, N]⟩ (fun i => Ideal.rsqrt (Ideal.div (ss i) cst + Ideal.ofBits .f32 0x358637BD#32)) h2 j
    * broadcastTo ⟨2, ![M, N]⟩ g h3 j = _
  rw [spread_column, spread_row]
  show v j * Ideal.rsqrt (Ideal.div (mat ss (j 0).val 0) cst + _) * _ = _
  rw [hcst, Ideal.div_coe hc, hq, ← mat_self v j, hv _ _ j0 j1]
  unfold normOf
  rw [Finset.sum_congr rfl fun k _ => by rw [hv _ k.val j0 k.isLt]]

end Norm

/-! ## The three projections -/

section Results

variable (X : S15360x6144.Idx → EReal) (hX : Tame (mat X)) (W : S2112x6144.Idx → EReal) (S : S2112x192.Idx → BitVec 8)
include hX

theorem q_at (g : S1x1536.Idx → EReal) (j : S15360x1536.Idx) :
    k0_pay1 (F := Ideal) (k0_pay13 (F := Ideal) (k0_pay7 (F := Ideal) X) (k0_pay10 (F := Ideal) X) (k0_pay11 (F := Ideal) X) W S)
      (k0_pay14 (F := Ideal) g) (k0_pay15 (F := Ideal) (k0_pay7 (F := Ideal) X) (k0_pay10 (F := Ideal) X) (k0_pay11 (F := Ideal) X) W S)
      (Scalar.ofBits .f32 0x44C00000#32) j
      = normOf (yOf (qScaled (mat X)) (wDec (mat W) (mat S))) 0 1536 ((1 / 1536 : ℝ) : EReal) (mat g 0) (j 0).val (j 1).val := by
  have hP := pay12_at X hX W S
  unfold k0_pay1 k0_pay15 k0_pay13 k0_pay14
  dsimp only
  rw [shapeCast_self]
  generalize k0_pay12 (F := Ideal) (k0_pay7 (F := Ideal) X) (k0_pay10 (F := Ideal) X) (k0_pay11 (F := Ideal) X) W S = P at hP ⊢
  exact normed_at (M := 15360) (N := 1536) (L := 2112) P _ hP 0 (by decide) _ g _ 1536 (by norm_num) word_1536 _ _ _ _ _ _ _ j

theorem kv_at (g : S1x512.Idx → EReal) (j : S15360x512.Idx) :
    k0_pay2 (F := Ideal) (k0_pay12 (F := Ideal) (k0_pay7 (F := Ideal) X) (k0_pay10 (F := Ideal) X) (k0_pay11 (F := Ideal) X) W S) g j
      = normOf (yOf (qScaled (mat X)) (wDec (mat W) (mat S))) 1536 512 (Ideal.ofBits .f32 0x3B000000#32) (mat g 0) (j 0).val (j 1).val := by
  have hP := pay12_at X hX W S
  unfold k0_pay2
  dsimp only
  rw [shapeCast_self, word_inv_512]
  generalize k0_pay12 (F := Ideal) (k0_pay7 (F := Ideal) X) (k0_pay10 (F := Ideal) X) (k0_pay11 (F := Ideal) X) W S = P at hP ⊢
  exact normed_at (M := 15360) (N := 512) (L := 2112) P _ hP 1536 (by decide) _ g _ 512 (by norm_num) word_512 _ _ _ _ _ _ _ j

theorem kpe_at (j : S15360x64.Idx) :
    k0_pay3 (F := Ideal) (k0_pay12 (F := Ideal) (k0_pay7 (F := Ideal) X) (k0_pay10 (F := Ideal) X) (k0_pay11 (F := Ideal) X) W S) j
      = yOf (qScaled (mat X)) (wDec (mat W) (mat S)) (j 0).val (2048 + (j 1).val) := by
  have j0 : (j 0).val < 15360 := (j 0).isLt
  have j1 : (j 1).val < 64 := (j 1).isLt
  have hP := pay12_at X hX W S
  unfold k0_pay3
  dsimp only
  generalize k0_pay12 (F := Ideal) (k0_pay7 (F := Ideal) X) (k0_pay10 (F := Ideal) X) (k0_pay11 (F := Ideal) X) W S = P at hP ⊢
  generalize yOf (qScaled (mat X)) (wDec (mat W) (mat S)) = y at hP ⊢
  refine (slice_at (M := 15360) (N := 64) (L := 2112) P 2048 (by decide) slices_S15360x2112_o0_2048_S15360x64 j).trans ?_
  show P _ = _
  rw [hP]
  show y ((j 0).val % 15360) ((2048 + (j 1).val) % 2112) = _
  rw [Nat.mod_eq_of_lt j0, Nat.mod_eq_of_lt (by omega)]

end Results

end Cert.ReferenceIdeal.Body
-- ==== Proof.ReferenceIdealValue.lean ====
/-
  The reference's result arrays after the run: its one point's blocks are whole arrays, and each result is, element by
  element, the same function of the arrays as the kernel's.
-/
module

public import proofs.«01_k».proof.Proof.KernelIdealValue
public import proofs.«01_k».proof.Proof.ReferenceIdealBody
public import proofs.«01_k».proof.Proof.Gen.ReferenceIdeal.Frame
public import proofs.«01_k».proof.Proof.Gen.ReferenceIdeal.Value

@[expose] public section

noncomputable section

namespace Cert.ReferenceIdeal.Final

open Cert.ReferenceIdeal Cert.ReferenceIdeal.Gen Cert.Proof
open Idealize.ShloMosaic Idealize.ShloMosaic.TcCoe
open Idealize.SL.Sem
open Idealize.ShloMosaic.Pipeline (Dat)

variable (m : (ℓ : Loc nD τ sig) → Buf (Elt Ideal) ℓ) (c : Dev nD)

/-! ## The arrays as the launch finds them -/

def xArr : S15360x6144.Idx → EReal := V m c main_v0
def wArr : S2112x6144.Idx → EReal := V m c main_arg1
def sArr : S2112x192.Idx → BitVec 8 := V m c main_arg2
def gqArr : S1x1536.Idx → EReal := V m c main_v1
def gkvArr : S1x512.Idx → EReal := V m c main_v2

/-! ## Every window is its whole array -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem flush5 : ∀ t : Fin cfg0.N, (cfg0.win 5).flush t = true :=
  (by decide +kernel : ∀ t : Fin grid0.N, win0_5.flush t = true)
theorem flush6 : ∀ t : Fin cfg0.N, (cfg0.win 6).flush t = true :=
  (by decide +kernel : ∀ t : Fin grid0.N, win0_6.flush t = true)
theorem flush7 : ∀ t : Fin cfg0.N, (cfg0.win 7).flush t = true :=
  (by decide +kernel : ∀ t : Fin grid0.N, win0_7.flush t = true)
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)

theorem emb0 (t : Fin cfg0.N) (y : S15360x6144.Idx) : ((cfg0.win 0).blk t).view.emb y = y := by
  obtain ⟨e0, e1⟩ := index0 t
  exact funext fun a => Fin.ext (by
    match a with
    | ⟨0, _⟩ => show win0_0.index t (0 : Fin 2) * 15360 + 1 * (y 0).val = (y 0).val; omega
    | ⟨1, _⟩ => show win0_0.index t (1 : Fin 2) * 6144 + 1 * (y 1).val = (y 1).val; omega)
theorem emb1 (t : Fin cfg0.N) (y : S2112x6144.Idx) : ((cfg0.win 1).blk t).view.emb y = y := by
  obtain ⟨e0, e1⟩ := index1 t
  exact funext fun a => Fin.ext (by
    match a with
    | ⟨0, _⟩ => show win0_1.index t (0 : Fin 2) * 2112 + 1 * (y 0).val = (y 0).val; omega
    | ⟨1, _⟩ => show win0_1.index t (1 : Fin 2) * 6144 + 1 * (y 1).val = (y 1).val; omega)
theorem emb2 (t : Fin cfg0.N) (y : S2112x192.Idx) : ((cfg0.win 2).blk t).view.emb y = y := by
  obtain ⟨e0, e1⟩ := index2 t
  exact funext fun a => Fin.ext (by
    match a with
    | ⟨0, _⟩ => show win0_2.index t (0 : Fin 2) * 2112 + 1 * (y 0).val = (y 0).val; omega
    | ⟨1, _⟩ => show win0_2.index t (1 : Fin 2) * 192 + 1 * (y 1).val = (y 1).val; omega)
theorem emb3 (t : Fin cfg0.N) (y : S1x1536.Idx) : ((cfg0.win 3).blk t).view.emb y = y := by
  obtain ⟨e0, e1⟩ := index3 t
  exact funext fun a => Fin.ext (by
    match a with
    | ⟨0, _⟩ => show win0_3.index t (0 : Fin 2) * 1 + 1 * (y 0).val = (y 0).val; omega
    | ⟨1, _⟩ => show win0_3.index t (1 : Fin 2) * 1536 + 1 * (y 1).val = (y 1).val; omega)
theorem emb4 (t : Fin cfg0.N) (y : S1x512.Idx) : ((cfg0.win 4).blk t).view.emb y = y := by
  obtain ⟨e0, e1⟩ := index4 t
  exact funext fun a => Fin.ext (by
    match a with
    | ⟨0, _⟩ => show win0_4.index t (0 : Fin 2) * 1 + 1 * (y 0).val = (y 0).val; omega
    | ⟨1, _⟩ => show win0_4.index t (1 : Fin 2) * 512 + 1 * (y 1).val = (y 1).val; omega)
theorem emb5 (t : Fin cfg0.N) (y : S15360x1536.Idx) : ((cfg0.win 5).blk t).view.emb y = y := by
  obtain ⟨e0, e1⟩ := index5 t
  exact funext fun a => Fin.ext (by
    match a with
    | ⟨0, _⟩ => show win0_5.index t (0 : Fin 2) * 15360 + 1 * (y 0).val = (y 0).val; omega
    | ⟨1, _⟩ => show win0_5.index t (1 : Fin 2) * 1536 + 1 * (y 1).val = (y 1).val; omega)
theorem emb6 (t : Fin cfg0.N) (y : S15360x512.Idx) : ((cfg0.win 6).blk t).view.emb y = y := by
  obtain ⟨e0, e1⟩ := index6 t
  exact funext fun a => Fin.ext (by
    match a with
    | ⟨0, _⟩ => show win0_6.index t (0 : Fin 2) * 15360 + 1 * (y 0).val = (y 0).val; omega
    | ⟨1, _⟩ => show win0_6.index t (1 : Fin 2) * 512 + 1 * (y 1).val = (y 1).val; omega)
theorem emb7 (t : Fin cfg0.N) (y : S15360x64.Idx) : ((cfg0.win 7).blk t).view.emb y = y := by
  obtain ⟨e0, e1⟩ := index7 t
  exact funext fun a => Fin.ext (by
    match a with
    | ⟨0, _⟩ => show win0_7.index t (0 : Fin 2) * 15360 + 1 * (y 0).val = (y 0).val; omega
    | ⟨1, _⟩ => show win0_7.index t (1 : Fin 2) * 64 + 1 * (y 1).val = (y 1).val; omega)
theorem emb8 (t : Fin cfg0.N) (y : S15360x6144.Idx) : ((cfg0.win 8).blk t).view.emb y = y := by
  obtain ⟨e0, e1⟩ := index8 t
  exact funext fun a => Fin.ext (by
    match a with
    | ⟨0, _⟩ => show win0_8.index t (0 : Fin 2) * 15360 + 1 * (y 0).val = (y 0).val; omega
    | ⟨1, _⟩ => show win0_8.index t (1 : Fin 2) * 6144 + 1 * (y 1).val = (y 1).val; omega)
theorem emb9 (t : Fin cfg0.N) (y : S15360x192.Idx) : ((cfg0.win 9).blk t).view.emb y = y := by
  obtain ⟨e0, e1⟩ := index9 t
  exact funext fun a => Fin.ext (by
    match a with
    | ⟨0, _⟩ => show win0_9.index t (0 : Fin 2) * 15360 + 1 * (y 0).val = (y 0).val; omega
    | ⟨1, _⟩ => show win0_9.index t (1 : Fin 2) * 192 + 1 * (y 1).val = (y 1).val; omega)

theorem read5 (t : Fin cfg0.N) (G : S15360x1536.Idx → EReal) (y : S15360x1536.Idx) : ((cfg0.win 5).blk t).view.read (Elt Ideal) G y = G y :=
  congrArg G (emb5 t y)
theorem read6 (t : Fin cfg0.N) (G : S15360x512.Idx → EReal) (y : S15360x512.Idx) : ((cfg0.win 6).blk t).view.read (Elt Ideal) G y = G y :=
  congrArg G (emb6 t y)
theorem read7 (t : Fin cfg0.N) (G : S15360x64.Idx → EReal) (y : S15360x64.Idx) : ((cfg0.win 7).blk t).view.read (Elt Ideal) G y = G y :=
  congrArg G (emb7 t y)
theorem read8 (t : Fin cfg0.N) (G : S15360x6144.Idx → EReal) (y : S15360x6144.Idx) : ((cfg0.win 8).blk t).view.read (Elt Ideal) G y = G y :=
  congrArg G (emb8 t y)
theorem read9 (t : Fin cfg0.N) (G : S15360x192.Idx → BitVec 8) (y : S15360x192.Idx) : ((cfg0.win 9).blk t).view.read (Elt Ideal) G y = G y :=
  congrArg G (emb9 t y)

theorem iblk0 (t : Fin cfg0.N) : (iblk m c 0 t : S15360x6144.Idx → EReal) = xArr m c := by
  funext y
  exact congrArg (xArr m c) (emb0 t y)
theorem iblk1 (t : Fin cfg0.N) : (iblk m c 1 t : S2112x6144.Idx → EReal) = wArr m c := by
  funext y
  exact congrArg (wArr m c) (emb1 t y)
theorem iblk2 (t : Fin cfg0.N) : (iblk m c 2 t : S2112x192.Idx → BitVec 8) = sArr m c := by
  funext y
  exact congrArg (sArr m c) (emb2 t y)
theorem iblk3 (t : Fin cfg0.N) : (iblk m c 3 t : S1x1536.Idx → EReal) = gqArr m c := by
  funext y
  exact congrArg (gqArr m c) (emb3 t y)
theorem iblk4 (t : Fin cfg0.N) : (iblk m c 4 t : S1x512.Idx → EReal) = gkvArr m c := by
  funext y
  exact congrArg (gkvArr m c) (emb4 t y)

/-! ## The body's stores, through whole windows -/

theorem hz : (![0, 0] : Fin 2 → Nat) = fun _ => 0 := funext fun a => by fin_cases a <;> rfl

section Stores

variable (x0 : Vec Ideal S15360x6144 .bf16) (x1 : Vec Ideal S2112x6144 .fp8e4m3) (x2 : Vec Ideal S2112x192 .i8) (x3 : Vec Ideal S1x1536 .f32)
  (x4 : Vec Ideal S1x512 .f32)

theorem ld0 : View.ld x0 r0_0 = x0 := View.ld_unit_zero hz _ _
theorem ld1 : View.ld x1 r0_2 = x1 := View.ld_unit_zero hz _ _
theorem ld2 : View.ld x2 r0_3 = x2 := View.ld_unit_zero hz _ _
theorem ld3 : View.ld x3 r0_4 = x3 := View.ld_unit_zero hz _ _
theorem ld4 : View.ld x4 r0_6 = x4 := View.ld_unit_zero hz _ _
theorem out5_eq : out0_5 (F := Ideal) x0 x1 x2 x3 x4 = k0_pay1 (F := Ideal) (k0_pay13 (F := Ideal) (k0_pay7 (F := Ideal) x0) (k0_pay10 (F := Ideal) x0) (k0_pay11 (F := Ideal) x0) x1 x2) (k0_pay14 (F := Ideal) x3)
      (k0_pay15 (F := Ideal) (k0_pay7 (F := Ideal) x0) (k0_pay10 (F := Ideal) x0) (k0_pay11 (F := Ideal) x0) x1 x2) (Scalar.ofBits .f32 0x44C00000#32) := by
  unfold out0_5 k0_pay18 k0_pay17 k0_pay16
  rw [View.canon_unit_zero hz]
  rw [ld0, ld1, ld2, ld3]
theorem out6_eq : out0_6 (F := Ideal) x0 x1 x2 x3 x4 = k0_pay2 (F := Ideal) (k0_pay12 (F := Ideal) (k0_pay7 (F := Ideal) x0) (k0_pay10 (F := Ideal) x0) (k0_pay11 (F := Ideal) x0) x1 x2) x4 := by
  unfold out0_6 k0_pay19 k0_pay18 k0_pay17 k0_pay16
  rw [View.canon_unit_zero hz]
  rw [ld0, ld1, ld2, ld4]
theorem out7_eq : out0_7 (F := Ideal) x0 x1 x2 x3 x4 = k0_pay3 (F := Ideal) (k0_pay12 (F := Ideal) (k0_pay7 (F := Ideal) x0) (k0_pay10 (F := Ideal) x0) (k0_pay11 (F := Ideal) x0) x1 x2) := by
  unfold out0_7 k0_pay19 k0_pay18 k0_pay17 k0_pay16
  rw [View.canon_unit_zero hz]
  rw [ld0, ld1, ld2]
theorem out8_eq : out0_8 (F := Ideal) x0 x1 x2 x3 x4 = k0_pay8 (F := Ideal) x0 := by
  unfold out0_8
  rw [View.canon_unit_zero hz]
  rw [ld0]
theorem out9_eq : out0_9 (F := Ideal) x0 x1 x2 x3 x4 = k0_pay9 (F := Ideal) x0 := by
  unfold out0_9
  rw [View.canon_unit_zero hz]
  rw [ld0]

end Stores

/-! ## The result arrays -/

variable (hX : Tame (mat (xArr m c)))

include hX in
theorem q_final : (dats m 0 c).arrAt 5 cfg0.N = qArr (mat (xArr m c)) (mat (wArr m c)) (mat (sArr m c)) (mat (gqArr m c) 0) ((1 / 1536 : ℝ) : EReal) :=
  (dats m 0 c).arrAt_eq_of_cover 5 _ (fun t _ => by
    rw [Value.flushed5, iblk0 m c t, iblk1 m c t, iblk2 m c t, iblk3 m c t, iblk4 m c t, out5_eq]
    funext (y : S15360x1536.Idx)
    refine Eq.trans ?_ (read5 t (qArr (mat (xArr m c)) (mat (wArr m c)) (mat (sArr m c)) (mat (gqArr m c) 0) ((1 / 1536 : ℝ) : EReal)) y).symm
    unfold qArr proj
    exact Body.q_at _ hX _ _ _ y) fun (i : S15360x1536.Idx) => by
    have h := ((cfg0.win 5).blk ⟨0, by decide⟩).view.emb_mem_set i
    have e := emb5 ⟨0, by decide⟩ i
    exact ⟨⟨0, by decide⟩, flush5 _, e ▸ h⟩

include hX in
theorem kv_final : (dats m 0 c).arrAt 6 cfg0.N = kvArr (mat (xArr m c)) (mat (wArr m c)) (mat (sArr m c)) (mat (gkvArr m c) 0) (Ideal.ofBits .f32 0x3B000000#32) :=
  (dats m 0 c).arrAt_eq_of_cover 6 _ (fun t _ => by
    rw [Value.flushed6, iblk0 m c t, iblk1 m c t, iblk2 m c t, iblk3 m c t, iblk4 m c t, out6_eq]
    funext (y : S15360x512.Idx)
    refine Eq.trans ?_ (read6 t (kvArr (mat (xArr m c)) (mat (wArr m c)) (mat (sArr m c)) (mat (gkvArr m c) 0) (Ideal.ofBits .f32 0x3B000000#32)) y).symm
    unfold kvArr proj
    exact Body.kv_at _ hX _ _ _ y) fun (i : S15360x512.Idx) => by
    have h := ((cfg0.win 6).blk ⟨0, by decide⟩).view.emb_mem_set i
    have e := emb6 ⟨0, by decide⟩ i
    exact ⟨⟨0, by decide⟩, flush6 _, e ▸ h⟩

include hX in
theorem kpe_final : (dats m 0 c).arrAt 7 cfg0.N = kpeArr (mat (xArr m c)) (mat (wArr m c)) (mat (sArr m c)) :=
  (dats m 0 c).arrAt_eq_of_cover 7 _ (fun t _ => by
    rw [Value.flushed7, iblk0 m c t, iblk1 m c t, iblk2 m c t, iblk3 m c t, iblk4 m c t, out7_eq]
    funext (y : S15360x64.Idx)
    refine Eq.trans ?_ (read7 t (kpeArr (mat (xArr m c)) (mat (wArr m c)) (mat (sArr m c))) y).symm
    unfold kpeArr proj
    exact Body.kpe_at _ hX _ _ y) fun (i : S15360x64.Idx) => by
    have h := ((cfg0.win 7).blk ⟨0, by decide⟩).view.emb_mem_set i
    have e := emb7 ⟨0, by decide⟩ i
    exact ⟨⟨0, by decide⟩, flush7 _, e ▸ h⟩

include hX in
theorem code_final : (dats m 0 c).arrAt 8 cfg0.N = codeArr (mat (xArr m c)) :=
  (dats m 0 c).arrAt_eq_of_cover 8 _ (fun t _ => by
    rw [Value.flushed8, iblk0 m c t, iblk1 m c t, iblk2 m c t, iblk3 m c t, iblk4 m c t, out8_eq]
    funext (y : S15360x6144.Idx)
    refine Eq.trans ?_ (read8 t (codeArr (mat (xArr m c))) y).symm
    unfold codeArr
    exact Body.pay8_at _ hX y) fun (i : S15360x6144.Idx) => by
    have h := ((cfg0.win 8).blk ⟨0, by decide⟩).view.emb_mem_set i
    have e := emb8 ⟨0, by decide⟩ i
    exact ⟨⟨0, by decide⟩, flush8 _, e ▸ h⟩

include hX in
theorem scale_final : (dats m 0 c).arrAt 9 cfg0.N = scaleArr (mat (xArr m c)) :=
  (dats m 0 c).arrAt_eq_of_cover 9 _ (fun t _ => by
    rw [Value.flushed9, iblk0 m c t, iblk1 m c t, iblk2 m c t, iblk3 m c t, iblk4 m c t, out9_eq]
    funext (y : S15360x192.Idx)
    refine Eq.trans ?_ (read9 t (scaleArr (mat (xArr m c))) y).symm
    unfold scaleArr
    exact Body.pay9_at _ hX y) fun (i : S15360x192.Idx) => by
    have h := ((cfg0.win 9).blk ⟨0, by decide⟩).view.emb_mem_set i
    have e := emb9 ⟨0, by decide⟩ i
    exact ⟨⟨0, by decide⟩, flush9 _, e ▸ h⟩

end Cert.ReferenceIdeal.Final
-- ==== Proof.Arguments.lean ====
/-
  The two launches' arrays from the arguments, and what the precondition says of them: no entry of the activations is
  larger than the largest finite one, so every group's scaled maximum is a real number below 2^120.
-/
module

public import proofs.«01_k».proof.Defs
public import proofs.«01_k».proof.Proof.ReferenceIdealValue
public import Idealize.ShloMosaic.Lib.Claim
public import Idealize.ShloMosaic.Lib.ReduceAll

@[expose] public section

noncomputable section

namespace Cert.Pre_pre

open Idealize.ShloMosaic

/-- The side conditions of the precondition's operations. -/
theorem facts : Facts where
  bcast_S_S5x3072x6144 := by decide
  reducesTo_S5x3072x6144_S_d0_1_2 := by decide
  h_S_ := by decide

theorem ole_at {t : Shape} (x : FVec Ideal t .bf16) (cst : Ideal .bf16) (i : t.Idx)
    (h : cmpf .ole (Host.absf x) (fun _ => cst) i = 1#1) : Cert.Proof.absE (x i) ≤ cst := by
  by_contra hn
  have : cmpf .ole (Host.absf x) (fun _ => cst) i = BitVec.ofBool (decide (Cert.Proof.absE (x i) ≤ cst)) := rfl
  rw [this, decide_eq_false hn] at h
  exact absurd h (by decide)

theorem entry_le [Facts] (x : FVec Ideal S5x3072x6144 .bf16) (w : FVec Ideal S2112x6144 .fp8e4m3) (s : IVec S2112x192 8)
    (gq : FVec Ideal S1536 .f32) (gkv : FVec Ideal S512 .f32) (h : fn (F := Ideal) x w s gq gkv = fun _ => 1#1) (i : S5x3072x6144.Idx) :
    Cert.Proof.absE (x i) ≤ Ideal.ofBits .bf16 0x7F7F#16 := by
  have h0 := congrFun h (Shape.Idx.first Facts.h_S_)
  dsimp only [fn] at h0
  haveI : Subsingleton S_.Idx := ⟨fun a b => funext fun d => d.elim0⟩
  exact ole_at x _ i (Host.reduce_andi_all _ _ _ _ _ h0 i)

end Cert.Pre_pre

namespace Cert.KernelIdeal.Launch

open Cert.KernelIdeal Cert.KernelIdeal.Gen Cert.Proof
open Idealize.ShloMosaic Idealize.ShloMosaic.TcCoe
open Idealize.SL.Sem

variable (m : (ℓ : Loc nD τ sig) → Buf (Elt Ideal) ℓ) (c : Dev nD)

theorem xArr_eq : xArr m c = shapeCast S15360x6144 (m ((c : Thread nD τ).loc main_arg0)) shapeCasts_S5x3072x6144_S15360x6144 := by
  unfold xArr; entry_read; rfl
theorem xArr_entry (j : S15360x6144.Idx) :
    ∃ i : S5x3072x6144.Idx, xArr m c j = (m ((c : Thread nD τ).loc main_arg0) : S5x3072x6144.Idx → EReal) i := by
  rw [xArr_eq]; exact ⟨_, rfl⟩
theorem wArr_eq : wArr m c = m ((c : Thread nD τ).loc main_arg1) := V_main_arg1 m c
theorem sArr_eq : sArr m c = m ((c : Thread nD τ).loc main_arg2) := V_main_arg2 m c
theorem gqArr_eq : gqArr m c = shapeCast S1x1536 (m ((c : Thread nD τ).loc main_arg3)) shapeCasts_S1536_S1x1536 := by
  unfold gqArr; entry_read; rfl
theorem gkvArr_eq : gkvArr m c = shapeCast S1x512 (m ((c : Thread nD τ).loc main_arg4)) shapeCasts_S512_S1x512 := by
  unfold gkvArr; entry_read; rfl

end Cert.KernelIdeal.Launch

namespace Cert.ReferenceIdeal.Final

open Cert.ReferenceIdeal Cert.ReferenceIdeal.Gen Cert.Proof
open Idealize.ShloMosaic Idealize.ShloMosaic.TcCoe
open Idealize.SL.Sem

variable (m : (ℓ : Loc nD τ sig) → Buf (Elt Ideal) ℓ) (c : Dev nD)

theorem xArr_eq : xArr m c = shapeCast S15360x6144 (m ((c : Thread nD τ).loc main_arg0)) shapeCasts_S5x3072x6144_S15360x6144 := by
  unfold xArr; entry_read; rfl
theorem wArr_eq : wArr m c = m ((c : Thread nD τ).loc main_arg1) := V_main_arg1 m c
theorem sArr_eq : sArr m c = m ((c : Thread nD τ).loc main_arg2) := V_main_arg2 m c
theorem gqArr_eq : gqArr m c = shapeCast S1x1536 (m ((c : Thread nD τ).loc main_arg3)) shapeCasts_S1536_S1x1536 := by
  unfold gqArr; entry_read; rfl
theorem gkvArr_eq : gkvArr m c = shapeCast S1x512 (m ((c : Thread nD τ).loc main_arg4)) shapeCasts_S512_S1x512 := by
  unfold gkvArr; entry_read; rfl

end Cert.ReferenceIdeal.Final

namespace Cert.Proof

open Idealize.ShloMosaic Idealize.SL.Sem

/-- Under the precondition every group of the kernel's activations is tame. -/
theorem tame (m : (ℓ : Loc Cert.KernelIdeal.nD Cert.KernelIdeal.τ Cert.KernelIdeal.sig) → Buf (Elt Ideal) ℓ) (c : Dev Cert.KernelIdeal.nD)
    (h : Cert.Pre_KernelIdeal_pre (hPre_pre := Cert.Pre_pre.facts) m) : Tame (mat (Cert.KernelIdeal.Launch.xArr m c)) := by
  refine tame_of_le _ fun a b => ?_
  unfold mat
  obtain ⟨i, hi⟩ := Cert.KernelIdeal.Launch.xArr_entry m c (ix a b)
  exact (congrArg absE hi).trans_le (@Cert.Pre_pre.entry_le Cert.Pre_pre.facts _ _ _ _ _ (h c) i)

end Cert.Proof
-- ==== Proof.lean ====
/-
  The claims of this certificate: the kernel runs and leaves its arguments (as printed and idealised), the reference runs
  and leaves its arguments, the idealised kernel is the printed one with one named constant, and the idealised kernel and
  the reference end with the same five results on activations no larger than the largest finite ones.
-/
module

public import proofs.«01_k».proof.Defs
public import proofs.«01_k».proof.Proof.KernelLaunch
public import proofs.«01_k».proof.Proof.KernelIdealLaunch
public import proofs.«01_k».proof.Proof.Arguments
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem quiescent_Kernel : Cert.quiescent_Kernel (hKernel := Cert.Kernel.Gen.facts) := fun m g _ =>
  (θ_run _ _ _).mono (fun _ h => ⟨fun c => Cert.Kernel.Launch.args_of h.1 c, h.2⟩) (Cert.Kernel.Launch.run_main (F := Bits) m g)

theorem quiescent_KernelIdeal : Cert.quiescent_KernelIdeal (hKernelIdeal := Cert.KernelIdeal.Gen.facts) := fun m g _ =>
  (θ_run _ _ _).mono (fun _ h => ⟨fun c => Cert.KernelIdeal.Launch.args_of h.1 c, h.2⟩) (Cert.KernelIdeal.Launch.run_main (F := Ideal) m g)

theorem quiescent_ReferenceIdeal : Cert.quiescent_ReferenceIdeal (hReferenceIdeal := Cert.ReferenceIdeal.Gen.facts) := fun m g _ =>
  Cert.ReferenceIdeal.Gen.frame (F := Ideal) m g

theorem preserves : Cert.preserves_Kernel_KernelIdeal := IdealRules.named_const.statement _ _ _ _ _ rfl

theorem quiescent_KernelIdeal_pre :
    Cert.quiescent_KernelIdeal_pre_pre (hKernelIdeal := Cert.KernelIdeal.Gen.facts) (hPre_pre := Cert.Pre_pre.facts) := fun m g _ =>
  quiescent_KernelIdeal m g trivial

theorem quiescent_ReferenceIdeal_pre :
    Cert.quiescent_ReferenceIdeal_pre_pre (hReferenceIdeal := Cert.ReferenceIdeal.Gen.facts) (hPre_pre := Cert.Pre_pre.facts) := fun m g _ =>
  quiescent_ReferenceIdeal m g trivial

section Equal

open Cert.KernelIdeal.Launch in
theorem algebraic : Cert.algebraic_KernelIdeal_ReferenceIdeal_pre_pre (hKernelIdeal := Cert.KernelIdeal.Gen.facts)
    (hReferenceIdeal := Cert.ReferenceIdeal.Gen.facts) (hPre_pre := Cert.Pre_pre.facts) := by
  intro m g m' g' hpre hargs
  have ex : ∀ c, Cert.ReferenceIdeal.Final.xArr m' c = xArr m c := fun c => by
    rw [Cert.ReferenceIdeal.Final.xArr_eq, xArr_eq, (hargs c).1]
  have ew : ∀ c, Cert.ReferenceIdeal.Final.wArr m' c = wArr m c := fun c => by
    rw [Cert.ReferenceIdeal.Final.wArr_eq, wArr_eq, (hargs c).2.1]
  have es : ∀ c, Cert.ReferenceIdeal.Final.sArr m' c = sArr m c := fun c => by
    rw [Cert.ReferenceIdeal.Final.sArr_eq, sArr_eq, (hargs c).2.2.1]
  have eq : ∀ c, Cert.ReferenceIdeal.Final.gqArr m' c = gqArr m c := fun c => by
    rw [Cert.ReferenceIdeal.Final.gqArr_eq, gqArr_eq, (hargs c).2.2.2.1]
  have ekv : ∀ c, Cert.ReferenceIdeal.Final.gkvArr m' c = gkvArr m c := fun c => by
    rw [Cert.ReferenceIdeal.Final.gkvArr_eq, gkvArr_eq, (hargs c).2.2.2.2]
  have hX : ∀ c, Tame (mat (Cert.ReferenceIdeal.Final.xArr m' c)) := fun c => by rw [ex]; exact tame m c hpre
  refine ⟨fun c => qArr (mat (xArr m c)) (mat (wArr m c)) (mat (sArr m c)) (mat (gqArr m c) 0) (invRank (F := Ideal)),
    fun c => kvArr (mat (xArr m c)) (mat (wArr m c)) (mat (sArr m c)) (mat (gkvArr m c) 0) (Ideal.ofBits .f32 0x3B000000#32),
    fun c => kpeArr (mat (xArr m c)) (mat (wArr m c)) (mat (sArr m c)), fun c => codeArr (mat (xArr m c)), fun c => scaleArr (mat (xArr m c)), ?_, ?_⟩
  · refine (θ_run _ _ _).mono (fun r h c => ?_) (run_main (F := Ideal) m g)
    exact ⟨((h.1 c).1 4).trans (q_final m c), ((h.1 c).1 5).trans (kv_final m c), ((h.1 c).1 6).trans (kpe_final m c),
      ((h.1 c).1 7).trans (code_final m c), ((h.1 c).1 8).trans (scale_final m c), args_of h.1 c⟩
  · refine (θ_run _ _ _).mono (fun r h c => ?_) (Cert.ReferenceIdeal.Value.run_blocks (F := Ideal) m' g')
    obtain ⟨h0, h1, h2, h3, h4, ha⟩ := h c
    refine ⟨h0.trans ?_, h1.trans ?_, h2.trans ?_, h3.trans ?_, h4.trans ?_, ha⟩
    · rw [Cert.ReferenceIdeal.Final.q_final m' c (hX c), ex, ew, es, eq, invRank_eq]
    · rw [Cert.ReferenceIdeal.Final.kv_final m' c (hX c), ex, ew, es, ekv]
    · rw [Cert.ReferenceIdeal.Final.kpe_final m' c (hX c), ex, ew, es]
    · rw [Cert.ReferenceIdeal.Final.code_final m' c (hX c), ex]
    · rw [Cert.ReferenceIdeal.Final.scale_final m' c (hX c), ex]

end Equal

theorem claim : Cert.Claim := ⟨Cert.Kernel.Gen.facts, Cert.KernelIdeal.Gen.facts, Cert.ReferenceIdeal.Gen.facts, Cert.Pre_pre.facts,
  quiescent_Kernel, quiescent_KernelIdeal, quiescent_KernelIdeal_pre, quiescent_ReferenceIdeal, quiescent_ReferenceIdeal_pre,
  preserves, algebraic⟩

end Cert.Proof

end
